-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_RefBrDxIdeal (m : (ℓ : Loc Cert.RefBrDxIdeal.nD Cert.RefBrDxIdeal.τ Cert.RefBrDxIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_RefBrDwIdeal (m : (ℓ : Loc Cert.RefBrDwIdeal.nD Cert.RefBrDwIdeal.τ Cert.RefBrDwIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_RefGluDxIdeal (m : (ℓ : Loc Cert.RefGluDxIdeal.nD Cert.RefGluDxIdeal.τ Cert.RefGluDxIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_RefGluDwIdeal (m : (ℓ : Loc Cert.RefGluDwIdeal.nD Cert.RefGluDwIdeal.τ Cert.RefGluDwIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_RefNormMidIdeal (m : (ℓ : Loc Cert.RefNormMidIdeal.nD Cert.RefNormMidIdeal.τ Cert.RefNormMidIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_RefMidIdeal (m : (ℓ : Loc Cert.RefMidIdeal.nD Cert.RefMidIdeal.τ Cert.RefMidIdeal.sig) → Buf (Elt Ideal) ℓ) : Prop :=
  True

def Pre_NormPre (m : (ℓ : Loc Cert.NormPre.nD Cert.NormPre.τ Cert.NormPre.sig) → Buf (Elt Bits) ℓ) : Prop :=
  True

def Pre_NormPreIdeal (m : (ℓ : Loc Cert.NormPreIdeal.nD Cert.NormPreIdeal.τ Cert.NormPreIdeal.sig) → Buf (Elt Ideal) ℓ) : Prop :=
  True

def Pre_RefNormPreIdeal (m : (ℓ : Loc Cert.RefNormPreIdeal.nD Cert.RefNormPreIdeal.τ Cert.RefNormPreIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_MidUp (m : (ℓ : Loc Cert.MidUp.nD Cert.MidUp.τ Cert.MidUp.sig) → Buf (Elt Bits) ℓ) : Prop :=
  True

def Pre_MidUpIdeal (m : (ℓ : Loc Cert.MidUpIdeal.nD Cert.MidUpIdeal.τ Cert.MidUpIdeal.sig) → Buf (Elt Ideal) ℓ) : Prop :=
  True

def Pre_RefMidUpIdeal (m : (ℓ : Loc Cert.RefMidUpIdeal.nD Cert.RefMidUpIdeal.τ Cert.RefMidUpIdeal.sig) → Buf (Elt Ideal) ℓ) : Prop :=
  True

def Pre_GluUp (m : (ℓ : Loc Cert.GluUp.nD Cert.GluUp.τ Cert.GluUp.sig) → Buf (Elt Bits) ℓ) : Prop :=
  True

def Pre_GluUpIdeal (m : (ℓ : Loc Cert.GluUpIdeal.nD Cert.GluUpIdeal.τ Cert.GluUpIdeal.sig) → Buf (Elt Ideal) ℓ) : Prop :=
  True

def Pre_RefGluUpIdeal (m : (ℓ : Loc Cert.RefGluUpIdeal.nD Cert.RefGluUpIdeal.τ Cert.RefGluUpIdeal.sig) → Buf (Elt Ideal) ℓ) : Prop :=
  True

def Pre_MergeUp (m : (ℓ : Loc Cert.MergeUp.nD Cert.MergeUp.τ Cert.MergeUp.sig) → Buf (Elt Bits) ℓ) : Prop :=
  True

def Pre_MergeUpIdeal (m : (ℓ : Loc Cert.MergeUpIdeal.nD Cert.MergeUpIdeal.τ Cert.MergeUpIdeal.sig) → Buf (Elt Ideal) ℓ) : Prop :=
  True

def Pre_RefMergeUpIdeal (m : (ℓ : Loc Cert.RefMergeUpIdeal.nD Cert.RefMergeUpIdeal.τ Cert.RefMergeUpIdeal.sig) → Buf (Elt Ideal) ℓ) : Prop :=
  True

def Pre_ResidUp (m : (ℓ : Loc Cert.ResidUp.nD Cert.ResidUp.τ Cert.ResidUp.sig) → Buf (Elt Bits) ℓ) : Prop :=
  True

def Pre_ResidUpIdeal (m : (ℓ : Loc Cert.ResidUpIdeal.nD Cert.ResidUpIdeal.τ Cert.ResidUpIdeal.sig) → Buf (Elt Ideal) ℓ) : Prop :=
  True

def Pre_RefResidUpIdeal (m : (ℓ : Loc Cert.RefResidUpIdeal.nD Cert.RefResidUpIdeal.τ Cert.RefResidUpIdeal.sig) → Buf (Elt Ideal) ℓ) : Prop :=
  True

def Pre_ConvAct (m : (ℓ : Loc Cert.ConvAct.nD Cert.ConvAct.τ Cert.ConvAct.sig) → Buf (Elt Bits) ℓ) : Prop :=
  True

def Pre_ConvActIdeal (m : (ℓ : Loc Cert.ConvActIdeal.nD Cert.ConvActIdeal.τ Cert.ConvActIdeal.sig) → Buf (Elt Ideal) ℓ) : Prop :=
  True

def Pre_RefConvActIdeal (m : (ℓ : Loc Cert.RefConvActIdeal.nD Cert.RefConvActIdeal.τ Cert.RefConvActIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_RefAdamwIdeal (m : (ℓ : Loc Cert.RefAdamwIdeal.nD Cert.RefAdamwIdeal.τ Cert.RefAdamwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ r.2.sem = fun _ => 0)

def quiescent_RefBrDxIdeal [hRefBrDxIdeal : Cert.RefBrDxIdeal.Facts] : Prop :=
  ∀ (m : (ℓ : Loc Cert.RefBrDxIdeal.nD Cert.RefBrDxIdeal.τ Cert.RefBrDxIdeal.sig) → Buf (Elt Ideal) ℓ) (g : Dev Cert.RefBrDxIdeal.nD → PrngReg), Pre_RefBrDxIdeal m →
    θ_run (Cert.RefBrDxIdeal.defs (F := Ideal)) (onTc (τ := Cert.RefBrDxIdeal.τ) (Cert.RefBrDxIdeal.main (F := Ideal))) ⟨m, fun _ => 0, g⟩ (fun r => (∀ c : Dev Cert.RefBrDxIdeal.nD,
      r.2.mem ((c.tc : Thread Cert.RefBrDxIdeal.nD Cert.RefBrDxIdeal.τ).loc Cert.RefBrDxIdeal.main_arg0) = m ((c.tc : Thread Cert.RefBrDxIdeal.nD Cert.RefBrDxIdeal.τ).loc Cert.RefBrDxIdeal.main_arg0)
      ∧ r.2.mem ((c.tc : Thread Cert.RefBrDxIdeal.nD Cert.RefBrDxIdeal.τ).loc Cert.RefBrDxIdeal.main_arg1) = m ((c.tc : Thread Cert.RefBrDxIdeal.nD Cert.RefBrDxIdeal.τ).loc Cert.RefBrDxIdeal.main_arg1))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_RefBrDwIdeal [hRefBrDwIdeal : Cert.RefBrDwIdeal.Facts] : Prop :=
  ∀ (m : (ℓ : Loc Cert.RefBrDwIdeal.nD Cert.RefBrDwIdeal.τ Cert.RefBrDwIdeal.sig) → Buf (Elt Ideal) ℓ) (g : Dev Cert.RefBrDwIdeal.nD → PrngReg), Pre_RefBrDwIdeal m →
    θ_run (Cert.RefBrDwIdeal.defs (F := Ideal)) (onTc (τ := Cert.RefBrDwIdeal.τ) (Cert.RefBrDwIdeal.main (F := Ideal))) ⟨m, fun _ => 0, g⟩ (fun r => (∀ c : Dev Cert.RefBrDwIdeal.nD,
      r.2.mem ((c.tc : Thread Cert.RefBrDwIdeal.nD Cert.RefBrDwIdeal.τ).loc Cert.RefBrDwIdeal.main_arg0) = m ((c.tc : Thread Cert.RefBrDwIdeal.nD Cert.RefBrDwIdeal.τ).loc Cert.RefBrDwIdeal.main_arg0)
      ∧ r.2.mem ((c.tc : Thread Cert.RefBrDwIdeal.nD Cert.RefBrDwIdeal.τ).loc Cert.RefBrDwIdeal.main_arg1) = m ((c.tc : Thread Cert.RefBrDwIdeal.nD Cert.RefBrDwIdeal.τ).loc Cert.RefBrDwIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_RefGluDxIdeal [hRefGluDxIdeal : Cert.RefGluDxIdeal.Facts] : Prop :=
  ∀ (m : (ℓ : Loc Cert.RefGluDxIdeal.nD Cert.RefGluDxIdeal.τ Cert.RefGluDxIdeal.sig) → Buf (Elt Ideal) ℓ) (g : Dev Cert.RefGluDxIdeal.nD → PrngReg), Pre_RefGluDxIdeal m →
    θ_run (Cert.RefGluDxIdeal.defs (F := Ideal)) (onTc (τ := Cert.RefGluDxIdeal.τ) (Cert.RefGluDxIdeal.main (F := Ideal))) ⟨m, fun _ => 0, g⟩ (fun r => (∀ c : Dev Cert.RefGluDxIdeal.nD,
      r.2.mem ((c.tc : Thread Cert.RefGluDxIdeal.nD Cert.RefGluDxIdeal.τ).loc Cert.RefGluDxIdeal.main_arg0) = m ((c.tc : Thread Cert.RefGluDxIdeal.nD Cert.RefGluDxIdeal.τ).loc Cert.RefGluDxIdeal.main_arg0)
      ∧ r.2.mem ((c.tc : Thread Cert.RefGluDxIdeal.nD Cert.RefGluDxIdeal.τ).loc Cert.RefGluDxIdeal.main_arg1) = m ((c.tc : Thread Cert.RefGluDxIdeal.nD Cert.RefGluDxIdeal.τ).loc Cert.RefGluDxIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_RefGluDwIdeal [hRefGluDwIdeal : Cert.RefGluDwIdeal.Facts] : Prop :=
  ∀ (m : (ℓ : Loc Cert.RefGluDwIdeal.nD Cert.RefGluDwIdeal.τ Cert.RefGluDwIdeal.sig) → Buf (Elt Ideal) ℓ) (g : Dev Cert.RefGluDwIdeal.nD → PrngReg), Pre_RefGluDwIdeal m →
    θ_run (Cert.RefGluDwIdeal.defs (F := Ideal)) (onTc (τ := Cert.RefGluDwIdeal.τ) (Cert.RefGluDwIdeal.main (F := Ideal))) ⟨m, fun _ => 0, g⟩ (fun r => (∀ c : Dev Cert.RefGluDwIdeal.nD,
      r.2.mem ((c.tc : Thread Cert.RefGluDwIdeal.nD Cert.RefGluDwIdeal.τ).loc Cert.RefGluDwIdeal.main_arg0) = m ((c.tc : Thread Cert.RefGluDwIdeal.nD Cert.RefGluDwIdeal.τ).loc Cert.RefGluDwIdeal.main_arg0)
      ∧ r.2.mem ((c.tc : Thread Cert.RefGluDwIdeal.nD Cert.RefGluDwIdeal.τ).loc Cert.RefGluDwIdeal.main_arg1) = m ((c.tc : Thread Cert.RefGluDwIdeal.nD Cert.RefGluDwIdeal.τ).loc Cert.RefGluDwIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3)
      ∧ r.2.mem ((c.tc : Thread Cert.NormMid.nD Cert.NormMid.τ).loc Cert.NormMid.main_arg4) = m ((c.tc : Thread Cert.NormMid.nD Cert.NormMid.τ).loc Cert.NormMid.main_arg4)
      ∧ r.2.mem ((c.tc : Thread Cert.NormMid.nD Cert.NormMid.τ).loc Cert.NormMid.main_arg5) = m ((c.tc : Thread Cert.NormMid.nD Cert.NormMid.τ).loc Cert.NormMid.main_arg5))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
      ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
      ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ r.2.sem = fun _ => 0)

def quiescent_RefNormMidIdeal [hRefNormMidIdeal : Cert.RefNormMidIdeal.Facts] : Prop :=
  ∀ (m : (ℓ : Loc Cert.RefNormMidIdeal.nD Cert.RefNormMidIdeal.τ Cert.RefNormMidIdeal.sig) → Buf (Elt Ideal) ℓ) (g : Dev Cert.RefNormMidIdeal.nD → PrngReg), Pre_RefNormMidIdeal m →
    θ_run (Cert.RefNormMidIdeal.defs (F := Ideal)) (onTc (τ := Cert.RefNormMidIdeal.τ) (Cert.RefNormMidIdeal.main (F := Ideal))) ⟨m, fun _ => 0, g⟩ (fun r => (∀ c : Dev Cert.RefNormMidIdeal.nD,
      r.2.mem ((c.tc : Thread Cert.RefNormMidIdeal.nD Cert.RefNormMidIdeal.τ).loc Cert.RefNormMidIdeal.main_arg0) = m ((c.tc : Thread Cert.RefNormMidIdeal.nD Cert.RefNormMidIdeal.τ).loc Cert.RefNormMidIdeal.main_arg0)
      ∧ r.2.mem ((c.tc : Thread Cert.RefNormMidIdeal.nD Cert.RefNormMidIdeal.τ).loc Cert.RefNormMidIdeal.main_arg1) = m ((c.tc : Thread Cert.RefNormMidIdeal.nD Cert.RefNormMidIdeal.τ).loc Cert.RefNormMidIdeal.main_arg1)
      ∧ r.2.mem ((c.tc : Thread Cert.RefNormMidIdeal.nD Cert.RefNormMidIdeal.τ).loc Cert.RefNormMidIdeal.main_arg2) = m ((c.tc : Thread Cert.RefNormMidIdeal.nD Cert.RefNormMidIdeal.τ).loc Cert.RefNormMidIdeal.main_arg2)
      ∧ r.2.mem ((c.tc : Thread Cert.RefNormMidIdeal.nD Cert.RefNormMidIdeal.τ).loc Cert.RefNormMidIdeal.main_arg3) = m ((c.tc : Thread Cert.RefNormMidIdeal.nD Cert.RefNormMidIdeal.τ).loc Cert.RefNormMidIdeal.main_arg3)
      ∧ r.2.mem ((c.tc : Thread Cert.RefNormMidIdeal.nD Cert.RefNormMidIdeal.τ).loc Cert.RefNormMidIdeal.main_arg4) = m ((c.tc : Thread Cert.RefNormMidIdeal.nD Cert.RefNormMidIdeal.τ).loc Cert.RefNormMidIdeal.main_arg4)
      ∧ r.2.mem ((c.tc : Thread Cert.RefNormMidIdeal.nD Cert.RefNormMidIdeal.τ).loc Cert.RefNormMidIdeal.main_arg5) = m ((c.tc : Thread Cert.RefNormMidIdeal.nD Cert.RefNormMidIdeal.τ).loc Cert.RefNormMidIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2)
      ∧ r.2.mem ((c.tc : Thread Cert.RefGluIdeal.nD Cert.RefGluIdeal.τ).loc Cert.RefGluIdeal.main_arg3) = m ((c.tc : Thread Cert.RefGluIdeal.nD Cert.RefGluIdeal.τ).loc Cert.RefGluIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_RefMidIdeal [hRefMidIdeal : Cert.RefMidIdeal.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4))
      ∧ r.2.sem = fun _ => 0)

def quiescent_NormPre [hNormPre : Cert.NormPre.Facts] : Prop :=
  ∀ (m : (ℓ : Loc Cert.NormPre.nD Cert.NormPre.τ Cert.NormPre.sig) → Buf (Elt Bits) ℓ) (g : Dev Cert.NormPre.nD → PrngReg), Pre_NormPre m →
    θ_run (Cert.NormPre.defs (F := Bits)) (onTc (τ := Cert.NormPre.τ) (Cert.NormPre.main (F := Bits))) ⟨m, fun _ => 0, g⟩ (fun r => (∀ c : Dev Cert.NormPre.nD,
      r.2.mem ((c.tc : Thread Cert.NormPre.nD Cert.NormPre.τ).loc Cert.NormPre.main_arg0) = m ((c.tc : Thread Cert.NormPre.nD Cert.NormPre.τ).loc Cert.NormPre.main_arg0)
      ∧ r.2.mem ((c.tc : Thread Cert.NormPre.nD Cert.NormPre.τ).loc Cert.NormPre.main_arg1) = m ((c.tc : Thread Cert.NormPre.nD Cert.NormPre.τ).loc Cert.NormPre.main_arg1)
      ∧ r.2.mem ((c.tc : Thread Cert.NormPre.nD Cert.NormPre.τ).loc Cert.NormPre.main_arg2) = m ((c.tc : Thread Cert.NormPre.nD Cert.NormPre.τ).loc Cert.NormPre.main_arg2)
      ∧ r.2.mem ((c.tc : Thread Cert.NormPre.nD Cert.NormPre.τ).loc Cert.NormPre.main_arg3) = m ((c.tc : Thread Cert.NormPre.nD Cert.NormPre.τ).loc Cert.NormPre.main_arg3))
      ∧ r.2.sem = fun _ => 0)

def quiescent_NormPreIdeal [hNormPreIdeal : Cert.NormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg), Pre_NormPreIdeal m →
    θ_run (Cert.NormPreIdeal.defs (F := Ideal)) (onTc (τ := Cert.NormPreIdeal.τ) (Cert.NormPreIdeal.main (F := Ideal))) ⟨m, fun _ => 0, g⟩ (fun r => (∀ c : Dev Cert.NormPreIdeal.nD,
      r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
      ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
      ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
      ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ r.2.sem = fun _ => 0)

def quiescent_RefNormPreIdeal [hRefNormPreIdeal : Cert.RefNormPreIdeal.Facts] : Prop :=
  ∀ (m : (ℓ : Loc Cert.RefNormPreIdeal.nD Cert.RefNormPreIdeal.τ Cert.RefNormPreIdeal.sig) → Buf (Elt Ideal) ℓ) (g : Dev Cert.RefNormPreIdeal.nD → PrngReg), Pre_RefNormPreIdeal m →
    θ_run (Cert.RefNormPreIdeal.defs (F := Ideal)) (onTc (τ := Cert.RefNormPreIdeal.τ) (Cert.RefNormPreIdeal.main (F := Ideal))) ⟨m, fun _ => 0, g⟩ (fun r => (∀ c : Dev Cert.RefNormPreIdeal.nD,
      r.2.mem ((c.tc : Thread Cert.RefNormPreIdeal.nD Cert.RefNormPreIdeal.τ).loc Cert.RefNormPreIdeal.main_arg0) = m ((c.tc : Thread Cert.RefNormPreIdeal.nD Cert.RefNormPreIdeal.τ).loc Cert.RefNormPreIdeal.main_arg0)
      ∧ r.2.mem ((c.tc : Thread Cert.RefNormPreIdeal.nD Cert.RefNormPreIdeal.τ).loc Cert.RefNormPreIdeal.main_arg1) = m ((c.tc : Thread Cert.RefNormPreIdeal.nD Cert.RefNormPreIdeal.τ).loc Cert.RefNormPreIdeal.main_arg1)
      ∧ r.2.mem ((c.tc : Thread Cert.RefNormPreIdeal.nD Cert.RefNormPreIdeal.τ).loc Cert.RefNormPreIdeal.main_arg2) = m ((c.tc : Thread Cert.RefNormPreIdeal.nD Cert.RefNormPreIdeal.τ).loc Cert.RefNormPreIdeal.main_arg2)
      ∧ r.2.mem ((c.tc : Thread Cert.RefNormPreIdeal.nD Cert.RefNormPreIdeal.τ).loc Cert.RefNormPreIdeal.main_arg3) = m ((c.tc : Thread Cert.RefNormPreIdeal.nD Cert.RefNormPreIdeal.τ).loc Cert.RefNormPreIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2)
      ∧ r.2.mem ((c.tc : Thread Cert.RefLossIdeal.nD Cert.RefLossIdeal.τ).loc Cert.RefLossIdeal.main_arg3) = m ((c.tc : Thread Cert.RefLossIdeal.nD Cert.RefLossIdeal.τ).loc Cert.RefLossIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2))
      ∧ r.2.sem = fun _ => 0)

def quiescent_MidUp [hMidUp : Cert.MidUp.Facts] : Prop :=
  ∀ (m : (ℓ : Loc Cert.MidUp.nD Cert.MidUp.τ Cert.MidUp.sig) → Buf (Elt Bits) ℓ) (g : Dev Cert.MidUp.nD → PrngReg), Pre_MidUp m →
    θ_run (Cert.MidUp.defs (F := Bits)) (onTc (τ := Cert.MidUp.τ) (Cert.MidUp.main (F := Bits))) ⟨m, fun _ => 0, g⟩ (fun r => (∀ c : Dev Cert.MidUp.nD,
      r.2.mem ((c.tc : Thread Cert.MidUp.nD Cert.MidUp.τ).loc Cert.MidUp.main_arg0) = m ((c.tc : Thread Cert.MidUp.nD Cert.MidUp.τ).loc Cert.MidUp.main_arg0)
      ∧ r.2.mem ((c.tc : Thread Cert.MidUp.nD Cert.MidUp.τ).loc Cert.MidUp.main_arg1) = m ((c.tc : Thread Cert.MidUp.nD Cert.MidUp.τ).loc Cert.MidUp.main_arg1)
      ∧ r.2.mem ((c.tc : Thread Cert.MidUp.nD Cert.MidUp.τ).loc Cert.MidUp.main_arg2) = m ((c.tc : Thread Cert.MidUp.nD Cert.MidUp.τ).loc Cert.MidUp.main_arg2)
      ∧ r.2.mem ((c.tc : Thread Cert.MidUp.nD Cert.MidUp.τ).loc Cert.MidUp.main_arg3) = m ((c.tc : Thread Cert.MidUp.nD Cert.MidUp.τ).loc Cert.MidUp.main_arg3))
      ∧ r.2.sem = fun _ => 0)

def quiescent_MidUpIdeal [hMidUpIdeal : Cert.MidUpIdeal.Facts] : Prop :=
  ∀ (m : (ℓ : Loc Cert.MidUpIdeal.nD Cert.MidUpIdeal.τ Cert.MidUpIdeal.sig) → Buf (Elt Ideal) ℓ) (g : Dev Cert.MidUpIdeal.nD → PrngReg), Pre_MidUpIdeal m →
    θ_run (Cert.MidUpIdeal.defs (F := Ideal)) (onTc (τ := Cert.MidUpIdeal.τ) (Cert.MidUpIdeal.main (F := Ideal))) ⟨m, fun _ => 0, g⟩ (fun r => (∀ c : Dev Cert.MidUpIdeal.nD,
      r.2.mem ((c.tc : Thread Cert.MidUpIdeal.nD Cert.MidUpIdeal.τ).loc Cert.MidUpIdeal.main_arg0) = m ((c.tc : Thread Cert.MidUpIdeal.nD Cert.MidUpIdeal.τ).loc Cert.MidUpIdeal.main_arg0)
      ∧ r.2.mem ((c.tc : Thread Cert.MidUpIdeal.nD Cert.MidUpIdeal.τ).loc Cert.MidUpIdeal.main_arg1) = m ((c.tc : Thread Cert.MidUpIdeal.nD Cert.MidUpIdeal.τ).loc Cert.MidUpIdeal.main_arg1)
      ∧ r.2.mem ((c.tc : Thread Cert.MidUpIdeal.nD Cert.MidUpIdeal.τ).loc Cert.MidUpIdeal.main_arg2) = m ((c.tc : Thread Cert.MidUpIdeal.nD Cert.MidUpIdeal.τ).loc Cert.MidUpIdeal.main_arg2)
      ∧ r.2.mem ((c.tc : Thread Cert.MidUpIdeal.nD Cert.MidUpIdeal.τ).loc Cert.MidUpIdeal.main_arg3) = m ((c.tc : Thread Cert.MidUpIdeal.nD Cert.MidUpIdeal.τ).loc Cert.MidUpIdeal.main_arg3))
      ∧ r.2.sem = fun _ => 0)

def quiescent_RefMidUpIdeal [hRefMidUpIdeal : Cert.RefMidUpIdeal.Facts] : Prop :=
  ∀ (m : (ℓ : Loc Cert.RefMidUpIdeal.nD Cert.RefMidUpIdeal.τ Cert.RefMidUpIdeal.sig) → Buf (Elt Ideal) ℓ) (g : Dev Cert.RefMidUpIdeal.nD → PrngReg), Pre_RefMidUpIdeal m →
    θ_run (Cert.RefMidUpIdeal.defs (F := Ideal)) (onTc (τ := Cert.RefMidUpIdeal.τ) (Cert.RefMidUpIdeal.main (F := Ideal))) ⟨m, fun _ => 0, g⟩ (fun r => (∀ c : Dev Cert.RefMidUpIdeal.nD,
      r.2.mem ((c.tc : Thread Cert.RefMidUpIdeal.nD Cert.RefMidUpIdeal.τ).loc Cert.RefMidUpIdeal.main_arg0) = m ((c.tc : Thread Cert.RefMidUpIdeal.nD Cert.RefMidUpIdeal.τ).loc Cert.RefMidUpIdeal.main_arg0)
      ∧ r.2.mem ((c.tc : Thread Cert.RefMidUpIdeal.nD Cert.RefMidUpIdeal.τ).loc Cert.RefMidUpIdeal.main_arg1) = m ((c.tc : Thread Cert.RefMidUpIdeal.nD Cert.RefMidUpIdeal.τ).loc Cert.RefMidUpIdeal.main_arg1)
      ∧ r.2.mem ((c.tc : Thread Cert.RefMidUpIdeal.nD Cert.RefMidUpIdeal.τ).loc Cert.RefMidUpIdeal.main_arg2) = m ((c.tc : Thread Cert.RefMidUpIdeal.nD Cert.RefMidUpIdeal.τ).loc Cert.RefMidUpIdeal.main_arg2)
      ∧ r.2.mem ((c.tc : Thread Cert.RefMidUpIdeal.nD Cert.RefMidUpIdeal.τ).loc Cert.RefMidUpIdeal.main_arg3) = m ((c.tc : Thread Cert.RefMidUpIdeal.nD Cert.RefMidUpIdeal.τ).loc Cert.RefMidUpIdeal.main_arg3))
      ∧ r.2.sem = fun _ => 0)

def quiescent_GluUp [hGluUp : Cert.GluUp.Facts] : Prop :=
  ∀ (m : (ℓ : Loc Cert.GluUp.nD Cert.GluUp.τ Cert.GluUp.sig) → Buf (Elt Bits) ℓ) (g : Dev Cert.GluUp.nD → PrngReg), Pre_GluUp m →
    θ_run (Cert.GluUp.defs (F := Bits)) (onTc (τ := Cert.GluUp.τ) (Cert.GluUp.main (F := Bits))) ⟨m, fun _ => 0, g⟩ (fun r => (∀ c : Dev Cert.GluUp.nD,
      r.2.mem ((c.tc : Thread Cert.GluUp.nD Cert.GluUp.τ).loc Cert.GluUp.main_arg0) = m ((c.tc : Thread Cert.GluUp.nD Cert.GluUp.τ).loc Cert.GluUp.main_arg0)
      ∧ r.2.mem ((c.tc : Thread Cert.GluUp.nD Cert.GluUp.τ).loc Cert.GluUp.main_arg1) = m ((c.tc : Thread Cert.GluUp.nD Cert.GluUp.τ).loc Cert.GluUp.main_arg1)
      ∧ r.2.mem ((c.tc : Thread Cert.GluUp.nD Cert.GluUp.τ).loc Cert.GluUp.main_arg2) = m ((c.tc : Thread Cert.GluUp.nD Cert.GluUp.τ).loc Cert.GluUp.main_arg2)
      ∧ r.2.mem ((c.tc : Thread Cert.GluUp.nD Cert.GluUp.τ).loc Cert.GluUp.main_arg3) = m ((c.tc : Thread Cert.GluUp.nD Cert.GluUp.τ).loc Cert.GluUp.main_arg3))
      ∧ r.2.sem = fun _ => 0)

def quiescent_GluUpIdeal [hGluUpIdeal : Cert.GluUpIdeal.Facts] : Prop :=
  ∀ (m : (ℓ : Loc Cert.GluUpIdeal.nD Cert.GluUpIdeal.τ Cert.GluUpIdeal.sig) → Buf (Elt Ideal) ℓ) (g : Dev Cert.GluUpIdeal.nD → PrngReg), Pre_GluUpIdeal m →
    θ_run (Cert.GluUpIdeal.defs (F := Ideal)) (onTc (τ := Cert.GluUpIdeal.τ) (Cert.GluUpIdeal.main (F := Ideal))) ⟨m, fun _ => 0, g⟩ (fun r => (∀ c : Dev Cert.GluUpIdeal.nD,
      r.2.mem ((c.tc : Thread Cert.GluUpIdeal.nD Cert.GluUpIdeal.τ).loc Cert.GluUpIdeal.main_arg0) = m ((c.tc : Thread Cert.GluUpIdeal.nD Cert.GluUpIdeal.τ).loc Cert.GluUpIdeal.main_arg0)
      ∧ r.2.mem ((c.tc : Thread Cert.GluUpIdeal.nD Cert.GluUpIdeal.τ).loc Cert.GluUpIdeal.main_arg1) = m ((c.tc : Thread Cert.GluUpIdeal.nD Cert.GluUpIdeal.τ).loc Cert.GluUpIdeal.main_arg1)
      ∧ r.2.mem ((c.tc : Thread Cert.GluUpIdeal.nD Cert.GluUpIdeal.τ).loc Cert.GluUpIdeal.main_arg2) = m ((c.tc : Thread Cert.GluUpIdeal.nD Cert.GluUpIdeal.τ).loc Cert.GluUpIdeal.main_arg2)
      ∧ r.2.mem ((c.tc : Thread Cert.GluUpIdeal.nD Cert.GluUpIdeal.τ).loc Cert.GluUpIdeal.main_arg3) = m ((c.tc : Thread Cert.GluUpIdeal.nD Cert.GluUpIdeal.τ).loc Cert.GluUpIdeal.main_arg3))
      ∧ r.2.sem = fun _ => 0)

def quiescent_RefGluUpIdeal [hRefGluUpIdeal : Cert.RefGluUpIdeal.Facts] : Prop :=
  ∀ (m : (ℓ : Loc Cert.RefGluUpIdeal.nD Cert.RefGluUpIdeal.τ Cert.RefGluUpIdeal.sig) → Buf (Elt Ideal) ℓ) (g : Dev Cert.RefGluUpIdeal.nD → PrngReg), Pre_RefGluUpIdeal m →
    θ_run (Cert.RefGluUpIdeal.defs (F := Ideal)) (onTc (τ := Cert.RefGluUpIdeal.τ) (Cert.RefGluUpIdeal.main (F := Ideal))) ⟨m, fun _ => 0, g⟩ (fun r => (∀ c : Dev Cert.RefGluUpIdeal.nD,
      r.2.mem ((c.tc : Thread Cert.RefGluUpIdeal.nD Cert.RefGluUpIdeal.τ).loc Cert.RefGluUpIdeal.main_arg0) = m ((c.tc : Thread Cert.RefGluUpIdeal.nD Cert.RefGluUpIdeal.τ).loc Cert.RefGluUpIdeal.main_arg0)
      ∧ r.2.mem ((c.tc : Thread Cert.RefGluUpIdeal.nD Cert.RefGluUpIdeal.τ).loc Cert.RefGluUpIdeal.main_arg1) = m ((c.tc : Thread Cert.RefGluUpIdeal.nD Cert.RefGluUpIdeal.τ).loc Cert.RefGluUpIdeal.main_arg1)
      ∧ r.2.mem ((c.tc : Thread Cert.RefGluUpIdeal.nD Cert.RefGluUpIdeal.τ).loc Cert.RefGluUpIdeal.main_arg2) = m ((c.tc : Thread Cert.RefGluUpIdeal.nD Cert.RefGluUpIdeal.τ).loc Cert.RefGluUpIdeal.main_arg2)
      ∧ r.2.mem ((c.tc : Thread Cert.RefGluUpIdeal.nD Cert.RefGluUpIdeal.τ).loc Cert.RefGluUpIdeal.main_arg3) = m ((c.tc : Thread Cert.RefGluUpIdeal.nD Cert.RefGluUpIdeal.τ).loc Cert.RefGluUpIdeal.main_arg3))
      ∧ r.2.sem = fun _ => 0)

def quiescent_MergeUp [hMergeUp : Cert.MergeUp.Facts] : Prop :=
  ∀ (m : (ℓ : Loc Cert.MergeUp.nD Cert.MergeUp.τ Cert.MergeUp.sig) → Buf (Elt Bits) ℓ) (g : Dev Cert.MergeUp.nD → PrngReg), Pre_MergeUp m →
    θ_run (Cert.MergeUp.defs (F := Bits)) (onTc (τ := Cert.MergeUp.τ) (Cert.MergeUp.main (F := Bits))) ⟨m, fun _ => 0, g⟩ (fun r => (∀ c : Dev Cert.MergeUp.nD,
      r.2.mem ((c.tc : Thread Cert.MergeUp.nD Cert.MergeUp.τ).loc Cert.MergeUp.main_arg0) = m ((c.tc : Thread Cert.MergeUp.nD Cert.MergeUp.τ).loc Cert.MergeUp.main_arg0)
      ∧ r.2.mem ((c.tc : Thread Cert.MergeUp.nD Cert.MergeUp.τ).loc Cert.MergeUp.main_arg1) = m ((c.tc : Thread Cert.MergeUp.nD Cert.MergeUp.τ).loc Cert.MergeUp.main_arg1)
      ∧ r.2.mem ((c.tc : Thread Cert.MergeUp.nD Cert.MergeUp.τ).loc Cert.MergeUp.main_arg2) = m ((c.tc : Thread Cert.MergeUp.nD Cert.MergeUp.τ).loc Cert.MergeUp.main_arg2)
      ∧ r.2.mem ((c.tc : Thread Cert.MergeUp.nD Cert.MergeUp.τ).loc Cert.MergeUp.main_arg3) = m ((c.tc : Thread Cert.MergeUp.nD Cert.MergeUp.τ).loc Cert.MergeUp.main_arg3)
      ∧ r.2.mem ((c.tc : Thread Cert.MergeUp.nD Cert.MergeUp.τ).loc Cert.MergeUp.main_arg4) = m ((c.tc : Thread Cert.MergeUp.nD Cert.MergeUp.τ).loc Cert.MergeUp.main_arg4))
      ∧ r.2.sem = fun _ => 0)

def quiescent_MergeUpIdeal [hMergeUpIdeal : Cert.MergeUpIdeal.Facts] : Prop :=
  ∀ (m : (ℓ : Loc Cert.MergeUpIdeal.nD Cert.MergeUpIdeal.τ Cert.MergeUpIdeal.sig) → Buf (Elt Ideal) ℓ) (g : Dev Cert.MergeUpIdeal.nD → PrngReg), Pre_MergeUpIdeal m →
    θ_run (Cert.MergeUpIdeal.defs (F := Ideal)) (onTc (τ := Cert.MergeUpIdeal.τ) (Cert.MergeUpIdeal.main (F := Ideal))) ⟨m, fun _ => 0, g⟩ (fun r => (∀ c : Dev Cert.MergeUpIdeal.nD,
      r.2.mem ((c.tc : Thread Cert.MergeUpIdeal.nD Cert.MergeUpIdeal.τ).loc Cert.MergeUpIdeal.main_arg0) = m ((c.tc : Thread Cert.MergeUpIdeal.nD Cert.MergeUpIdeal.τ).loc Cert.MergeUpIdeal.main_arg0)
      ∧ r.2.mem ((c.tc : Thread Cert.MergeUpIdeal.nD Cert.MergeUpIdeal.τ).loc Cert.MergeUpIdeal.main_arg1) = m ((c.tc : Thread Cert.MergeUpIdeal.nD Cert.MergeUpIdeal.τ).loc Cert.MergeUpIdeal.main_arg1)
      ∧ r.2.mem ((c.tc : Thread Cert.MergeUpIdeal.nD Cert.MergeUpIdeal.τ).loc Cert.MergeUpIdeal.main_arg2) = m ((c.tc : Thread Cert.MergeUpIdeal.nD Cert.MergeUpIdeal.τ).loc Cert.MergeUpIdeal.main_arg2)
      ∧ r.2.mem ((c.tc : Thread Cert.MergeUpIdeal.nD Cert.MergeUpIdeal.τ).loc Cert.MergeUpIdeal.main_arg3) = m ((c.tc : Thread Cert.MergeUpIdeal.nD Cert.MergeUpIdeal.τ).loc Cert.MergeUpIdeal.main_arg3)
      ∧ r.2.mem ((c.tc : Thread Cert.MergeUpIdeal.nD Cert.MergeUpIdeal.τ).loc Cert.MergeUpIdeal.main_arg4) = m ((c.tc : Thread Cert.MergeUpIdeal.nD Cert.MergeUpIdeal.τ).loc Cert.MergeUpIdeal.main_arg4))
      ∧ r.2.sem = fun _ => 0)

def quiescent_RefMergeUpIdeal [hRefMergeUpIdeal : Cert.RefMergeUpIdeal.Facts] : Prop :=
  ∀ (m : (ℓ : Loc Cert.RefMergeUpIdeal.nD Cert.RefMergeUpIdeal.τ Cert.RefMergeUpIdeal.sig) → Buf (Elt Ideal) ℓ) (g : Dev Cert.RefMergeUpIdeal.nD → PrngReg), Pre_RefMergeUpIdeal m →
    θ_run (Cert.RefMergeUpIdeal.defs (F := Ideal)) (onTc (τ := Cert.RefMergeUpIdeal.τ) (Cert.RefMergeUpIdeal.main (F := Ideal))) ⟨m, fun _ => 0, g⟩ (fun r => (∀ c : Dev Cert.RefMergeUpIdeal.nD,
      r.2.mem ((c.tc : Thread Cert.RefMergeUpIdeal.nD Cert.RefMergeUpIdeal.τ).loc Cert.RefMergeUpIdeal.main_arg0) = m ((c.tc : Thread Cert.RefMergeUpIdeal.nD Cert.RefMergeUpIdeal.τ).loc Cert.RefMergeUpIdeal.main_arg0)
      ∧ r.2.mem ((c.tc : Thread Cert.RefMergeUpIdeal.nD Cert.RefMergeUpIdeal.τ).loc Cert.RefMergeUpIdeal.main_arg1) = m ((c.tc : Thread Cert.RefMergeUpIdeal.nD Cert.RefMergeUpIdeal.τ).loc Cert.RefMergeUpIdeal.main_arg1)
      ∧ r.2.mem ((c.tc : Thread Cert.RefMergeUpIdeal.nD Cert.RefMergeUpIdeal.τ).loc Cert.RefMergeUpIdeal.main_arg2) = m ((c.tc : Thread Cert.RefMergeUpIdeal.nD Cert.RefMergeUpIdeal.τ).loc Cert.RefMergeUpIdeal.main_arg2)
      ∧ r.2.mem ((c.tc : Thread Cert.RefMergeUpIdeal.nD Cert.RefMergeUpIdeal.τ).loc Cert.RefMergeUpIdeal.main_arg3) = m ((c.tc : Thread Cert.RefMergeUpIdeal.nD Cert.RefMergeUpIdeal.τ).loc Cert.RefMergeUpIdeal.main_arg3)
      ∧ r.2.mem ((c.tc : Thread Cert.RefMergeUpIdeal.nD Cert.RefMergeUpIdeal.τ).loc Cert.RefMergeUpIdeal.main_arg4) = m ((c.tc : Thread Cert.RefMergeUpIdeal.nD Cert.RefMergeUpIdeal.τ).loc Cert.RefMergeUpIdeal.main_arg4))
      ∧ r.2.sem = fun _ => 0)

def quiescent_ResidUp [hResidUp : Cert.ResidUp.Facts] : Prop :=
  ∀ (m : (ℓ : Loc Cert.ResidUp.nD Cert.ResidUp.τ Cert.ResidUp.sig) → Buf (Elt Bits) ℓ) (g : Dev Cert.ResidUp.nD → PrngReg), Pre_ResidUp m →
    θ_run (Cert.ResidUp.defs (F := Bits)) (onTc (τ := Cert.ResidUp.τ) (Cert.ResidUp.main (F := Bits))) ⟨m, fun _ => 0, g⟩ (fun r => (∀ c : Dev Cert.ResidUp.nD,
      r.2.mem ((c.tc : Thread Cert.ResidUp.nD Cert.ResidUp.τ).loc Cert.ResidUp.main_arg0) = m ((c.tc : Thread Cert.ResidUp.nD Cert.ResidUp.τ).loc Cert.ResidUp.main_arg0)
      ∧ r.2.mem ((c.tc : Thread Cert.ResidUp.nD Cert.ResidUp.τ).loc Cert.ResidUp.main_arg1) = m ((c.tc : Thread Cert.ResidUp.nD Cert.ResidUp.τ).loc Cert.ResidUp.main_arg1)
      ∧ r.2.mem ((c.tc : Thread Cert.ResidUp.nD Cert.ResidUp.τ).loc Cert.ResidUp.main_arg2) = m ((c.tc : Thread Cert.ResidUp.nD Cert.ResidUp.τ).loc Cert.ResidUp.main_arg2)
      ∧ r.2.mem ((c.tc : Thread Cert.ResidUp.nD Cert.ResidUp.τ).loc Cert.ResidUp.main_arg3) = m ((c.tc : Thread Cert.ResidUp.nD Cert.ResidUp.τ).loc Cert.ResidUp.main_arg3)
      ∧ r.2.mem ((c.tc : Thread Cert.ResidUp.nD Cert.ResidUp.τ).loc Cert.ResidUp.main_arg4) = m ((c.tc : Thread Cert.ResidUp.nD Cert.ResidUp.τ).loc Cert.ResidUp.main_arg4))
      ∧ r.2.sem = fun _ => 0)

def quiescent_ResidUpIdeal [hResidUpIdeal : Cert.ResidUpIdeal.Facts] : Prop :=
  ∀ (m : (ℓ : Loc Cert.ResidUpIdeal.nD Cert.ResidUpIdeal.τ Cert.ResidUpIdeal.sig) → Buf (Elt Ideal) ℓ) (g : Dev Cert.ResidUpIdeal.nD → PrngReg), Pre_ResidUpIdeal m →
    θ_run (Cert.ResidUpIdeal.defs (F := Ideal)) (onTc (τ := Cert.ResidUpIdeal.τ) (Cert.ResidUpIdeal.main (F := Ideal))) ⟨m, fun _ => 0, g⟩ (fun r => (∀ c : Dev Cert.ResidUpIdeal.nD,
      r.2.mem ((c.tc : Thread Cert.ResidUpIdeal.nD Cert.ResidUpIdeal.τ).loc Cert.ResidUpIdeal.main_arg0) = m ((c.tc : Thread Cert.ResidUpIdeal.nD Cert.ResidUpIdeal.τ).loc Cert.ResidUpIdeal.main_arg0)
      ∧ r.2.mem ((c.tc : Thread Cert.ResidUpIdeal.nD Cert.ResidUpIdeal.τ).loc Cert.ResidUpIdeal.main_arg1) = m ((c.tc : Thread Cert.ResidUpIdeal.nD Cert.ResidUpIdeal.τ).loc Cert.ResidUpIdeal.main_arg1)
      ∧ r.2.mem ((c.tc : Thread Cert.ResidUpIdeal.nD Cert.ResidUpIdeal.τ).loc Cert.ResidUpIdeal.main_arg2) = m ((c.tc : Thread Cert.ResidUpIdeal.nD Cert.ResidUpIdeal.τ).loc Cert.ResidUpIdeal.main_arg2)
      ∧ r.2.mem ((c.tc : Thread Cert.ResidUpIdeal.nD Cert.ResidUpIdeal.τ).loc Cert.ResidUpIdeal.main_arg3) = m ((c.tc : Thread Cert.ResidUpIdeal.nD Cert.ResidUpIdeal.τ).loc Cert.ResidUpIdeal.main_arg3)
      ∧ r.2.mem ((c.tc : Thread Cert.ResidUpIdeal.nD Cert.ResidUpIdeal.τ).loc Cert.ResidUpIdeal.main_arg4) = m ((c.tc : Thread Cert.ResidUpIdeal.nD Cert.ResidUpIdeal.τ).loc Cert.ResidUpIdeal.main_arg4))
      ∧ r.2.sem = fun _ => 0)

def quiescent_RefResidUpIdeal [hRefResidUpIdeal : Cert.RefResidUpIdeal.Facts] : Prop :=
  ∀ (m : (ℓ : Loc Cert.RefResidUpIdeal.nD Cert.RefResidUpIdeal.τ Cert.RefResidUpIdeal.sig) → Buf (Elt Ideal) ℓ) (g : Dev Cert.RefResidUpIdeal.nD → PrngReg), Pre_RefResidUpIdeal m →
    θ_run (Cert.RefResidUpIdeal.defs (F := Ideal)) (onTc (τ := Cert.RefResidUpIdeal.τ) (Cert.RefResidUpIdeal.main (F := Ideal))) ⟨m, fun _ => 0, g⟩ (fun r => (∀ c : Dev Cert.RefResidUpIdeal.nD,
      r.2.mem ((c.tc : Thread Cert.RefResidUpIdeal.nD Cert.RefResidUpIdeal.τ).loc Cert.RefResidUpIdeal.main_arg0) = m ((c.tc : Thread Cert.RefResidUpIdeal.nD Cert.RefResidUpIdeal.τ).loc Cert.RefResidUpIdeal.main_arg0)
      ∧ r.2.mem ((c.tc : Thread Cert.RefResidUpIdeal.nD Cert.RefResidUpIdeal.τ).loc Cert.RefResidUpIdeal.main_arg1) = m ((c.tc : Thread Cert.RefResidUpIdeal.nD Cert.RefResidUpIdeal.τ).loc Cert.RefResidUpIdeal.main_arg1)
      ∧ r.2.mem ((c.tc : Thread Cert.RefResidUpIdeal.nD Cert.RefResidUpIdeal.τ).loc Cert.RefResidUpIdeal.main_arg2) = m ((c.tc : Thread Cert.RefResidUpIdeal.nD Cert.RefResidUpIdeal.τ).loc Cert.RefResidUpIdeal.main_arg2)
      ∧ r.2.mem ((c.tc : Thread Cert.RefResidUpIdeal.nD Cert.RefResidUpIdeal.τ).loc Cert.RefResidUpIdeal.main_arg3) = m ((c.tc : Thread Cert.RefResidUpIdeal.nD Cert.RefResidUpIdeal.τ).loc Cert.RefResidUpIdeal.main_arg3)
      ∧ r.2.mem ((c.tc : Thread Cert.RefResidUpIdeal.nD Cert.RefResidUpIdeal.τ).loc Cert.RefResidUpIdeal.main_arg4) = m ((c.tc : Thread Cert.RefResidUpIdeal.nD Cert.RefResidUpIdeal.τ).loc Cert.RefResidUpIdeal.main_arg4))
      ∧ r.2.sem = fun _ => 0)

def quiescent_ConvAct [hConvAct : Cert.ConvAct.Facts] : Prop :=
  ∀ (m : (ℓ : Loc Cert.ConvAct.nD Cert.ConvAct.τ Cert.ConvAct.sig) → Buf (Elt Bits) ℓ) (g : Dev Cert.ConvAct.nD → PrngReg), Pre_ConvAct m →
    θ_run (Cert.ConvAct.defs (F := Bits)) (onTc (τ := Cert.ConvAct.τ) (Cert.ConvAct.main (F := Bits))) ⟨m, fun _ => 0, g⟩ (fun r => (∀ c : Dev Cert.ConvAct.nD,
      r.2.mem ((c.tc : Thread Cert.ConvAct.nD Cert.ConvAct.τ).loc Cert.ConvAct.main_arg0) = m ((c.tc : Thread Cert.ConvAct.nD Cert.ConvAct.τ).loc Cert.ConvAct.main_arg0)
      ∧ r.2.mem ((c.tc : Thread Cert.ConvAct.nD Cert.ConvAct.τ).loc Cert.ConvAct.main_arg1) = m ((c.tc : Thread Cert.ConvAct.nD Cert.ConvAct.τ).loc Cert.ConvAct.main_arg1)
      ∧ r.2.mem ((c.tc : Thread Cert.ConvAct.nD Cert.ConvAct.τ).loc Cert.ConvAct.main_arg2) = m ((c.tc : Thread Cert.ConvAct.nD Cert.ConvAct.τ).loc Cert.ConvAct.main_arg2))
      ∧ r.2.sem = fun _ => 0)

def quiescent_ConvActIdeal [hConvActIdeal : Cert.ConvActIdeal.Facts] : Prop :=
  ∀ (m : (ℓ : Loc Cert.ConvActIdeal.nD Cert.ConvActIdeal.τ Cert.ConvActIdeal.sig) → Buf (Elt Ideal) ℓ) (g : Dev Cert.ConvActIdeal.nD → PrngReg), Pre_ConvActIdeal m →
    θ_run (Cert.ConvActIdeal.defs (F := Ideal)) (onTc (τ := Cert.ConvActIdeal.τ) (Cert.ConvActIdeal.main (F := Ideal))) ⟨m, fun _ => 0, g⟩ (fun r => (∀ c : Dev Cert.ConvActIdeal.nD,
      r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
      ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
      ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2))
      ∧ r.2.sem = fun _ => 0)

def quiescent_RefConvActIdeal [hRefConvActIdeal : Cert.RefConvActIdeal.Facts] : Prop :=
  ∀ (m : (ℓ : Loc Cert.RefConvActIdeal.nD Cert.RefConvActIdeal.τ Cert.RefConvActIdeal.sig) → Buf (Elt Ideal) ℓ) (g : Dev Cert.RefConvActIdeal.nD → PrngReg), Pre_RefConvActIdeal m →
    θ_run (Cert.RefConvActIdeal.defs (F := Ideal)) (onTc (τ := Cert.RefConvActIdeal.τ) (Cert.RefConvActIdeal.main (F := Ideal))) ⟨m, fun _ => 0, g⟩ (fun r => (∀ c : Dev Cert.RefConvActIdeal.nD,
      r.2.mem ((c.tc : Thread Cert.RefConvActIdeal.nD Cert.RefConvActIdeal.τ).loc Cert.RefConvActIdeal.main_arg0) = m ((c.tc : Thread Cert.RefConvActIdeal.nD Cert.RefConvActIdeal.τ).loc Cert.RefConvActIdeal.main_arg0)
      ∧ r.2.mem ((c.tc : Thread Cert.RefConvActIdeal.nD Cert.RefConvActIdeal.τ).loc Cert.RefConvActIdeal.main_arg1) = m ((c.tc : Thread Cert.RefConvActIdeal.nD Cert.RefConvActIdeal.τ).loc Cert.RefConvActIdeal.main_arg1)
      ∧ r.2.mem ((c.tc : Thread Cert.RefConvActIdeal.nD Cert.RefConvActIdeal.τ).loc Cert.RefConvActIdeal.main_arg2) = m ((c.tc : Thread Cert.RefConvActIdeal.nD Cert.RefConvActIdeal.τ).loc Cert.RefConvActIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7)
      ∧ r.2.mem ((c.tc : Thread Cert.Adamw.nD Cert.Adamw.τ).loc Cert.Adamw.main_arg8) = m ((c.tc : Thread Cert.Adamw.nD Cert.Adamw.τ).loc Cert.Adamw.main_arg8)
      ∧ r.2.mem ((c.tc : Thread Cert.Adamw.nD Cert.Adamw.τ).loc Cert.Adamw.main_arg9) = m ((c.tc : Thread Cert.Adamw.nD Cert.Adamw.τ).loc Cert.Adamw.main_arg9)
      ∧ r.2.mem ((c.tc : Thread Cert.Adamw.nD Cert.Adamw.τ).loc Cert.Adamw.main_arg10) = m ((c.tc : Thread Cert.Adamw.nD Cert.Adamw.τ).loc Cert.Adamw.main_arg10)
      ∧ r.2.mem ((c.tc : Thread Cert.Adamw.nD Cert.Adamw.τ).loc Cert.Adamw.main_arg11) = m ((c.tc : Thread Cert.Adamw.nD Cert.Adamw.τ).loc Cert.Adamw.main_arg11)
      ∧ r.2.mem ((c.tc : Thread Cert.Adamw.nD Cert.Adamw.τ).loc Cert.Adamw.main_arg12) = m ((c.tc : Thread Cert.Adamw.nD Cert.Adamw.τ).loc Cert.Adamw.main_arg12)
      ∧ r.2.mem ((c.tc : Thread Cert.Adamw.nD Cert.Adamw.τ).loc Cert.Adamw.main_arg13) = m ((c.tc : Thread Cert.Adamw.nD Cert.Adamw.τ).loc Cert.Adamw.main_arg13)
      ∧ r.2.mem ((c.tc : Thread Cert.Adamw.nD Cert.Adamw.τ).loc Cert.Adamw.main_arg14) = m ((c.tc : Thread Cert.Adamw.nD Cert.Adamw.τ).loc Cert.Adamw.main_arg14)
      ∧ r.2.mem ((c.tc : Thread Cert.Adamw.nD Cert.Adamw.τ).loc Cert.Adamw.main_arg15) = m ((c.tc : Thread Cert.Adamw.nD Cert.Adamw.τ).loc Cert.Adamw.main_arg15)
      ∧ r.2.mem ((c.tc : Thread Cert.Adamw.nD Cert.Adamw.τ).loc Cert.Adamw.main_arg16) = m ((c.tc : Thread Cert.Adamw.nD Cert.Adamw.τ).loc Cert.Adamw.main_arg16)
      ∧ r.2.mem ((c.tc : Thread Cert.Adamw.nD Cert.Adamw.τ).loc Cert.Adamw.main_arg17) = m ((c.tc : Thread Cert.Adamw.nD Cert.Adamw.τ).loc Cert.Adamw.main_arg17)
      ∧ r.2.mem ((c.tc : Thread Cert.Adamw.nD Cert.Adamw.τ).loc Cert.Adamw.main_arg18) = m ((c.tc : Thread Cert.Adamw.nD Cert.Adamw.τ).loc Cert.Adamw.main_arg18)
      ∧ r.2.mem ((c.tc : Thread Cert.Adamw.nD Cert.Adamw.τ).loc Cert.Adamw.main_arg19) = m ((c.tc : Thread Cert.Adamw.nD Cert.Adamw.τ).loc Cert.Adamw.main_arg19)
      ∧ r.2.mem ((c.tc : Thread Cert.Adamw.nD Cert.Adamw.τ).loc Cert.Adamw.main_arg20) = m ((c.tc : Thread Cert.Adamw.nD Cert.Adamw.τ).loc Cert.Adamw.main_arg20)
      ∧ r.2.mem ((c.tc : Thread Cert.Adamw.nD Cert.Adamw.τ).loc Cert.Adamw.main_arg21) = m ((c.tc : Thread Cert.Adamw.nD Cert.Adamw.τ).loc Cert.Adamw.main_arg21)
      ∧ r.2.mem ((c.tc : Thread Cert.Adamw.nD Cert.Adamw.τ).loc Cert.Adamw.main_arg22) = m ((c.tc : Thread Cert.Adamw.nD Cert.Adamw.τ).loc Cert.Adamw.main_arg22)
      ∧ r.2.mem ((c.tc : Thread Cert.Adamw.nD Cert.Adamw.τ).loc Cert.Adamw.main_arg23) = m ((c.tc : Thread Cert.Adamw.nD Cert.Adamw.τ).loc Cert.Adamw.main_arg23)
      ∧ r.2.mem ((c.tc : Thread Cert.Adamw.nD Cert.Adamw.τ).loc Cert.Adamw.main_arg24) = m ((c.tc : Thread Cert.Adamw.nD Cert.Adamw.τ).loc Cert.Adamw.main_arg24)
      ∧ r.2.mem ((c.tc : Thread Cert.Adamw.nD Cert.Adamw.τ).loc Cert.Adamw.main_arg25) = m ((c.tc : Thread Cert.Adamw.nD Cert.Adamw.τ).loc Cert.Adamw.main_arg25)
      ∧ r.2.mem ((c.tc : Thread Cert.Adamw.nD Cert.Adamw.τ).loc Cert.Adamw.main_arg26) = m ((c.tc : Thread Cert.Adamw.nD Cert.Adamw.τ).loc Cert.Adamw.main_arg26)
      ∧ r.2.mem ((c.tc : Thread Cert.Adamw.nD Cert.Adamw.τ).loc Cert.Adamw.main_arg27) = m ((c.tc : Thread Cert.Adamw.nD Cert.Adamw.τ).loc Cert.Adamw.main_arg27)
      ∧ r.2.mem ((c.tc : Thread Cert.Adamw.nD Cert.Adamw.τ).loc Cert.Adamw.main_arg28) = m ((c.tc : Thread Cert.Adamw.nD Cert.Adamw.τ).loc Cert.Adamw.main_arg28)
      ∧ r.2.mem ((c.tc : Thread Cert.Adamw.nD Cert.Adamw.τ).loc Cert.Adamw.main_arg29) = m ((c.tc : Thread Cert.Adamw.nD Cert.Adamw.τ).loc Cert.Adamw.main_arg29)
      ∧ r.2.mem ((c.tc : Thread Cert.Adamw.nD Cert.Adamw.τ).loc Cert.Adamw.main_arg30) = m ((c.tc : Thread Cert.Adamw.nD Cert.Adamw.τ).loc Cert.Adamw.main_arg30)
      ∧ r.2.mem ((c.tc : Thread Cert.Adamw.nD Cert.Adamw.τ).loc Cert.Adamw.main_arg31) = m ((c.tc : Thread Cert.Adamw.nD Cert.Adamw.τ).loc Cert.Adamw.main_arg31))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
      ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
      ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
      ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
      ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
      ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
      ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
      ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
      ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
      ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
      ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
      ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
      ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
      ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
      ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
      ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
      ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27)
      ∧ r.2.mem ((c.tc : Thread Cert.AdamwIdeal.nD Cert.AdamwIdeal.τ).loc Cert.AdamwIdeal.main_arg28) = m ((c.tc : Thread Cert.AdamwIdeal.nD Cert.AdamwIdeal.τ).loc Cert.AdamwIdeal.main_arg28)
      ∧ r.2.mem ((c.tc : Thread Cert.AdamwIdeal.nD Cert.AdamwIdeal.τ).loc Cert.AdamwIdeal.main_arg29) = m ((c.tc : Thread Cert.AdamwIdeal.nD Cert.AdamwIdeal.τ).loc Cert.AdamwIdeal.main_arg29)
      ∧ r.2.mem ((c.tc : Thread Cert.AdamwIdeal.nD Cert.AdamwIdeal.τ).loc Cert.AdamwIdeal.main_arg30) = m ((c.tc : Thread Cert.AdamwIdeal.nD Cert.AdamwIdeal.τ).loc Cert.AdamwIdeal.main_arg30)
      ∧ r.2.mem ((c.tc : Thread Cert.AdamwIdeal.nD Cert.AdamwIdeal.τ).loc Cert.AdamwIdeal.main_arg31) = m ((c.tc : Thread Cert.AdamwIdeal.nD Cert.AdamwIdeal.τ).loc Cert.AdamwIdeal.main_arg31))
      ∧ r.2.sem = fun _ => 0)

def quiescent_RefAdamwIdeal [hRefAdamwIdeal : Cert.RefAdamwIdeal.Facts] : Prop :=
  ∀ (m : (ℓ : Loc Cert.RefAdamwIdeal.nD Cert.RefAdamwIdeal.τ Cert.RefAdamwIdeal.sig) → Buf (Elt Ideal) ℓ) (g : Dev Cert.RefAdamwIdeal.nD → PrngReg), Pre_RefAdamwIdeal m →
    θ_run (Cert.RefAdamwIdeal.defs (F := Ideal)) (onTc (τ := Cert.RefAdamwIdeal.τ) (Cert.RefAdamwIdeal.main (F := Ideal))) ⟨m, fun _ => 0, g⟩ (fun r => (∀ c : Dev Cert.RefAdamwIdeal.nD,
      r.2.mem ((c.tc : Thread Cert.RefAdamwIdeal.nD Cert.RefAdamwIdeal.τ).loc Cert.RefAdamwIdeal.main_arg0) = m ((c.tc : Thread Cert.RefAdamwIdeal.nD Cert.RefAdamwIdeal.τ).loc Cert.RefAdamwIdeal.main_arg0)
      ∧ r.2.mem ((c.tc : Thread Cert.RefAdamwIdeal.nD Cert.RefAdamwIdeal.τ).loc Cert.RefAdamwIdeal.main_arg1) = m ((c.tc : Thread Cert.RefAdamwIdeal.nD Cert.RefAdamwIdeal.τ).loc Cert.RefAdamwIdeal.main_arg1)
      ∧ r.2.mem ((c.tc : Thread Cert.RefAdamwIdeal.nD Cert.RefAdamwIdeal.τ).loc Cert.RefAdamwIdeal.main_arg2) = m ((c.tc : Thread Cert.RefAdamwIdeal.nD Cert.RefAdamwIdeal.τ).loc Cert.RefAdamwIdeal.main_arg2)
      ∧ r.2.mem ((c.tc : Thread Cert.RefAdamwIdeal.nD Cert.RefAdamwIdeal.τ).loc Cert.RefAdamwIdeal.main_arg3) = m ((c.tc : Thread Cert.RefAdamwIdeal.nD Cert.RefAdamwIdeal.τ).loc Cert.RefAdamwIdeal.main_arg3)
      ∧ r.2.mem ((c.tc : Thread Cert.RefAdamwIdeal.nD Cert.RefAdamwIdeal.τ).loc Cert.RefAdamwIdeal.main_arg4) = m ((c.tc : Thread Cert.RefAdamwIdeal.nD Cert.RefAdamwIdeal.τ).loc Cert.RefAdamwIdeal.main_arg4)
      ∧ r.2.mem ((c.tc : Thread Cert.RefAdamwIdeal.nD Cert.RefAdamwIdeal.τ).loc Cert.RefAdamwIdeal.main_arg5) = m ((c.tc : Thread Cert.RefAdamwIdeal.nD Cert.RefAdamwIdeal.τ).loc Cert.RefAdamwIdeal.main_arg5)
      ∧ r.2.mem ((c.tc : Thread Cert.RefAdamwIdeal.nD Cert.RefAdamwIdeal.τ).loc Cert.RefAdamwIdeal.main_arg6) = m ((c.tc : Thread Cert.RefAdamwIdeal.nD Cert.RefAdamwIdeal.τ).loc Cert.RefAdamwIdeal.main_arg6)
      ∧ r.2.mem ((c.tc : Thread Cert.RefAdamwIdeal.nD Cert.RefAdamwIdeal.τ).loc Cert.RefAdamwIdeal.main_arg7) = m ((c.tc : Thread Cert.RefAdamwIdeal.nD Cert.RefAdamwIdeal.τ).loc Cert.RefAdamwIdeal.main_arg7)
      ∧ r.2.mem ((c.tc : Thread Cert.RefAdamwIdeal.nD Cert.RefAdamwIdeal.τ).loc Cert.RefAdamwIdeal.main_arg8) = m ((c.tc : Thread Cert.RefAdamwIdeal.nD Cert.RefAdamwIdeal.τ).loc Cert.RefAdamwIdeal.main_arg8)
      ∧ r.2.mem ((c.tc : Thread Cert.RefAdamwIdeal.nD Cert.RefAdamwIdeal.τ).loc Cert.RefAdamwIdeal.main_arg9) = m ((c.tc : Thread Cert.RefAdamwIdeal.nD Cert.RefAdamwIdeal.τ).loc Cert.RefAdamwIdeal.main_arg9)
      ∧ r.2.mem ((c.tc : Thread Cert.RefAdamwIdeal.nD Cert.RefAdamwIdeal.τ).loc Cert.RefAdamwIdeal.main_arg10) = m ((c.tc : Thread Cert.RefAdamwIdeal.nD Cert.RefAdamwIdeal.τ).loc Cert.RefAdamwIdeal.main_arg10)
      ∧ r.2.mem ((c.tc : Thread Cert.RefAdamwIdeal.nD Cert.RefAdamwIdeal.τ).loc Cert.RefAdamwIdeal.main_arg11) = m ((c.tc : Thread Cert.RefAdamwIdeal.nD Cert.RefAdamwIdeal.τ).loc Cert.RefAdamwIdeal.main_arg11)
      ∧ r.2.mem ((c.tc : Thread Cert.RefAdamwIdeal.nD Cert.RefAdamwIdeal.τ).loc Cert.RefAdamwIdeal.main_arg12) = m ((c.tc : Thread Cert.RefAdamwIdeal.nD Cert.RefAdamwIdeal.τ).loc Cert.RefAdamwIdeal.main_arg12)
      ∧ r.2.mem ((c.tc : Thread Cert.RefAdamwIdeal.nD Cert.RefAdamwIdeal.τ).loc Cert.RefAdamwIdeal.main_arg13) = m ((c.tc : Thread Cert.RefAdamwIdeal.nD Cert.RefAdamwIdeal.τ).loc Cert.RefAdamwIdeal.main_arg13)
      ∧ r.2.mem ((c.tc : Thread Cert.RefAdamwIdeal.nD Cert.RefAdamwIdeal.τ).loc Cert.RefAdamwIdeal.main_arg14) = m ((c.tc : Thread Cert.RefAdamwIdeal.nD Cert.RefAdamwIdeal.τ).loc Cert.RefAdamwIdeal.main_arg14)
      ∧ r.2.mem ((c.tc : Thread Cert.RefAdamwIdeal.nD Cert.RefAdamwIdeal.τ).loc Cert.RefAdamwIdeal.main_arg15) = m ((c.tc : Thread Cert.RefAdamwIdeal.nD Cert.RefAdamwIdeal.τ).loc Cert.RefAdamwIdeal.main_arg15)
      ∧ r.2.mem ((c.tc : Thread Cert.RefAdamwIdeal.nD Cert.RefAdamwIdeal.τ).loc Cert.RefAdamwIdeal.main_arg16) = m ((c.tc : Thread Cert.RefAdamwIdeal.nD Cert.RefAdamwIdeal.τ).loc Cert.RefAdamwIdeal.main_arg16)
      ∧ r.2.mem ((c.tc : Thread Cert.RefAdamwIdeal.nD Cert.RefAdamwIdeal.τ).loc Cert.RefAdamwIdeal.main_arg17) = m ((c.tc : Thread Cert.RefAdamwIdeal.nD Cert.RefAdamwIdeal.τ).loc Cert.RefAdamwIdeal.main_arg17)
      ∧ r.2.mem ((c.tc : Thread Cert.RefAdamwIdeal.nD Cert.RefAdamwIdeal.τ).loc Cert.RefAdamwIdeal.main_arg18) = m ((c.tc : Thread Cert.RefAdamwIdeal.nD Cert.RefAdamwIdeal.τ).loc Cert.RefAdamwIdeal.main_arg18)
      ∧ r.2.mem ((c.tc : Thread Cert.RefAdamwIdeal.nD Cert.RefAdamwIdeal.τ).loc Cert.RefAdamwIdeal.main_arg19) = m ((c.tc : Thread Cert.RefAdamwIdeal.nD Cert.RefAdamwIdeal.τ).loc Cert.RefAdamwIdeal.main_arg19)
      ∧ r.2.mem ((c.tc : Thread Cert.RefAdamwIdeal.nD Cert.RefAdamwIdeal.τ).loc Cert.RefAdamwIdeal.main_arg20) = m ((c.tc : Thread Cert.RefAdamwIdeal.nD Cert.RefAdamwIdeal.τ).loc Cert.RefAdamwIdeal.main_arg20)
      ∧ r.2.mem ((c.tc : Thread Cert.RefAdamwIdeal.nD Cert.RefAdamwIdeal.τ).loc Cert.RefAdamwIdeal.main_arg21) = m ((c.tc : Thread Cert.RefAdamwIdeal.nD Cert.RefAdamwIdeal.τ).loc Cert.RefAdamwIdeal.main_arg21)
      ∧ r.2.mem ((c.tc : Thread Cert.RefAdamwIdeal.nD Cert.RefAdamwIdeal.τ).loc Cert.RefAdamwIdeal.main_arg22) = m ((c.tc : Thread Cert.RefAdamwIdeal.nD Cert.RefAdamwIdeal.τ).loc Cert.RefAdamwIdeal.main_arg22)
      ∧ r.2.mem ((c.tc : Thread Cert.RefAdamwIdeal.nD Cert.RefAdamwIdeal.τ).loc Cert.RefAdamwIdeal.main_arg23) = m ((c.tc : Thread Cert.RefAdamwIdeal.nD Cert.RefAdamwIdeal.τ).loc Cert.RefAdamwIdeal.main_arg23)
      ∧ r.2.mem ((c.tc : Thread Cert.RefAdamwIdeal.nD Cert.RefAdamwIdeal.τ).loc Cert.RefAdamwIdeal.main_arg24) = m ((c.tc : Thread Cert.RefAdamwIdeal.nD Cert.RefAdamwIdeal.τ).loc Cert.RefAdamwIdeal.main_arg24)
      ∧ r.2.mem ((c.tc : Thread Cert.RefAdamwIdeal.nD Cert.RefAdamwIdeal.τ).loc Cert.RefAdamwIdeal.main_arg25) = m ((c.tc : Thread Cert.RefAdamwIdeal.nD Cert.RefAdamwIdeal.τ).loc Cert.RefAdamwIdeal.main_arg25)
      ∧ r.2.mem ((c.tc : Thread Cert.RefAdamwIdeal.nD Cert.RefAdamwIdeal.τ).loc Cert.RefAdamwIdeal.main_arg26) = m ((c.tc : Thread Cert.RefAdamwIdeal.nD Cert.RefAdamwIdeal.τ).loc Cert.RefAdamwIdeal.main_arg26)
      ∧ r.2.mem ((c.tc : Thread Cert.RefAdamwIdeal.nD Cert.RefAdamwIdeal.τ).loc Cert.RefAdamwIdeal.main_arg27) = m ((c.tc : Thread Cert.RefAdamwIdeal.nD Cert.RefAdamwIdeal.τ).loc Cert.RefAdamwIdeal.main_arg27)
      ∧ r.2.mem ((c.tc : Thread Cert.RefAdamwIdeal.nD Cert.RefAdamwIdeal.τ).loc Cert.RefAdamwIdeal.main_arg28) = m ((c.tc : Thread Cert.RefAdamwIdeal.nD Cert.RefAdamwIdeal.τ).loc Cert.RefAdamwIdeal.main_arg28)
      ∧ r.2.mem ((c.tc : Thread Cert.RefAdamwIdeal.nD Cert.RefAdamwIdeal.τ).loc Cert.RefAdamwIdeal.main_arg29) = m ((c.tc : Thread Cert.RefAdamwIdeal.nD Cert.RefAdamwIdeal.τ).loc Cert.RefAdamwIdeal.main_arg29)
      ∧ r.2.mem ((c.tc : Thread Cert.RefAdamwIdeal.nD Cert.RefAdamwIdeal.τ).loc Cert.RefAdamwIdeal.main_arg30) = m ((c.tc : Thread Cert.RefAdamwIdeal.nD Cert.RefAdamwIdeal.τ).loc Cert.RefAdamwIdeal.main_arg30)
      ∧ r.2.mem ((c.tc : Thread Cert.RefAdamwIdeal.nD Cert.RefAdamwIdeal.τ).loc Cert.RefAdamwIdeal.main_arg31) = m ((c.tc : Thread Cert.RefAdamwIdeal.nD Cert.RefAdamwIdeal.τ).loc Cert.RefAdamwIdeal.main_arg31))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v6) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v5) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v6) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v5) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v7) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v8) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v6) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v5) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_BrDx_BrDxIdeal : Prop :=
  True

def algebraic_BrDxIdeal_RefBrDxIdeal [hBrDxIdeal : Cert.BrDxIdeal.Facts] [hRefBrDxIdeal : Cert.RefBrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.RefBrDxIdeal.nD Cert.RefBrDxIdeal.τ Cert.RefBrDxIdeal.sig) → Buf (Elt Ideal) ℓ) (g' : Dev Cert.RefBrDxIdeal.nD → PrngReg), Pre_BrDxIdeal m →
    (∀ c : Dev Cert.BrDxIdeal.nD,
      m' ((c.tc : Thread Cert.RefBrDxIdeal.nD Cert.RefBrDxIdeal.τ).loc Cert.RefBrDxIdeal.main_arg0) = m ((c.tc : Thread Cert.BrDxIdeal.nD Cert.BrDxIdeal.τ).loc Cert.BrDxIdeal.main_arg0)
      ∧ m' ((c.tc : Thread Cert.RefBrDxIdeal.nD Cert.RefBrDxIdeal.τ).loc Cert.RefBrDxIdeal.main_arg1) = m ((c.tc : Thread Cert.BrDxIdeal.nD Cert.BrDxIdeal.τ).loc Cert.BrDxIdeal.main_arg1)) →
    ∃ (v0 : (c : Dev Cert.BrDxIdeal.nD) → Buf (Elt Ideal) ((c.tc : Thread Cert.BrDxIdeal.nD Cert.BrDxIdeal.τ).loc Cert.BrDxIdeal.main_v0)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v0) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ θ_run (Cert.RefBrDxIdeal.defs (F := Ideal)) (onTc (τ := Cert.RefBrDxIdeal.τ) (Cert.RefBrDxIdeal.main (F := Ideal))) ⟨m', fun _ => 0, g'⟩ (fun r => ∀ c : Dev Cert.RefBrDxIdeal.nD,
          r.2.mem ((c.tc : Thread Cert.RefBrDxIdeal.nD Cert.RefBrDxIdeal.τ).loc Cert.RefBrDxIdeal.main_v6) = v0 c
          ∧ r.2.mem ((c.tc : Thread Cert.RefBrDxIdeal.nD Cert.RefBrDxIdeal.τ).loc Cert.RefBrDxIdeal.main_arg0) = m' ((c.tc : Thread Cert.RefBrDxIdeal.nD Cert.RefBrDxIdeal.τ).loc Cert.RefBrDxIdeal.main_arg0)
          ∧ r.2.mem ((c.tc : Thread Cert.RefBrDxIdeal.nD Cert.RefBrDxIdeal.τ).loc Cert.RefBrDxIdeal.main_arg1) = m' ((c.tc : Thread Cert.RefBrDxIdeal.nD Cert.RefBrDxIdeal.τ).loc Cert.RefBrDxIdeal.main_arg1))

def preserves_BrDw_BrDwIdeal : Prop :=
  True

def algebraic_BrDwIdeal_RefBrDwIdeal [hBrDwIdeal : Cert.BrDwIdeal.Facts] [hRefBrDwIdeal : Cert.RefBrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.RefBrDwIdeal.nD Cert.RefBrDwIdeal.τ Cert.RefBrDwIdeal.sig) → Buf (Elt Ideal) ℓ) (g' : Dev Cert.RefBrDwIdeal.nD → PrngReg), Pre_BrDwIdeal m →
    (∀ c : Dev Cert.BrDwIdeal.nD,
      m' ((c.tc : Thread Cert.RefBrDwIdeal.nD Cert.RefBrDwIdeal.τ).loc Cert.RefBrDwIdeal.main_arg0) = m ((c.tc : Thread Cert.BrDwIdeal.nD Cert.BrDwIdeal.τ).loc Cert.BrDwIdeal.main_arg0)
      ∧ m' ((c.tc : Thread Cert.RefBrDwIdeal.nD Cert.RefBrDwIdeal.τ).loc Cert.RefBrDwIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v0)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v0) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.RefBrDwIdeal.defs (F := Ideal)) (onTc (τ := Cert.RefBrDwIdeal.τ) (Cert.RefBrDwIdeal.main (F := Ideal))) ⟨m', fun _ => 0, g'⟩ (fun r => ∀ c : Dev Cert.RefBrDwIdeal.nD,
          r.2.mem ((c.tc : Thread Cert.RefBrDwIdeal.nD Cert.RefBrDwIdeal.τ).loc Cert.RefBrDwIdeal.main_v5) = v0 c
          ∧ r.2.mem ((c.tc : Thread Cert.RefBrDwIdeal.nD Cert.RefBrDwIdeal.τ).loc Cert.RefBrDwIdeal.main_arg0) = m' ((c.tc : Thread Cert.RefBrDwIdeal.nD Cert.RefBrDwIdeal.τ).loc Cert.RefBrDwIdeal.main_arg0)
          ∧ r.2.mem ((c.tc : Thread Cert.RefBrDwIdeal.nD Cert.RefBrDwIdeal.τ).loc Cert.RefBrDwIdeal.main_arg1) = m' ((c.tc : Thread Cert.RefBrDwIdeal.nD Cert.RefBrDwIdeal.τ).loc Cert.RefBrDwIdeal.main_arg1))

def preserves_GluDx_GluDxIdeal : Prop :=
  True

def algebraic_GluDxIdeal_RefGluDxIdeal [hGluDxIdeal : Cert.GluDxIdeal.Facts] [hRefGluDxIdeal : Cert.RefGluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.RefGluDxIdeal.nD Cert.RefGluDxIdeal.τ Cert.RefGluDxIdeal.sig) → Buf (Elt Ideal) ℓ) (g' : Dev Cert.RefGluDxIdeal.nD → PrngReg), Pre_GluDxIdeal m →
    (∀ c : Dev Cert.GluDxIdeal.nD,
      m' ((c.tc : Thread Cert.RefGluDxIdeal.nD Cert.RefGluDxIdeal.τ).loc Cert.RefGluDxIdeal.main_arg0) = m ((c.tc : Thread Cert.GluDxIdeal.nD Cert.GluDxIdeal.τ).loc Cert.GluDxIdeal.main_arg0)
      ∧ m' ((c.tc : Thread Cert.RefGluDxIdeal.nD Cert.RefGluDxIdeal.τ).loc Cert.RefGluDxIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.RefGluDxIdeal.defs (F := Ideal)) (onTc (τ := Cert.RefGluDxIdeal.τ) (Cert.RefGluDxIdeal.main (F := Ideal))) ⟨m', fun _ => 0, g'⟩ (fun r => ∀ c : Dev Cert.RefGluDxIdeal.nD,
          r.2.mem ((c.tc : Thread Cert.RefGluDxIdeal.nD Cert.RefGluDxIdeal.τ).loc Cert.RefGluDxIdeal.main_v6) = v0 c
          ∧ r.2.mem ((c.tc : Thread Cert.RefGluDxIdeal.nD Cert.RefGluDxIdeal.τ).loc Cert.RefGluDxIdeal.main_arg0) = m' ((c.tc : Thread Cert.RefGluDxIdeal.nD Cert.RefGluDxIdeal.τ).loc Cert.RefGluDxIdeal.main_arg0)
          ∧ r.2.mem ((c.tc : Thread Cert.RefGluDxIdeal.nD Cert.RefGluDxIdeal.τ).loc Cert.RefGluDxIdeal.main_arg1) = m' ((c.tc : Thread Cert.RefGluDxIdeal.nD Cert.RefGluDxIdeal.τ).loc Cert.RefGluDxIdeal.main_arg1))

def preserves_GluDw_GluDwIdeal : Prop :=
  True

def algebraic_GluDwIdeal_RefGluDwIdeal [hGluDwIdeal : Cert.GluDwIdeal.Facts] [hRefGluDwIdeal : Cert.RefGluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.RefGluDwIdeal.nD Cert.RefGluDwIdeal.τ Cert.RefGluDwIdeal.sig) → Buf (Elt Ideal) ℓ) (g' : Dev Cert.RefGluDwIdeal.nD → PrngReg), Pre_GluDwIdeal m →
    (∀ c : Dev Cert.GluDwIdeal.nD,
      m' ((c.tc : Thread Cert.RefGluDwIdeal.nD Cert.RefGluDwIdeal.τ).loc Cert.RefGluDwIdeal.main_arg0) = m ((c.tc : Thread Cert.GluDwIdeal.nD Cert.GluDwIdeal.τ).loc Cert.GluDwIdeal.main_arg0)
      ∧ m' ((c.tc : Thread Cert.RefGluDwIdeal.nD Cert.RefGluDwIdeal.τ).loc Cert.RefGluDwIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.RefGluDwIdeal.defs (F := Ideal)) (onTc (τ := Cert.RefGluDwIdeal.τ) (Cert.RefGluDwIdeal.main (F := Ideal))) ⟨m', fun _ => 0, g'⟩ (fun r => ∀ c : Dev Cert.RefGluDwIdeal.nD,
          r.2.mem ((c.tc : Thread Cert.RefGluDwIdeal.nD Cert.RefGluDwIdeal.τ).loc Cert.RefGluDwIdeal.main_v4) = v0 c
          ∧ r.2.mem ((c.tc : Thread Cert.RefGluDwIdeal.nD Cert.RefGluDwIdeal.τ).loc Cert.RefGluDwIdeal.main_arg0) = m' ((c.tc : Thread Cert.RefGluDwIdeal.nD Cert.RefGluDwIdeal.τ).loc Cert.RefGluDwIdeal.main_arg0)
          ∧ r.2.mem ((c.tc : Thread Cert.RefGluDwIdeal.nD Cert.RefGluDwIdeal.τ).loc Cert.RefGluDwIdeal.main_arg1) = m' ((c.tc : Thread Cert.RefGluDwIdeal.nD Cert.RefGluDwIdeal.τ).loc Cert.RefGluDwIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_NormMid_NormMidIdeal : Prop :=
  True

def algebraic_NormMidIdeal_RefNormMidIdeal [hNormMidIdeal : Cert.NormMidIdeal.Facts] [hRefNormMidIdeal : Cert.RefNormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.RefNormMidIdeal.nD Cert.RefNormMidIdeal.τ Cert.RefNormMidIdeal.sig) → Buf (Elt Ideal) ℓ) (g' : Dev Cert.RefNormMidIdeal.nD → PrngReg), Pre_NormMidIdeal m →
    (∀ c : Dev Cert.NormMidIdeal.nD,
      m' ((c.tc : Thread Cert.RefNormMidIdeal.nD Cert.RefNormMidIdeal.τ).loc Cert.RefNormMidIdeal.main_arg0) = m ((c.tc : Thread Cert.NormMidIdeal.nD Cert.NormMidIdeal.τ).loc Cert.NormMidIdeal.main_arg0)
      ∧ m' ((c.tc : Thread Cert.RefNormMidIdeal.nD Cert.RefNormMidIdeal.τ).loc Cert.RefNormMidIdeal.main_arg1) = m ((c.tc : Thread Cert.NormMidIdeal.nD Cert.NormMidIdeal.τ).loc Cert.NormMidIdeal.main_arg1)
      ∧ m' ((c.tc : Thread Cert.RefNormMidIdeal.nD Cert.RefNormMidIdeal.τ).loc Cert.RefNormMidIdeal.main_arg2) = m ((c.tc : Thread Cert.NormMidIdeal.nD Cert.NormMidIdeal.τ).loc Cert.NormMidIdeal.main_arg2)
      ∧ m' ((c.tc : Thread Cert.RefNormMidIdeal.nD Cert.RefNormMidIdeal.τ).loc Cert.RefNormMidIdeal.main_arg3) = m ((c.tc : Thread Cert.NormMidIdeal.nD Cert.NormMidIdeal.τ).loc Cert.NormMidIdeal.main_arg3)
      ∧ m' ((c.tc : Thread Cert.RefNormMidIdeal.nD Cert.RefNormMidIdeal.τ).loc Cert.RefNormMidIdeal.main_arg4) = m ((c.tc : Thread Cert.NormMidIdeal.nD Cert.NormMidIdeal.τ).loc Cert.NormMidIdeal.main_arg4)
      ∧ m' ((c.tc : Thread Cert.RefNormMidIdeal.nD Cert.RefNormMidIdeal.τ).loc Cert.RefNormMidIdeal.main_arg5) = m ((c.tc : Thread Cert.NormMidIdeal.nD Cert.NormMidIdeal.τ).loc Cert.NormMidIdeal.main_arg5)) →
    ∃ (v0 : (c : Dev Cert.NormMidIdeal.nD) → Buf (Elt Ideal) ((c.tc : Thread Cert.NormMidIdeal.nD Cert.NormMidIdeal.τ).loc Cert.NormMidIdeal.main_v0_0)) (v1 : (c : Dev Cert.NormMidIdeal.nD) → Buf (Elt Ideal) ((c.tc : Thread Cert.NormMidIdeal.nD Cert.NormMidIdeal.τ).loc Cert.NormMidIdeal.main_v0_1)) (v2 : (c : Dev Cert.NormMidIdeal.nD) → Buf (Elt Ideal) ((c.tc : Thread Cert.NormMidIdeal.nD Cert.NormMidIdeal.τ).loc Cert.NormMidIdeal.main_v0_2)) (v3 : (c : Dev Cert.NormMidIdeal.nD) → Buf (Elt Ideal) ((c.tc : Thread Cert.NormMidIdeal.nD Cert.NormMidIdeal.τ).loc Cert.NormMidIdeal.main_v0_3)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v0_0) = v0 c
          ∧ r.2.mem ((c.tc : Thread Cert.NormMidIdeal.nD Cert.NormMidIdeal.τ).loc Cert.NormMidIdeal.main_v0_1) = v1 c
          ∧ r.2.mem ((c.tc : Thread Cert.NormMidIdeal.nD Cert.NormMidIdeal.τ).loc Cert.NormMidIdeal.main_v0_2) = v2 c
          ∧ r.2.mem ((c.tc : Thread Cert.NormMidIdeal.nD Cert.NormMidIdeal.τ).loc Cert.NormMidIdeal.main_v0_3) = v3 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
          ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
          ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ θ_run (Cert.RefNormMidIdeal.defs (F := Ideal)) (onTc (τ := Cert.RefNormMidIdeal.τ) (Cert.RefNormMidIdeal.main (F := Ideal))) ⟨m', fun _ => 0, g'⟩ (fun r => ∀ c : Dev Cert.RefNormMidIdeal.nD,
          r.2.mem ((c.tc : Thread Cert.RefNormMidIdeal.nD Cert.RefNormMidIdeal.τ).loc Cert.RefNormMidIdeal.main_v34) = v0 c
          ∧ r.2.mem ((c.tc : Thread Cert.RefNormMidIdeal.nD Cert.RefNormMidIdeal.τ).loc Cert.RefNormMidIdeal.main_v69) = v1 c
          ∧ r.2.mem ((c.tc : Thread Cert.RefNormMidIdeal.nD Cert.RefNormMidIdeal.τ).loc Cert.RefNormMidIdeal.main_v52) = v2 c
          ∧ r.2.mem ((c.tc : Thread Cert.RefNormMidIdeal.nD Cert.RefNormMidIdeal.τ).loc Cert.RefNormMidIdeal.main_v17) = v3 c
          ∧ r.2.mem ((c.tc : Thread Cert.RefNormMidIdeal.nD Cert.RefNormMidIdeal.τ).loc Cert.RefNormMidIdeal.main_arg0) = m' ((c.tc : Thread Cert.RefNormMidIdeal.nD Cert.RefNormMidIdeal.τ).loc Cert.RefNormMidIdeal.main_arg0)
          ∧ r.2.mem ((c.tc : Thread Cert.RefNormMidIdeal.nD Cert.RefNormMidIdeal.τ).loc Cert.RefNormMidIdeal.main_arg1) = m' ((c.tc : Thread Cert.RefNormMidIdeal.nD Cert.RefNormMidIdeal.τ).loc Cert.RefNormMidIdeal.main_arg1)
          ∧ r.2.mem ((c.tc : Thread Cert.RefNormMidIdeal.nD Cert.RefNormMidIdeal.τ).loc Cert.RefNormMidIdeal.main_arg2) = m' ((c.tc : Thread Cert.RefNormMidIdeal.nD Cert.RefNormMidIdeal.τ).loc Cert.RefNormMidIdeal.main_arg2)
          ∧ r.2.mem ((c.tc : Thread Cert.RefNormMidIdeal.nD Cert.RefNormMidIdeal.τ).loc Cert.RefNormMidIdeal.main_arg3) = m' ((c.tc : Thread Cert.RefNormMidIdeal.nD Cert.RefNormMidIdeal.τ).loc Cert.RefNormMidIdeal.main_arg3)
          ∧ r.2.mem ((c.tc : Thread Cert.RefNormMidIdeal.nD Cert.RefNormMidIdeal.τ).loc Cert.RefNormMidIdeal.main_arg4) = m' ((c.tc : Thread Cert.RefNormMidIdeal.nD Cert.RefNormMidIdeal.τ).loc Cert.RefNormMidIdeal.main_arg4)
          ∧ r.2.mem ((c.tc : Thread Cert.RefNormMidIdeal.nD Cert.RefNormMidIdeal.τ).loc Cert.RefNormMidIdeal.main_arg5) = m' ((c.tc : Thread Cert.RefNormMidIdeal.nD Cert.RefNormMidIdeal.τ).loc Cert.RefNormMidIdeal.main_arg5))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v26) = v0 c
          ∧ r.2.mem ((c.tc : Thread Cert.RefMergeIdeal.nD Cert.RefMergeIdeal.τ).loc Cert.RefMergeIdeal.main_v27) = v1 c
          ∧ r.2.mem ((c.tc : Thread Cert.RefMergeIdeal.nD Cert.RefMergeIdeal.τ).loc Cert.RefMergeIdeal.main_v28) = v2 c
          ∧ r.2.mem ((c.tc : Thread Cert.RefMergeIdeal.nD Cert.RefMergeIdeal.τ).loc Cert.RefMergeIdeal.main_v25) = v3 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)
      ∧ m' ((c.tc : Thread Cert.RefGluIdeal.nD Cert.RefGluIdeal.τ).loc Cert.RefGluIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)) (v2 : (c : Dev Cert.GluIdeal.nD) → Buf (Elt Ideal) ((c.tc : Thread Cert.GluIdeal.nD Cert.GluIdeal.τ).loc Cert.GluIdeal.main_v0_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_v0_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v13) = v0 c
          ∧ r.2.mem ((c.tc : Thread Cert.RefGluIdeal.nD Cert.RefGluIdeal.τ).loc Cert.RefGluIdeal.main_v17) = v1 c
          ∧ r.2.mem ((c.tc : Thread Cert.RefGluIdeal.nD Cert.RefGluIdeal.τ).loc Cert.RefGluIdeal.main_v16) = v2 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2)
          ∧ r.2.mem ((c.tc : Thread Cert.RefGluIdeal.nD Cert.RefGluIdeal.τ).loc Cert.RefGluIdeal.main_arg3) = m' ((c.tc : Thread Cert.RefGluIdeal.nD Cert.RefGluIdeal.τ).loc Cert.RefGluIdeal.main_arg3))

def preserves_Mid_MidIdeal : Prop :=
  True

def algebraic_MidIdeal_RefMidIdeal [hMidIdeal : Cert.MidIdeal.Facts] [hRefMidIdeal : Cert.RefMidIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.RefMidIdeal.nD Cert.RefMidIdeal.τ Cert.RefMidIdeal.sig) → Buf (Elt Ideal) ℓ) (g' : Dev Cert.RefMidIdeal.nD → PrngReg), Pre_MidIdeal m →
    (∀ c : Dev Cert.MidIdeal.nD,
      m' ((c.tc : Thread Cert.RefMidIdeal.nD Cert.RefMidIdeal.τ).loc Cert.RefMidIdeal.main_arg0) = m ((c.tc : Thread Cert.MidIdeal.nD Cert.MidIdeal.τ).loc Cert.MidIdeal.main_arg0)
      ∧ m' ((c.tc : Thread Cert.RefMidIdeal.nD Cert.RefMidIdeal.τ).loc Cert.RefMidIdeal.main_arg1) = m ((c.tc : Thread Cert.MidIdeal.nD Cert.MidIdeal.τ).loc Cert.MidIdeal.main_arg1)
      ∧ m' ((c.tc : Thread Cert.RefMidIdeal.nD Cert.RefMidIdeal.τ).loc Cert.RefMidIdeal.main_arg2) = m ((c.tc : Thread Cert.MidIdeal.nD Cert.MidIdeal.τ).loc Cert.MidIdeal.main_arg2)
      ∧ m' ((c.tc : Thread Cert.RefMidIdeal.nD Cert.RefMidIdeal.τ).loc Cert.RefMidIdeal.main_arg3) = m ((c.tc : Thread Cert.MidIdeal.nD Cert.MidIdeal.τ).loc Cert.MidIdeal.main_arg3)
      ∧ m' ((c.tc : Thread Cert.RefMidIdeal.nD Cert.RefMidIdeal.τ).loc Cert.RefMidIdeal.main_arg4) = m ((c.tc : Thread Cert.MidIdeal.nD Cert.MidIdeal.τ).loc Cert.MidIdeal.main_arg4)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ θ_run (Cert.RefMidIdeal.defs (F := Ideal)) (onTc (τ := Cert.RefMidIdeal.τ) (Cert.RefMidIdeal.main (F := Ideal))) ⟨m', fun _ => 0, g'⟩ (fun r => ∀ c : Dev Cert.RefMidIdeal.nD,
          r.2.mem ((c.tc : Thread Cert.RefMidIdeal.nD Cert.RefMidIdeal.τ).loc Cert.RefMidIdeal.main_v42) = v0 c
          ∧ r.2.mem ((c.tc : Thread Cert.RefMidIdeal.nD Cert.RefMidIdeal.τ).loc Cert.RefMidIdeal.main_v38) = v1 c
          ∧ r.2.mem ((c.tc : Thread Cert.RefMidIdeal.nD Cert.RefMidIdeal.τ).loc Cert.RefMidIdeal.main_v41) = v2 c
          ∧ r.2.mem ((c.tc : Thread Cert.RefMidIdeal.nD Cert.RefMidIdeal.τ).loc Cert.RefMidIdeal.main_arg0) = m' ((c.tc : Thread Cert.RefMidIdeal.nD Cert.RefMidIdeal.τ).loc Cert.RefMidIdeal.main_arg0)
          ∧ r.2.mem ((c.tc : Thread Cert.RefMidIdeal.nD Cert.RefMidIdeal.τ).loc Cert.RefMidIdeal.main_arg1) = m' ((c.tc : Thread Cert.RefMidIdeal.nD Cert.RefMidIdeal.τ).loc Cert.RefMidIdeal.main_arg1)
          ∧ r.2.mem ((c.tc : Thread Cert.RefMidIdeal.nD Cert.RefMidIdeal.τ).loc Cert.RefMidIdeal.main_arg2) = m' ((c.tc : Thread Cert.RefMidIdeal.nD Cert.RefMidIdeal.τ).loc Cert.RefMidIdeal.main_arg2)
          ∧ r.2.mem ((c.tc : Thread Cert.RefMidIdeal.nD Cert.RefMidIdeal.τ).loc Cert.RefMidIdeal.main_arg3) = m' ((c.tc : Thread Cert.RefMidIdeal.nD Cert.RefMidIdeal.τ).loc Cert.RefMidIdeal.main_arg3)
          ∧ r.2.mem ((c.tc : Thread Cert.RefMidIdeal.nD Cert.RefMidIdeal.τ).loc Cert.RefMidIdeal.main_arg4) = m' ((c.tc : Thread Cert.RefMidIdeal.nD Cert.RefMidIdeal.τ).loc Cert.RefMidIdeal.main_arg4))

def preserves_NormPre_NormPreIdeal : Prop :=
  True

def algebraic_NormPreIdeal_RefNormPreIdeal [hNormPreIdeal : Cert.NormPreIdeal.Facts] [hRefNormPreIdeal : Cert.RefNormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg)
    (m' : (ℓ : Loc Cert.RefNormPreIdeal.nD Cert.RefNormPreIdeal.τ Cert.RefNormPreIdeal.sig) → Buf (Elt Ideal) ℓ) (g' : Dev Cert.RefNormPreIdeal.nD → PrngReg), Pre_NormPreIdeal m →
    (∀ c : Dev Cert.NormPreIdeal.nD,
      m' ((c.tc : Thread Cert.RefNormPreIdeal.nD Cert.RefNormPreIdeal.τ).loc Cert.RefNormPreIdeal.main_arg0) = m ((c.tc : Thread Cert.NormPreIdeal.nD Cert.NormPreIdeal.τ).loc Cert.NormPreIdeal.main_arg0)
      ∧ m' ((c.tc : Thread Cert.RefNormPreIdeal.nD Cert.RefNormPreIdeal.τ).loc Cert.RefNormPreIdeal.main_arg1) = m ((c.tc : Thread Cert.NormPreIdeal.nD Cert.NormPreIdeal.τ).loc Cert.NormPreIdeal.main_arg1)
      ∧ m' ((c.tc : Thread Cert.RefNormPreIdeal.nD Cert.RefNormPreIdeal.τ).loc Cert.RefNormPreIdeal.main_arg2) = m ((c.tc : Thread Cert.NormPreIdeal.nD Cert.NormPreIdeal.τ).loc Cert.NormPreIdeal.main_arg2)
      ∧ m' ((c.tc : Thread Cert.RefNormPreIdeal.nD Cert.RefNormPreIdeal.τ).loc Cert.RefNormPreIdeal.main_arg3) = m ((c.tc : Thread Cert.NormPreIdeal.nD Cert.NormPreIdeal.τ).loc Cert.NormPreIdeal.main_arg3)) →
    ∃ (v0 : (c : Dev Cert.NormPreIdeal.nD) → Buf (Elt Ideal) ((c.tc : Thread Cert.NormPreIdeal.nD Cert.NormPreIdeal.τ).loc Cert.NormPreIdeal.main_v0_0)) (v1 : (c : Dev Cert.NormPreIdeal.nD) → Buf (Elt Ideal) ((c.tc : Thread Cert.NormPreIdeal.nD Cert.NormPreIdeal.τ).loc Cert.NormPreIdeal.main_v0_1)),
      θ_run (Cert.NormPreIdeal.defs (F := Ideal)) (onTc (τ := Cert.NormPreIdeal.τ) (Cert.NormPreIdeal.main (F := Ideal))) ⟨m, fun _ => 0, g⟩ (fun r => ∀ c : Dev Cert.NormPreIdeal.nD,
          r.2.mem ((c.tc : Thread Cert.NormPreIdeal.nD Cert.NormPreIdeal.τ).loc Cert.NormPreIdeal.main_v0_0) = v0 c
          ∧ r.2.mem ((c.tc : Thread Cert.NormPreIdeal.nD Cert.NormPreIdeal.τ).loc Cert.NormPreIdeal.main_v0_1) = v1 c
          ∧ r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
          ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
          ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
          ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ θ_run (Cert.RefNormPreIdeal.defs (F := Ideal)) (onTc (τ := Cert.RefNormPreIdeal.τ) (Cert.RefNormPreIdeal.main (F := Ideal))) ⟨m', fun _ => 0, g'⟩ (fun r => ∀ c : Dev Cert.RefNormPreIdeal.nD,
          r.2.mem ((c.tc : Thread Cert.RefNormPreIdeal.nD Cert.RefNormPreIdeal.τ).loc Cert.RefNormPreIdeal.main_v34) = v0 c
          ∧ r.2.mem ((c.tc : Thread Cert.RefNormPreIdeal.nD Cert.RefNormPreIdeal.τ).loc Cert.RefNormPreIdeal.main_v17) = v1 c
          ∧ r.2.mem ((c.tc : Thread Cert.RefNormPreIdeal.nD Cert.RefNormPreIdeal.τ).loc Cert.RefNormPreIdeal.main_arg0) = m' ((c.tc : Thread Cert.RefNormPreIdeal.nD Cert.RefNormPreIdeal.τ).loc Cert.RefNormPreIdeal.main_arg0)
          ∧ r.2.mem ((c.tc : Thread Cert.RefNormPreIdeal.nD Cert.RefNormPreIdeal.τ).loc Cert.RefNormPreIdeal.main_arg1) = m' ((c.tc : Thread Cert.RefNormPreIdeal.nD Cert.RefNormPreIdeal.τ).loc Cert.RefNormPreIdeal.main_arg1)
          ∧ r.2.mem ((c.tc : Thread Cert.RefNormPreIdeal.nD Cert.RefNormPreIdeal.τ).loc Cert.RefNormPreIdeal.main_arg2) = m' ((c.tc : Thread Cert.RefNormPreIdeal.nD Cert.RefNormPreIdeal.τ).loc Cert.RefNormPreIdeal.main_arg2)
          ∧ r.2.mem ((c.tc : Thread Cert.RefNormPreIdeal.nD Cert.RefNormPreIdeal.τ).loc Cert.RefNormPreIdeal.main_arg3) = m' ((c.tc : Thread Cert.RefNormPreIdeal.nD Cert.RefNormPreIdeal.τ).loc Cert.RefNormPreIdeal.main_arg3))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)
      ∧ m' ((c.tc : Thread Cert.RefLossIdeal.nD Cert.RefLossIdeal.τ).loc Cert.RefLossIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v50) = v0 c
          ∧ r.2.mem ((c.tc : Thread Cert.RefLossIdeal.nD Cert.RefLossIdeal.τ).loc Cert.RefLossIdeal.main_v30) = v1 c
          ∧ r.2.mem ((c.tc : Thread Cert.RefLossIdeal.nD Cert.RefLossIdeal.τ).loc Cert.RefLossIdeal.main_v51) = v2 c
          ∧ r.2.mem ((c.tc : Thread Cert.RefLossIdeal.nD Cert.RefLossIdeal.τ).loc Cert.RefLossIdeal.main_v33) = v3 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2)
          ∧ r.2.mem ((c.tc : Thread Cert.RefLossIdeal.nD Cert.RefLossIdeal.τ).loc Cert.RefLossIdeal.main_arg3) = m' ((c.tc : Thread Cert.RefLossIdeal.nD Cert.RefLossIdeal.τ).loc Cert.RefLossIdeal.main_arg3))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v15) = v0 c
          ∧ r.2.mem ((c.tc : Thread Cert.RefInProjIdeal.nD Cert.RefInProjIdeal.τ).loc Cert.RefInProjIdeal.main_v16) = v1 c
          ∧ r.2.mem ((c.tc : Thread Cert.RefInProjIdeal.nD Cert.RefInProjIdeal.τ).loc Cert.RefInProjIdeal.main_v17) = v2 c
          ∧ r.2.mem ((c.tc : Thread Cert.RefInProjIdeal.nD Cert.RefInProjIdeal.τ).loc Cert.RefInProjIdeal.main_v18) = v3 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2))

def preserves_MidUp_MidUpIdeal : Prop :=
  True

def algebraic_MidUpIdeal_RefMidUpIdeal [hMidUpIdeal : Cert.MidUpIdeal.Facts] [hRefMidUpIdeal : Cert.RefMidUpIdeal.Facts] : Prop :=
  ∀ (m : (ℓ : Loc Cert.MidUpIdeal.nD Cert.MidUpIdeal.τ Cert.MidUpIdeal.sig) → Buf (Elt Ideal) ℓ) (g : Dev Cert.MidUpIdeal.nD → PrngReg)
    (m' : (ℓ : Loc Cert.RefMidUpIdeal.nD Cert.RefMidUpIdeal.τ Cert.RefMidUpIdeal.sig) → Buf (Elt Ideal) ℓ) (g' : Dev Cert.RefMidUpIdeal.nD → PrngReg), Pre_MidUpIdeal m →
    (∀ c : Dev Cert.MidUpIdeal.nD,
      m' ((c.tc : Thread Cert.RefMidUpIdeal.nD Cert.RefMidUpIdeal.τ).loc Cert.RefMidUpIdeal.main_arg0) = m ((c.tc : Thread Cert.MidUpIdeal.nD Cert.MidUpIdeal.τ).loc Cert.MidUpIdeal.main_arg0)
      ∧ m' ((c.tc : Thread Cert.RefMidUpIdeal.nD Cert.RefMidUpIdeal.τ).loc Cert.RefMidUpIdeal.main_arg1) = m ((c.tc : Thread Cert.MidUpIdeal.nD Cert.MidUpIdeal.τ).loc Cert.MidUpIdeal.main_arg1)
      ∧ m' ((c.tc : Thread Cert.RefMidUpIdeal.nD Cert.RefMidUpIdeal.τ).loc Cert.RefMidUpIdeal.main_arg2) = m ((c.tc : Thread Cert.MidUpIdeal.nD Cert.MidUpIdeal.τ).loc Cert.MidUpIdeal.main_arg2)
      ∧ m' ((c.tc : Thread Cert.RefMidUpIdeal.nD Cert.RefMidUpIdeal.τ).loc Cert.RefMidUpIdeal.main_arg3) = m ((c.tc : Thread Cert.MidUpIdeal.nD Cert.MidUpIdeal.τ).loc Cert.MidUpIdeal.main_arg3)) →
    ∃ (v0 : (c : Dev Cert.MidUpIdeal.nD) → Buf (Elt Ideal) ((c.tc : Thread Cert.MidUpIdeal.nD Cert.MidUpIdeal.τ).loc Cert.MidUpIdeal.main_v0_0)) (v1 : (c : Dev Cert.MidUpIdeal.nD) → Buf (Elt Ideal) ((c.tc : Thread Cert.MidUpIdeal.nD Cert.MidUpIdeal.τ).loc Cert.MidUpIdeal.main_v0_1)) (v2 : (c : Dev Cert.MidUpIdeal.nD) → Buf (Elt Ideal) ((c.tc : Thread Cert.MidUpIdeal.nD Cert.MidUpIdeal.τ).loc Cert.MidUpIdeal.main_v0_2)),
      θ_run (Cert.MidUpIdeal.defs (F := Ideal)) (onTc (τ := Cert.MidUpIdeal.τ) (Cert.MidUpIdeal.main (F := Ideal))) ⟨m, fun _ => 0, g⟩ (fun r => ∀ c : Dev Cert.MidUpIdeal.nD,
          r.2.mem ((c.tc : Thread Cert.MidUpIdeal.nD Cert.MidUpIdeal.τ).loc Cert.MidUpIdeal.main_v0_0) = v0 c
          ∧ r.2.mem ((c.tc : Thread Cert.MidUpIdeal.nD Cert.MidUpIdeal.τ).loc Cert.MidUpIdeal.main_v0_1) = v1 c
          ∧ r.2.mem ((c.tc : Thread Cert.MidUpIdeal.nD Cert.MidUpIdeal.τ).loc Cert.MidUpIdeal.main_v0_2) = v2 c
          ∧ r.2.mem ((c.tc : Thread Cert.MidUpIdeal.nD Cert.MidUpIdeal.τ).loc Cert.MidUpIdeal.main_arg0) = m ((c.tc : Thread Cert.MidUpIdeal.nD Cert.MidUpIdeal.τ).loc Cert.MidUpIdeal.main_arg0)
          ∧ r.2.mem ((c.tc : Thread Cert.MidUpIdeal.nD Cert.MidUpIdeal.τ).loc Cert.MidUpIdeal.main_arg1) = m ((c.tc : Thread Cert.MidUpIdeal.nD Cert.MidUpIdeal.τ).loc Cert.MidUpIdeal.main_arg1)
          ∧ r.2.mem ((c.tc : Thread Cert.MidUpIdeal.nD Cert.MidUpIdeal.τ).loc Cert.MidUpIdeal.main_arg2) = m ((c.tc : Thread Cert.MidUpIdeal.nD Cert.MidUpIdeal.τ).loc Cert.MidUpIdeal.main_arg2)
          ∧ r.2.mem ((c.tc : Thread Cert.MidUpIdeal.nD Cert.MidUpIdeal.τ).loc Cert.MidUpIdeal.main_arg3) = m ((c.tc : Thread Cert.MidUpIdeal.nD Cert.MidUpIdeal.τ).loc Cert.MidUpIdeal.main_arg3))
      ∧ θ_run (Cert.RefMidUpIdeal.defs (F := Ideal)) (onTc (τ := Cert.RefMidUpIdeal.τ) (Cert.RefMidUpIdeal.main (F := Ideal))) ⟨m', fun _ => 0, g'⟩ (fun r => ∀ c : Dev Cert.RefMidUpIdeal.nD,
          r.2.mem ((c.tc : Thread Cert.RefMidUpIdeal.nD Cert.RefMidUpIdeal.τ).loc Cert.RefMidUpIdeal.main_v16) = v0 c
          ∧ r.2.mem ((c.tc : Thread Cert.RefMidUpIdeal.nD Cert.RefMidUpIdeal.τ).loc Cert.RefMidUpIdeal.main_v15) = v1 c
          ∧ r.2.mem ((c.tc : Thread Cert.RefMidUpIdeal.nD Cert.RefMidUpIdeal.τ).loc Cert.RefMidUpIdeal.main_v18) = v2 c
          ∧ r.2.mem ((c.tc : Thread Cert.RefMidUpIdeal.nD Cert.RefMidUpIdeal.τ).loc Cert.RefMidUpIdeal.main_arg0) = m' ((c.tc : Thread Cert.RefMidUpIdeal.nD Cert.RefMidUpIdeal.τ).loc Cert.RefMidUpIdeal.main_arg0)
          ∧ r.2.mem ((c.tc : Thread Cert.RefMidUpIdeal.nD Cert.RefMidUpIdeal.τ).loc Cert.RefMidUpIdeal.main_arg1) = m' ((c.tc : Thread Cert.RefMidUpIdeal.nD Cert.RefMidUpIdeal.τ).loc Cert.RefMidUpIdeal.main_arg1)
          ∧ r.2.mem ((c.tc : Thread Cert.RefMidUpIdeal.nD Cert.RefMidUpIdeal.τ).loc Cert.RefMidUpIdeal.main_arg2) = m' ((c.tc : Thread Cert.RefMidUpIdeal.nD Cert.RefMidUpIdeal.τ).loc Cert.RefMidUpIdeal.main_arg2)
          ∧ r.2.mem ((c.tc : Thread Cert.RefMidUpIdeal.nD Cert.RefMidUpIdeal.τ).loc Cert.RefMidUpIdeal.main_arg3) = m' ((c.tc : Thread Cert.RefMidUpIdeal.nD Cert.RefMidUpIdeal.τ).loc Cert.RefMidUpIdeal.main_arg3))

def preserves_GluUp_GluUpIdeal : Prop :=
  True

def algebraic_GluUpIdeal_RefGluUpIdeal [hGluUpIdeal : Cert.GluUpIdeal.Facts] [hRefGluUpIdeal : Cert.RefGluUpIdeal.Facts] : Prop :=
  ∀ (m : (ℓ : Loc Cert.GluUpIdeal.nD Cert.GluUpIdeal.τ Cert.GluUpIdeal.sig) → Buf (Elt Ideal) ℓ) (g : Dev Cert.GluUpIdeal.nD → PrngReg)
    (m' : (ℓ : Loc Cert.RefGluUpIdeal.nD Cert.RefGluUpIdeal.τ Cert.RefGluUpIdeal.sig) → Buf (Elt Ideal) ℓ) (g' : Dev Cert.RefGluUpIdeal.nD → PrngReg), Pre_GluUpIdeal m →
    (∀ c : Dev Cert.GluUpIdeal.nD,
      m' ((c.tc : Thread Cert.RefGluUpIdeal.nD Cert.RefGluUpIdeal.τ).loc Cert.RefGluUpIdeal.main_arg0) = m ((c.tc : Thread Cert.GluUpIdeal.nD Cert.GluUpIdeal.τ).loc Cert.GluUpIdeal.main_arg0)
      ∧ m' ((c.tc : Thread Cert.RefGluUpIdeal.nD Cert.RefGluUpIdeal.τ).loc Cert.RefGluUpIdeal.main_arg1) = m ((c.tc : Thread Cert.GluUpIdeal.nD Cert.GluUpIdeal.τ).loc Cert.GluUpIdeal.main_arg1)
      ∧ m' ((c.tc : Thread Cert.RefGluUpIdeal.nD Cert.RefGluUpIdeal.τ).loc Cert.RefGluUpIdeal.main_arg2) = m ((c.tc : Thread Cert.GluUpIdeal.nD Cert.GluUpIdeal.τ).loc Cert.GluUpIdeal.main_arg2)
      ∧ m' ((c.tc : Thread Cert.RefGluUpIdeal.nD Cert.RefGluUpIdeal.τ).loc Cert.RefGluUpIdeal.main_arg3) = m ((c.tc : Thread Cert.GluUpIdeal.nD Cert.GluUpIdeal.τ).loc Cert.GluUpIdeal.main_arg3)) →
    ∃ (v0 : (c : Dev Cert.GluUpIdeal.nD) → Buf (Elt Ideal) ((c.tc : Thread Cert.GluUpIdeal.nD Cert.GluUpIdeal.τ).loc Cert.GluUpIdeal.main_v0_0)) (v1 : (c : Dev Cert.GluUpIdeal.nD) → Buf (Elt Ideal) ((c.tc : Thread Cert.GluUpIdeal.nD Cert.GluUpIdeal.τ).loc Cert.GluUpIdeal.main_v0_1)),
      θ_run (Cert.GluUpIdeal.defs (F := Ideal)) (onTc (τ := Cert.GluUpIdeal.τ) (Cert.GluUpIdeal.main (F := Ideal))) ⟨m, fun _ => 0, g⟩ (fun r => ∀ c : Dev Cert.GluUpIdeal.nD,
          r.2.mem ((c.tc : Thread Cert.GluUpIdeal.nD Cert.GluUpIdeal.τ).loc Cert.GluUpIdeal.main_v0_0) = v0 c
          ∧ r.2.mem ((c.tc : Thread Cert.GluUpIdeal.nD Cert.GluUpIdeal.τ).loc Cert.GluUpIdeal.main_v0_1) = v1 c
          ∧ r.2.mem ((c.tc : Thread Cert.GluUpIdeal.nD Cert.GluUpIdeal.τ).loc Cert.GluUpIdeal.main_arg0) = m ((c.tc : Thread Cert.GluUpIdeal.nD Cert.GluUpIdeal.τ).loc Cert.GluUpIdeal.main_arg0)
          ∧ r.2.mem ((c.tc : Thread Cert.GluUpIdeal.nD Cert.GluUpIdeal.τ).loc Cert.GluUpIdeal.main_arg1) = m ((c.tc : Thread Cert.GluUpIdeal.nD Cert.GluUpIdeal.τ).loc Cert.GluUpIdeal.main_arg1)
          ∧ r.2.mem ((c.tc : Thread Cert.GluUpIdeal.nD Cert.GluUpIdeal.τ).loc Cert.GluUpIdeal.main_arg2) = m ((c.tc : Thread Cert.GluUpIdeal.nD Cert.GluUpIdeal.τ).loc Cert.GluUpIdeal.main_arg2)
          ∧ r.2.mem ((c.tc : Thread Cert.GluUpIdeal.nD Cert.GluUpIdeal.τ).loc Cert.GluUpIdeal.main_arg3) = m ((c.tc : Thread Cert.GluUpIdeal.nD Cert.GluUpIdeal.τ).loc Cert.GluUpIdeal.main_arg3))
      ∧ θ_run (Cert.RefGluUpIdeal.defs (F := Ideal)) (onTc (τ := Cert.RefGluUpIdeal.τ) (Cert.RefGluUpIdeal.main (F := Ideal))) ⟨m', fun _ => 0, g'⟩ (fun r => ∀ c : Dev Cert.RefGluUpIdeal.nD,
          r.2.mem ((c.tc : Thread Cert.RefGluUpIdeal.nD Cert.RefGluUpIdeal.τ).loc Cert.RefGluUpIdeal.main_v9) = v0 c
          ∧ r.2.mem ((c.tc : Thread Cert.RefGluUpIdeal.nD Cert.RefGluUpIdeal.τ).loc Cert.RefGluUpIdeal.main_v11) = v1 c
          ∧ r.2.mem ((c.tc : Thread Cert.RefGluUpIdeal.nD Cert.RefGluUpIdeal.τ).loc Cert.RefGluUpIdeal.main_arg0) = m' ((c.tc : Thread Cert.RefGluUpIdeal.nD Cert.RefGluUpIdeal.τ).loc Cert.RefGluUpIdeal.main_arg0)
          ∧ r.2.mem ((c.tc : Thread Cert.RefGluUpIdeal.nD Cert.RefGluUpIdeal.τ).loc Cert.RefGluUpIdeal.main_arg1) = m' ((c.tc : Thread Cert.RefGluUpIdeal.nD Cert.RefGluUpIdeal.τ).loc Cert.RefGluUpIdeal.main_arg1)
          ∧ r.2.mem ((c.tc : Thread Cert.RefGluUpIdeal.nD Cert.RefGluUpIdeal.τ).loc Cert.RefGluUpIdeal.main_arg2) = m' ((c.tc : Thread Cert.RefGluUpIdeal.nD Cert.RefGluUpIdeal.τ).loc Cert.RefGluUpIdeal.main_arg2)
          ∧ r.2.mem ((c.tc : Thread Cert.RefGluUpIdeal.nD Cert.RefGluUpIdeal.τ).loc Cert.RefGluUpIdeal.main_arg3) = m' ((c.tc : Thread Cert.RefGluUpIdeal.nD Cert.RefGluUpIdeal.τ).loc Cert.RefGluUpIdeal.main_arg3))

def preserves_MergeUp_MergeUpIdeal : Prop :=
  True

def algebraic_MergeUpIdeal_RefMergeUpIdeal [hMergeUpIdeal : Cert.MergeUpIdeal.Facts] [hRefMergeUpIdeal : Cert.RefMergeUpIdeal.Facts] : Prop :=
  ∀ (m : (ℓ : Loc Cert.MergeUpIdeal.nD Cert.MergeUpIdeal.τ Cert.MergeUpIdeal.sig) → Buf (Elt Ideal) ℓ) (g : Dev Cert.MergeUpIdeal.nD → PrngReg)
    (m' : (ℓ : Loc Cert.RefMergeUpIdeal.nD Cert.RefMergeUpIdeal.τ Cert.RefMergeUpIdeal.sig) → Buf (Elt Ideal) ℓ) (g' : Dev Cert.RefMergeUpIdeal.nD → PrngReg), Pre_MergeUpIdeal m →
    (∀ c : Dev Cert.MergeUpIdeal.nD,
      m' ((c.tc : Thread Cert.RefMergeUpIdeal.nD Cert.RefMergeUpIdeal.τ).loc Cert.RefMergeUpIdeal.main_arg0) = m ((c.tc : Thread Cert.MergeUpIdeal.nD Cert.MergeUpIdeal.τ).loc Cert.MergeUpIdeal.main_arg0)
      ∧ m' ((c.tc : Thread Cert.RefMergeUpIdeal.nD Cert.RefMergeUpIdeal.τ).loc Cert.RefMergeUpIdeal.main_arg1) = m ((c.tc : Thread Cert.MergeUpIdeal.nD Cert.MergeUpIdeal.τ).loc Cert.MergeUpIdeal.main_arg1)
      ∧ m' ((c.tc : Thread Cert.RefMergeUpIdeal.nD Cert.RefMergeUpIdeal.τ).loc Cert.RefMergeUpIdeal.main_arg2) = m ((c.tc : Thread Cert.MergeUpIdeal.nD Cert.MergeUpIdeal.τ).loc Cert.MergeUpIdeal.main_arg2)
      ∧ m' ((c.tc : Thread Cert.RefMergeUpIdeal.nD Cert.RefMergeUpIdeal.τ).loc Cert.RefMergeUpIdeal.main_arg3) = m ((c.tc : Thread Cert.MergeUpIdeal.nD Cert.MergeUpIdeal.τ).loc Cert.MergeUpIdeal.main_arg3)
      ∧ m' ((c.tc : Thread Cert.RefMergeUpIdeal.nD Cert.RefMergeUpIdeal.τ).loc Cert.RefMergeUpIdeal.main_arg4) = m ((c.tc : Thread Cert.MergeUpIdeal.nD Cert.MergeUpIdeal.τ).loc Cert.MergeUpIdeal.main_arg4)) →
    ∃ (v0 : (c : Dev Cert.MergeUpIdeal.nD) → Buf (Elt Ideal) ((c.tc : Thread Cert.MergeUpIdeal.nD Cert.MergeUpIdeal.τ).loc Cert.MergeUpIdeal.main_v0_0)) (v1 : (c : Dev Cert.MergeUpIdeal.nD) → Buf (Elt Ideal) ((c.tc : Thread Cert.MergeUpIdeal.nD Cert.MergeUpIdeal.τ).loc Cert.MergeUpIdeal.main_v0_1)),
      θ_run (Cert.MergeUpIdeal.defs (F := Ideal)) (onTc (τ := Cert.MergeUpIdeal.τ) (Cert.MergeUpIdeal.main (F := Ideal))) ⟨m, fun _ => 0, g⟩ (fun r => ∀ c : Dev Cert.MergeUpIdeal.nD,
          r.2.mem ((c.tc : Thread Cert.MergeUpIdeal.nD Cert.MergeUpIdeal.τ).loc Cert.MergeUpIdeal.main_v0_0) = v0 c
          ∧ r.2.mem ((c.tc : Thread Cert.MergeUpIdeal.nD Cert.MergeUpIdeal.τ).loc Cert.MergeUpIdeal.main_v0_1) = v1 c
          ∧ r.2.mem ((c.tc : Thread Cert.MergeUpIdeal.nD Cert.MergeUpIdeal.τ).loc Cert.MergeUpIdeal.main_arg0) = m ((c.tc : Thread Cert.MergeUpIdeal.nD Cert.MergeUpIdeal.τ).loc Cert.MergeUpIdeal.main_arg0)
          ∧ r.2.mem ((c.tc : Thread Cert.MergeUpIdeal.nD Cert.MergeUpIdeal.τ).loc Cert.MergeUpIdeal.main_arg1) = m ((c.tc : Thread Cert.MergeUpIdeal.nD Cert.MergeUpIdeal.τ).loc Cert.MergeUpIdeal.main_arg1)
          ∧ r.2.mem ((c.tc : Thread Cert.MergeUpIdeal.nD Cert.MergeUpIdeal.τ).loc Cert.MergeUpIdeal.main_arg2) = m ((c.tc : Thread Cert.MergeUpIdeal.nD Cert.MergeUpIdeal.τ).loc Cert.MergeUpIdeal.main_arg2)
          ∧ r.2.mem ((c.tc : Thread Cert.MergeUpIdeal.nD Cert.MergeUpIdeal.τ).loc Cert.MergeUpIdeal.main_arg3) = m ((c.tc : Thread Cert.MergeUpIdeal.nD Cert.MergeUpIdeal.τ).loc Cert.MergeUpIdeal.main_arg3)
          ∧ r.2.mem ((c.tc : Thread Cert.MergeUpIdeal.nD Cert.MergeUpIdeal.τ).loc Cert.MergeUpIdeal.main_arg4) = m ((c.tc : Thread Cert.MergeUpIdeal.nD Cert.MergeUpIdeal.τ).loc Cert.MergeUpIdeal.main_arg4))
      ∧ θ_run (Cert.RefMergeUpIdeal.defs (F := Ideal)) (onTc (τ := Cert.RefMergeUpIdeal.τ) (Cert.RefMergeUpIdeal.main (F := Ideal))) ⟨m', fun _ => 0, g'⟩ (fun r => ∀ c : Dev Cert.RefMergeUpIdeal.nD,
          r.2.mem ((c.tc : Thread Cert.RefMergeUpIdeal.nD Cert.RefMergeUpIdeal.τ).loc Cert.RefMergeUpIdeal.main_v13) = v0 c
          ∧ r.2.mem ((c.tc : Thread Cert.RefMergeUpIdeal.nD Cert.RefMergeUpIdeal.τ).loc Cert.RefMergeUpIdeal.main_v15) = v1 c
          ∧ r.2.mem ((c.tc : Thread Cert.RefMergeUpIdeal.nD Cert.RefMergeUpIdeal.τ).loc Cert.RefMergeUpIdeal.main_arg0) = m' ((c.tc : Thread Cert.RefMergeUpIdeal.nD Cert.RefMergeUpIdeal.τ).loc Cert.RefMergeUpIdeal.main_arg0)
          ∧ r.2.mem ((c.tc : Thread Cert.RefMergeUpIdeal.nD Cert.RefMergeUpIdeal.τ).loc Cert.RefMergeUpIdeal.main_arg1) = m' ((c.tc : Thread Cert.RefMergeUpIdeal.nD Cert.RefMergeUpIdeal.τ).loc Cert.RefMergeUpIdeal.main_arg1)
          ∧ r.2.mem ((c.tc : Thread Cert.RefMergeUpIdeal.nD Cert.RefMergeUpIdeal.τ).loc Cert.RefMergeUpIdeal.main_arg2) = m' ((c.tc : Thread Cert.RefMergeUpIdeal.nD Cert.RefMergeUpIdeal.τ).loc Cert.RefMergeUpIdeal.main_arg2)
          ∧ r.2.mem ((c.tc : Thread Cert.RefMergeUpIdeal.nD Cert.RefMergeUpIdeal.τ).loc Cert.RefMergeUpIdeal.main_arg3) = m' ((c.tc : Thread Cert.RefMergeUpIdeal.nD Cert.RefMergeUpIdeal.τ).loc Cert.RefMergeUpIdeal.main_arg3)
          ∧ r.2.mem ((c.tc : Thread Cert.RefMergeUpIdeal.nD Cert.RefMergeUpIdeal.τ).loc Cert.RefMergeUpIdeal.main_arg4) = m' ((c.tc : Thread Cert.RefMergeUpIdeal.nD Cert.RefMergeUpIdeal.τ).loc Cert.RefMergeUpIdeal.main_arg4))

def preserves_ResidUp_ResidUpIdeal : Prop :=
  True

def algebraic_ResidUpIdeal_RefResidUpIdeal [hResidUpIdeal : Cert.ResidUpIdeal.Facts] [hRefResidUpIdeal : Cert.RefResidUpIdeal.Facts] : Prop :=
  ∀ (m : (ℓ : Loc Cert.ResidUpIdeal.nD Cert.ResidUpIdeal.τ Cert.ResidUpIdeal.sig) → Buf (Elt Ideal) ℓ) (g : Dev Cert.ResidUpIdeal.nD → PrngReg)
    (m' : (ℓ : Loc Cert.RefResidUpIdeal.nD Cert.RefResidUpIdeal.τ Cert.RefResidUpIdeal.sig) → Buf (Elt Ideal) ℓ) (g' : Dev Cert.RefResidUpIdeal.nD → PrngReg), Pre_ResidUpIdeal m →
    (∀ c : Dev Cert.ResidUpIdeal.nD,
      m' ((c.tc : Thread Cert.RefResidUpIdeal.nD Cert.RefResidUpIdeal.τ).loc Cert.RefResidUpIdeal.main_arg0) = m ((c.tc : Thread Cert.ResidUpIdeal.nD Cert.ResidUpIdeal.τ).loc Cert.ResidUpIdeal.main_arg0)
      ∧ m' ((c.tc : Thread Cert.RefResidUpIdeal.nD Cert.RefResidUpIdeal.τ).loc Cert.RefResidUpIdeal.main_arg1) = m ((c.tc : Thread Cert.ResidUpIdeal.nD Cert.ResidUpIdeal.τ).loc Cert.ResidUpIdeal.main_arg1)
      ∧ m' ((c.tc : Thread Cert.RefResidUpIdeal.nD Cert.RefResidUpIdeal.τ).loc Cert.RefResidUpIdeal.main_arg2) = m ((c.tc : Thread Cert.ResidUpIdeal.nD Cert.ResidUpIdeal.τ).loc Cert.ResidUpIdeal.main_arg2)
      ∧ m' ((c.tc : Thread Cert.RefResidUpIdeal.nD Cert.RefResidUpIdeal.τ).loc Cert.RefResidUpIdeal.main_arg3) = m ((c.tc : Thread Cert.ResidUpIdeal.nD Cert.ResidUpIdeal.τ).loc Cert.ResidUpIdeal.main_arg3)
      ∧ m' ((c.tc : Thread Cert.RefResidUpIdeal.nD Cert.RefResidUpIdeal.τ).loc Cert.RefResidUpIdeal.main_arg4) = m ((c.tc : Thread Cert.ResidUpIdeal.nD Cert.ResidUpIdeal.τ).loc Cert.ResidUpIdeal.main_arg4)) →
    ∃ (v0 : (c : Dev Cert.ResidUpIdeal.nD) → Buf (Elt Ideal) ((c.tc : Thread Cert.ResidUpIdeal.nD Cert.ResidUpIdeal.τ).loc Cert.ResidUpIdeal.main_v0_0)) (v1 : (c : Dev Cert.ResidUpIdeal.nD) → Buf (Elt Ideal) ((c.tc : Thread Cert.ResidUpIdeal.nD Cert.ResidUpIdeal.τ).loc Cert.ResidUpIdeal.main_v0_1)) (v2 : (c : Dev Cert.ResidUpIdeal.nD) → Buf (Elt Ideal) ((c.tc : Thread Cert.ResidUpIdeal.nD Cert.ResidUpIdeal.τ).loc Cert.ResidUpIdeal.main_v0_2)),
      θ_run (Cert.ResidUpIdeal.defs (F := Ideal)) (onTc (τ := Cert.ResidUpIdeal.τ) (Cert.ResidUpIdeal.main (F := Ideal))) ⟨m, fun _ => 0, g⟩ (fun r => ∀ c : Dev Cert.ResidUpIdeal.nD,
          r.2.mem ((c.tc : Thread Cert.ResidUpIdeal.nD Cert.ResidUpIdeal.τ).loc Cert.ResidUpIdeal.main_v0_0) = v0 c
          ∧ r.2.mem ((c.tc : Thread Cert.ResidUpIdeal.nD Cert.ResidUpIdeal.τ).loc Cert.ResidUpIdeal.main_v0_1) = v1 c
          ∧ r.2.mem ((c.tc : Thread Cert.ResidUpIdeal.nD Cert.ResidUpIdeal.τ).loc Cert.ResidUpIdeal.main_v0_2) = v2 c
          ∧ r.2.mem ((c.tc : Thread Cert.ResidUpIdeal.nD Cert.ResidUpIdeal.τ).loc Cert.ResidUpIdeal.main_arg0) = m ((c.tc : Thread Cert.ResidUpIdeal.nD Cert.ResidUpIdeal.τ).loc Cert.ResidUpIdeal.main_arg0)
          ∧ r.2.mem ((c.tc : Thread Cert.ResidUpIdeal.nD Cert.ResidUpIdeal.τ).loc Cert.ResidUpIdeal.main_arg1) = m ((c.tc : Thread Cert.ResidUpIdeal.nD Cert.ResidUpIdeal.τ).loc Cert.ResidUpIdeal.main_arg1)
          ∧ r.2.mem ((c.tc : Thread Cert.ResidUpIdeal.nD Cert.ResidUpIdeal.τ).loc Cert.ResidUpIdeal.main_arg2) = m ((c.tc : Thread Cert.ResidUpIdeal.nD Cert.ResidUpIdeal.τ).loc Cert.ResidUpIdeal.main_arg2)
          ∧ r.2.mem ((c.tc : Thread Cert.ResidUpIdeal.nD Cert.ResidUpIdeal.τ).loc Cert.ResidUpIdeal.main_arg3) = m ((c.tc : Thread Cert.ResidUpIdeal.nD Cert.ResidUpIdeal.τ).loc Cert.ResidUpIdeal.main_arg3)
          ∧ r.2.mem ((c.tc : Thread Cert.ResidUpIdeal.nD Cert.ResidUpIdeal.τ).loc Cert.ResidUpIdeal.main_arg4) = m ((c.tc : Thread Cert.ResidUpIdeal.nD Cert.ResidUpIdeal.τ).loc Cert.ResidUpIdeal.main_arg4))
      ∧ θ_run (Cert.RefResidUpIdeal.defs (F := Ideal)) (onTc (τ := Cert.RefResidUpIdeal.τ) (Cert.RefResidUpIdeal.main (F := Ideal))) ⟨m', fun _ => 0, g'⟩ (fun r => ∀ c : Dev Cert.RefResidUpIdeal.nD,
          r.2.mem ((c.tc : Thread Cert.RefResidUpIdeal.nD Cert.RefResidUpIdeal.τ).loc Cert.RefResidUpIdeal.main_v25) = v0 c
          ∧ r.2.mem ((c.tc : Thread Cert.RefResidUpIdeal.nD Cert.RefResidUpIdeal.τ).loc Cert.RefResidUpIdeal.main_v12) = v1 c
          ∧ r.2.mem ((c.tc : Thread Cert.RefResidUpIdeal.nD Cert.RefResidUpIdeal.τ).loc Cert.RefResidUpIdeal.main_v27) = v2 c
          ∧ r.2.mem ((c.tc : Thread Cert.RefResidUpIdeal.nD Cert.RefResidUpIdeal.τ).loc Cert.RefResidUpIdeal.main_arg0) = m' ((c.tc : Thread Cert.RefResidUpIdeal.nD Cert.RefResidUpIdeal.τ).loc Cert.RefResidUpIdeal.main_arg0)
          ∧ r.2.mem ((c.tc : Thread Cert.RefResidUpIdeal.nD Cert.RefResidUpIdeal.τ).loc Cert.RefResidUpIdeal.main_arg1) = m' ((c.tc : Thread Cert.RefResidUpIdeal.nD Cert.RefResidUpIdeal.τ).loc Cert.RefResidUpIdeal.main_arg1)
          ∧ r.2.mem ((c.tc : Thread Cert.RefResidUpIdeal.nD Cert.RefResidUpIdeal.τ).loc Cert.RefResidUpIdeal.main_arg2) = m' ((c.tc : Thread Cert.RefResidUpIdeal.nD Cert.RefResidUpIdeal.τ).loc Cert.RefResidUpIdeal.main_arg2)
          ∧ r.2.mem ((c.tc : Thread Cert.RefResidUpIdeal.nD Cert.RefResidUpIdeal.τ).loc Cert.RefResidUpIdeal.main_arg3) = m' ((c.tc : Thread Cert.RefResidUpIdeal.nD Cert.RefResidUpIdeal.τ).loc Cert.RefResidUpIdeal.main_arg3)
          ∧ r.2.mem ((c.tc : Thread Cert.RefResidUpIdeal.nD Cert.RefResidUpIdeal.τ).loc Cert.RefResidUpIdeal.main_arg4) = m' ((c.tc : Thread Cert.RefResidUpIdeal.nD Cert.RefResidUpIdeal.τ).loc Cert.RefResidUpIdeal.main_arg4))

def preserves_ConvAct_ConvActIdeal : Prop :=
  True

def algebraic_ConvActIdeal_RefConvActIdeal [hConvActIdeal : Cert.ConvActIdeal.Facts] [hRefConvActIdeal : Cert.RefConvActIdeal.Facts] : Prop :=
  ∀ (m : (ℓ : Loc Cert.ConvActIdeal.nD Cert.ConvActIdeal.τ Cert.ConvActIdeal.sig) → Buf (Elt Ideal) ℓ) (g : Dev Cert.ConvActIdeal.nD → PrngReg)
    (m' : (ℓ : Loc Cert.RefConvActIdeal.nD Cert.RefConvActIdeal.τ Cert.RefConvActIdeal.sig) → Buf (Elt Ideal) ℓ) (g' : Dev Cert.RefConvActIdeal.nD → PrngReg), Pre_ConvActIdeal m →
    (∀ c : Dev Cert.ConvActIdeal.nD,
      m' ((c.tc : Thread Cert.RefConvActIdeal.nD Cert.RefConvActIdeal.τ).loc Cert.RefConvActIdeal.main_arg0) = m ((c.tc : Thread Cert.ConvActIdeal.nD Cert.ConvActIdeal.τ).loc Cert.ConvActIdeal.main_arg0)
      ∧ m' ((c.tc : Thread Cert.RefConvActIdeal.nD Cert.RefConvActIdeal.τ).loc Cert.RefConvActIdeal.main_arg1) = m ((c.tc : Thread Cert.ConvActIdeal.nD Cert.ConvActIdeal.τ).loc Cert.ConvActIdeal.main_arg1)
      ∧ m' ((c.tc : Thread Cert.RefConvActIdeal.nD Cert.RefConvActIdeal.τ).loc Cert.RefConvActIdeal.main_arg2) = m ((c.tc : Thread Cert.ConvActIdeal.nD Cert.ConvActIdeal.τ).loc Cert.ConvActIdeal.main_arg2)) →
    ∃ (v0 : (c : Dev Cert.ConvActIdeal.nD) → Buf (Elt Ideal) ((c.tc : Thread Cert.ConvActIdeal.nD Cert.ConvActIdeal.τ).loc Cert.ConvActIdeal.main_v0)),
      θ_run (Cert.ConvActIdeal.defs (F := Ideal)) (onTc (τ := Cert.ConvActIdeal.τ) (Cert.ConvActIdeal.main (F := Ideal))) ⟨m, fun _ => 0, g⟩ (fun r => ∀ c : Dev Cert.ConvActIdeal.nD,
          r.2.mem ((c.tc : Thread Cert.ConvActIdeal.nD Cert.ConvActIdeal.τ).loc Cert.ConvActIdeal.main_v0) = v0 c
          ∧ r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
          ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
          ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2))
      ∧ θ_run (Cert.RefConvActIdeal.defs (F := Ideal)) (onTc (τ := Cert.RefConvActIdeal.τ) (Cert.RefConvActIdeal.main (F := Ideal))) ⟨m', fun _ => 0, g'⟩ (fun r => ∀ c : Dev Cert.RefConvActIdeal.nD,
          r.2.mem ((c.tc : Thread Cert.RefConvActIdeal.nD Cert.RefConvActIdeal.τ).loc Cert.RefConvActIdeal.main_v42) = v0 c
          ∧ r.2.mem ((c.tc : Thread Cert.RefConvActIdeal.nD Cert.RefConvActIdeal.τ).loc Cert.RefConvActIdeal.main_arg0) = m' ((c.tc : Thread Cert.RefConvActIdeal.nD Cert.RefConvActIdeal.τ).loc Cert.RefConvActIdeal.main_arg0)
          ∧ r.2.mem ((c.tc : Thread Cert.RefConvActIdeal.nD Cert.RefConvActIdeal.τ).loc Cert.RefConvActIdeal.main_arg1) = m' ((c.tc : Thread Cert.RefConvActIdeal.nD Cert.RefConvActIdeal.τ).loc Cert.RefConvActIdeal.main_arg1)
          ∧ r.2.mem ((c.tc : Thread Cert.RefConvActIdeal.nD Cert.RefConvActIdeal.τ).loc Cert.RefConvActIdeal.main_arg2) = m' ((c.tc : Thread Cert.RefConvActIdeal.nD Cert.RefConvActIdeal.τ).loc Cert.RefConvActIdeal.main_arg2))

def preserves_Adamw_AdamwIdeal : Prop :=
  True

def algebraic_AdamwIdeal_RefAdamwIdeal [hAdamwIdeal : Cert.AdamwIdeal.Facts] [hRefAdamwIdeal : Cert.RefAdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.RefAdamwIdeal.nD Cert.RefAdamwIdeal.τ Cert.RefAdamwIdeal.sig) → Buf (Elt Ideal) ℓ) (g' : Dev Cert.RefAdamwIdeal.nD → PrngReg), Pre_AdamwIdeal m →
    (∀ c : Dev Cert.AdamwIdeal.nD,
      m' ((c.tc : Thread Cert.RefAdamwIdeal.nD Cert.RefAdamwIdeal.τ).loc Cert.RefAdamwIdeal.main_arg0) = m ((c.tc : Thread Cert.AdamwIdeal.nD Cert.AdamwIdeal.τ).loc Cert.AdamwIdeal.main_arg0)
      ∧ m' ((c.tc : Thread Cert.RefAdamwIdeal.nD Cert.RefAdamwIdeal.τ).loc Cert.RefAdamwIdeal.main_arg1) = m ((c.tc : Thread Cert.AdamwIdeal.nD Cert.AdamwIdeal.τ).loc Cert.AdamwIdeal.main_arg1)
      ∧ m' ((c.tc : Thread Cert.RefAdamwIdeal.nD Cert.RefAdamwIdeal.τ).loc Cert.RefAdamwIdeal.main_arg2) = m ((c.tc : Thread Cert.AdamwIdeal.nD Cert.AdamwIdeal.τ).loc Cert.AdamwIdeal.main_arg2)
      ∧ m' ((c.tc : Thread Cert.RefAdamwIdeal.nD Cert.RefAdamwIdeal.τ).loc Cert.RefAdamwIdeal.main_arg3) = m ((c.tc : Thread Cert.AdamwIdeal.nD Cert.AdamwIdeal.τ).loc Cert.AdamwIdeal.main_arg3)
      ∧ m' ((c.tc : Thread Cert.RefAdamwIdeal.nD Cert.RefAdamwIdeal.τ).loc Cert.RefAdamwIdeal.main_arg4) = m ((c.tc : Thread Cert.AdamwIdeal.nD Cert.AdamwIdeal.τ).loc Cert.AdamwIdeal.main_arg4)
      ∧ m' ((c.tc : Thread Cert.RefAdamwIdeal.nD Cert.RefAdamwIdeal.τ).loc Cert.RefAdamwIdeal.main_arg5) = m ((c.tc : Thread Cert.AdamwIdeal.nD Cert.AdamwIdeal.τ).loc Cert.AdamwIdeal.main_arg5)
      ∧ m' ((c.tc : Thread Cert.RefAdamwIdeal.nD Cert.RefAdamwIdeal.τ).loc Cert.RefAdamwIdeal.main_arg6) = m ((c.tc : Thread Cert.AdamwIdeal.nD Cert.AdamwIdeal.τ).loc Cert.AdamwIdeal.main_arg6)
      ∧ m' ((c.tc : Thread Cert.RefAdamwIdeal.nD Cert.RefAdamwIdeal.τ).loc Cert.RefAdamwIdeal.main_arg7) = m ((c.tc : Thread Cert.AdamwIdeal.nD Cert.AdamwIdeal.τ).loc Cert.AdamwIdeal.main_arg7)
      ∧ m' ((c.tc : Thread Cert.RefAdamwIdeal.nD Cert.RefAdamwIdeal.τ).loc Cert.RefAdamwIdeal.main_arg8) = m ((c.tc : Thread Cert.AdamwIdeal.nD Cert.AdamwIdeal.τ).loc Cert.AdamwIdeal.main_arg8)
      ∧ m' ((c.tc : Thread Cert.RefAdamwIdeal.nD Cert.RefAdamwIdeal.τ).loc Cert.RefAdamwIdeal.main_arg9) = m ((c.tc : Thread Cert.AdamwIdeal.nD Cert.AdamwIdeal.τ).loc Cert.AdamwIdeal.main_arg9)
      ∧ m' ((c.tc : Thread Cert.RefAdamwIdeal.nD Cert.RefAdamwIdeal.τ).loc Cert.RefAdamwIdeal.main_arg10) = m ((c.tc : Thread Cert.AdamwIdeal.nD Cert.AdamwIdeal.τ).loc Cert.AdamwIdeal.main_arg10)
      ∧ m' ((c.tc : Thread Cert.RefAdamwIdeal.nD Cert.RefAdamwIdeal.τ).loc Cert.RefAdamwIdeal.main_arg11) = m ((c.tc : Thread Cert.AdamwIdeal.nD Cert.AdamwIdeal.τ).loc Cert.AdamwIdeal.main_arg11)
      ∧ m' ((c.tc : Thread Cert.RefAdamwIdeal.nD Cert.RefAdamwIdeal.τ).loc Cert.RefAdamwIdeal.main_arg12) = m ((c.tc : Thread Cert.AdamwIdeal.nD Cert.AdamwIdeal.τ).loc Cert.AdamwIdeal.main_arg12)
      ∧ m' ((c.tc : Thread Cert.RefAdamwIdeal.nD Cert.RefAdamwIdeal.τ).loc Cert.RefAdamwIdeal.main_arg13) = m ((c.tc : Thread Cert.AdamwIdeal.nD Cert.AdamwIdeal.τ).loc Cert.AdamwIdeal.main_arg13)
      ∧ m' ((c.tc : Thread Cert.RefAdamwIdeal.nD Cert.RefAdamwIdeal.τ).loc Cert.RefAdamwIdeal.main_arg14) = m ((c.tc : Thread Cert.AdamwIdeal.nD Cert.AdamwIdeal.τ).loc Cert.AdamwIdeal.main_arg14)
      ∧ m' ((c.tc : Thread Cert.RefAdamwIdeal.nD Cert.RefAdamwIdeal.τ).loc Cert.RefAdamwIdeal.main_arg15) = m ((c.tc : Thread Cert.AdamwIdeal.nD Cert.AdamwIdeal.τ).loc Cert.AdamwIdeal.main_arg15)
      ∧ m' ((c.tc : Thread Cert.RefAdamwIdeal.nD Cert.RefAdamwIdeal.τ).loc Cert.RefAdamwIdeal.main_arg16) = m ((c.tc : Thread Cert.AdamwIdeal.nD Cert.AdamwIdeal.τ).loc Cert.AdamwIdeal.main_arg16)
      ∧ m' ((c.tc : Thread Cert.RefAdamwIdeal.nD Cert.RefAdamwIdeal.τ).loc Cert.RefAdamwIdeal.main_arg17) = m ((c.tc : Thread Cert.AdamwIdeal.nD Cert.AdamwIdeal.τ).loc Cert.AdamwIdeal.main_arg17)
      ∧ m' ((c.tc : Thread Cert.RefAdamwIdeal.nD Cert.RefAdamwIdeal.τ).loc Cert.RefAdamwIdeal.main_arg18) = m ((c.tc : Thread Cert.AdamwIdeal.nD Cert.AdamwIdeal.τ).loc Cert.AdamwIdeal.main_arg18)
      ∧ m' ((c.tc : Thread Cert.RefAdamwIdeal.nD Cert.RefAdamwIdeal.τ).loc Cert.RefAdamwIdeal.main_arg19) = m ((c.tc : Thread Cert.AdamwIdeal.nD Cert.AdamwIdeal.τ).loc Cert.AdamwIdeal.main_arg19)
      ∧ m' ((c.tc : Thread Cert.RefAdamwIdeal.nD Cert.RefAdamwIdeal.τ).loc Cert.RefAdamwIdeal.main_arg20) = m ((c.tc : Thread Cert.AdamwIdeal.nD Cert.AdamwIdeal.τ).loc Cert.AdamwIdeal.main_arg20)
      ∧ m' ((c.tc : Thread Cert.RefAdamwIdeal.nD Cert.RefAdamwIdeal.τ).loc Cert.RefAdamwIdeal.main_arg21) = m ((c.tc : Thread Cert.AdamwIdeal.nD Cert.AdamwIdeal.τ).loc Cert.AdamwIdeal.main_arg21)
      ∧ m' ((c.tc : Thread Cert.RefAdamwIdeal.nD Cert.RefAdamwIdeal.τ).loc Cert.RefAdamwIdeal.main_arg22) = m ((c.tc : Thread Cert.AdamwIdeal.nD Cert.AdamwIdeal.τ).loc Cert.AdamwIdeal.main_arg22)
      ∧ m' ((c.tc : Thread Cert.RefAdamwIdeal.nD Cert.RefAdamwIdeal.τ).loc Cert.RefAdamwIdeal.main_arg23) = m ((c.tc : Thread Cert.AdamwIdeal.nD Cert.AdamwIdeal.τ).loc Cert.AdamwIdeal.main_arg23)
      ∧ m' ((c.tc : Thread Cert.RefAdamwIdeal.nD Cert.RefAdamwIdeal.τ).loc Cert.RefAdamwIdeal.main_arg24) = m ((c.tc : Thread Cert.AdamwIdeal.nD Cert.AdamwIdeal.τ).loc Cert.AdamwIdeal.main_arg24)
      ∧ m' ((c.tc : Thread Cert.RefAdamwIdeal.nD Cert.RefAdamwIdeal.τ).loc Cert.RefAdamwIdeal.main_arg25) = m ((c.tc : Thread Cert.AdamwIdeal.nD Cert.AdamwIdeal.τ).loc Cert.AdamwIdeal.main_arg25)
      ∧ m' ((c.tc : Thread Cert.RefAdamwIdeal.nD Cert.RefAdamwIdeal.τ).loc Cert.RefAdamwIdeal.main_arg26) = m ((c.tc : Thread Cert.AdamwIdeal.nD Cert.AdamwIdeal.τ).loc Cert.AdamwIdeal.main_arg26)
      ∧ m' ((c.tc : Thread Cert.RefAdamwIdeal.nD Cert.RefAdamwIdeal.τ).loc Cert.RefAdamwIdeal.main_arg27) = m ((c.tc : Thread Cert.AdamwIdeal.nD Cert.AdamwIdeal.τ).loc Cert.AdamwIdeal.main_arg27)
      ∧ m' ((c.tc : Thread Cert.RefAdamwIdeal.nD Cert.RefAdamwIdeal.τ).loc Cert.RefAdamwIdeal.main_arg28) = m ((c.tc : Thread Cert.AdamwIdeal.nD Cert.AdamwIdeal.τ).loc Cert.AdamwIdeal.main_arg28)
      ∧ m' ((c.tc : Thread Cert.RefAdamwIdeal.nD Cert.RefAdamwIdeal.τ).loc Cert.RefAdamwIdeal.main_arg29) = m ((c.tc : Thread Cert.AdamwIdeal.nD Cert.AdamwIdeal.τ).loc Cert.AdamwIdeal.main_arg29)
      ∧ m' ((c.tc : Thread Cert.RefAdamwIdeal.nD Cert.RefAdamwIdeal.τ).loc Cert.RefAdamwIdeal.main_arg30) = m ((c.tc : Thread Cert.AdamwIdeal.nD Cert.AdamwIdeal.τ).loc Cert.AdamwIdeal.main_arg30)
      ∧ m' ((c.tc : Thread Cert.RefAdamwIdeal.nD Cert.RefAdamwIdeal.τ).loc Cert.RefAdamwIdeal.main_arg31) = m ((c.tc : Thread Cert.AdamwIdeal.nD Cert.AdamwIdeal.τ).loc Cert.AdamwIdeal.main_arg31)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)) (v4 : (c : Dev Cert.AdamwIdeal.nD) → Buf (Elt Ideal) ((c.tc : Thread Cert.AdamwIdeal.nD Cert.AdamwIdeal.τ).loc Cert.AdamwIdeal.main_v0_4)) (v5 : (c : Dev Cert.AdamwIdeal.nD) → Buf (Elt Ideal) ((c.tc : Thread Cert.AdamwIdeal.nD Cert.AdamwIdeal.τ).loc Cert.AdamwIdeal.main_v0_5)) (v6 : (c : Dev Cert.AdamwIdeal.nD) → Buf (Elt Ideal) ((c.tc : Thread Cert.AdamwIdeal.nD Cert.AdamwIdeal.τ).loc Cert.AdamwIdeal.main_v0_6)) (v7 : (c : Dev Cert.AdamwIdeal.nD) → Buf (Elt Ideal) ((c.tc : Thread Cert.AdamwIdeal.nD Cert.AdamwIdeal.τ).loc Cert.AdamwIdeal.main_v0_7)) (v8 : (c : Dev Cert.AdamwIdeal.nD) → Buf (Elt Ideal) ((c.tc : Thread Cert.AdamwIdeal.nD Cert.AdamwIdeal.τ).loc Cert.AdamwIdeal.main_v0_8)) (v9 : (c : Dev Cert.AdamwIdeal.nD) → Buf (Elt Ideal) ((c.tc : Thread Cert.AdamwIdeal.nD Cert.AdamwIdeal.τ).loc Cert.AdamwIdeal.main_v0_9)) (v10 : (c : Dev Cert.AdamwIdeal.nD) → Buf (Elt Ideal) ((c.tc : Thread Cert.AdamwIdeal.nD Cert.AdamwIdeal.τ).loc Cert.AdamwIdeal.main_v0_10)) (v11 : (c : Dev Cert.AdamwIdeal.nD) → Buf (Elt Ideal) ((c.tc : Thread Cert.AdamwIdeal.nD Cert.AdamwIdeal.τ).loc Cert.AdamwIdeal.main_v0_11)) (v12 : (c : Dev Cert.AdamwIdeal.nD) → Buf (Elt Ideal) ((c.tc : Thread Cert.AdamwIdeal.nD Cert.AdamwIdeal.τ).loc Cert.AdamwIdeal.main_v0_12)) (v13 : (c : Dev Cert.AdamwIdeal.nD) → Buf (Elt Ideal) ((c.tc : Thread Cert.AdamwIdeal.nD Cert.AdamwIdeal.τ).loc Cert.AdamwIdeal.main_v0_13)) (v14 : (c : Dev Cert.AdamwIdeal.nD) → Buf (Elt Ideal) ((c.tc : Thread Cert.AdamwIdeal.nD Cert.AdamwIdeal.τ).loc Cert.AdamwIdeal.main_v0_14)) (v15 : (c : Dev Cert.AdamwIdeal.nD) → Buf (Elt Ideal) ((c.tc : Thread Cert.AdamwIdeal.nD Cert.AdamwIdeal.τ).loc Cert.AdamwIdeal.main_v0_15)) (v16 : (c : Dev Cert.AdamwIdeal.nD) → Buf (Elt Ideal) ((c.tc : Thread Cert.AdamwIdeal.nD Cert.AdamwIdeal.τ).loc Cert.AdamwIdeal.main_v0_16)) (v17 : (c : Dev Cert.AdamwIdeal.nD) → Buf (Elt Ideal) ((c.tc : Thread Cert.AdamwIdeal.nD Cert.AdamwIdeal.τ).loc Cert.AdamwIdeal.main_v0_17)) (v18 : (c : Dev Cert.AdamwIdeal.nD) → Buf (Elt Ideal) ((c.tc : Thread Cert.AdamwIdeal.nD Cert.AdamwIdeal.τ).loc Cert.AdamwIdeal.main_v0_18)) (v19 : (c : Dev Cert.AdamwIdeal.nD) → Buf (Elt Ideal) ((c.tc : Thread Cert.AdamwIdeal.nD Cert.AdamwIdeal.τ).loc Cert.AdamwIdeal.main_v0_19)) (v20 : (c : Dev Cert.AdamwIdeal.nD) → Buf (Elt Ideal) ((c.tc : Thread Cert.AdamwIdeal.nD Cert.AdamwIdeal.τ).loc Cert.AdamwIdeal.main_v0_20)) (v21 : (c : Dev Cert.AdamwIdeal.nD) → Buf (Elt Ideal) ((c.tc : Thread Cert.AdamwIdeal.nD Cert.AdamwIdeal.τ).loc Cert.AdamwIdeal.main_v0_21)) (v22 : (c : Dev Cert.AdamwIdeal.nD) → Buf (Elt Ideal) ((c.tc : Thread Cert.AdamwIdeal.nD Cert.AdamwIdeal.τ).loc Cert.AdamwIdeal.main_v0_22)) (v23 : (c : Dev Cert.AdamwIdeal.nD) → Buf (Elt Ideal) ((c.tc : Thread Cert.AdamwIdeal.nD Cert.AdamwIdeal.τ).loc Cert.AdamwIdeal.main_v0_23)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_v0_4) = v4 c
          ∧ r.2.mem ((c.tc : Thread Cert.AdamwIdeal.nD Cert.AdamwIdeal.τ).loc Cert.AdamwIdeal.main_v0_5) = v5 c
          ∧ r.2.mem ((c.tc : Thread Cert.AdamwIdeal.nD Cert.AdamwIdeal.τ).loc Cert.AdamwIdeal.main_v0_6) = v6 c
          ∧ r.2.mem ((c.tc : Thread Cert.AdamwIdeal.nD Cert.AdamwIdeal.τ).loc Cert.AdamwIdeal.main_v0_7) = v7 c
          ∧ r.2.mem ((c.tc : Thread Cert.AdamwIdeal.nD Cert.AdamwIdeal.τ).loc Cert.AdamwIdeal.main_v0_8) = v8 c
          ∧ r.2.mem ((c.tc : Thread Cert.AdamwIdeal.nD Cert.AdamwIdeal.τ).loc Cert.AdamwIdeal.main_v0_9) = v9 c
          ∧ r.2.mem ((c.tc : Thread Cert.AdamwIdeal.nD Cert.AdamwIdeal.τ).loc Cert.AdamwIdeal.main_v0_10) = v10 c
          ∧ r.2.mem ((c.tc : Thread Cert.AdamwIdeal.nD Cert.AdamwIdeal.τ).loc Cert.AdamwIdeal.main_v0_11) = v11 c
          ∧ r.2.mem ((c.tc : Thread Cert.AdamwIdeal.nD Cert.AdamwIdeal.τ).loc Cert.AdamwIdeal.main_v0_12) = v12 c
          ∧ r.2.mem ((c.tc : Thread Cert.AdamwIdeal.nD Cert.AdamwIdeal.τ).loc Cert.AdamwIdeal.main_v0_13) = v13 c
          ∧ r.2.mem ((c.tc : Thread Cert.AdamwIdeal.nD Cert.AdamwIdeal.τ).loc Cert.AdamwIdeal.main_v0_14) = v14 c
          ∧ r.2.mem ((c.tc : Thread Cert.AdamwIdeal.nD Cert.AdamwIdeal.τ).loc Cert.AdamwIdeal.main_v0_15) = v15 c
          ∧ r.2.mem ((c.tc : Thread Cert.AdamwIdeal.nD Cert.AdamwIdeal.τ).loc Cert.AdamwIdeal.main_v0_16) = v16 c
          ∧ r.2.mem ((c.tc : Thread Cert.AdamwIdeal.nD Cert.AdamwIdeal.τ).loc Cert.AdamwIdeal.main_v0_17) = v17 c
          ∧ r.2.mem ((c.tc : Thread Cert.AdamwIdeal.nD Cert.AdamwIdeal.τ).loc Cert.AdamwIdeal.main_v0_18) = v18 c
          ∧ r.2.mem ((c.tc : Thread Cert.AdamwIdeal.nD Cert.AdamwIdeal.τ).loc Cert.AdamwIdeal.main_v0_19) = v19 c
          ∧ r.2.mem ((c.tc : Thread Cert.AdamwIdeal.nD Cert.AdamwIdeal.τ).loc Cert.AdamwIdeal.main_v0_20) = v20 c
          ∧ r.2.mem ((c.tc : Thread Cert.AdamwIdeal.nD Cert.AdamwIdeal.τ).loc Cert.AdamwIdeal.main_v0_21) = v21 c
          ∧ r.2.mem ((c.tc : Thread Cert.AdamwIdeal.nD Cert.AdamwIdeal.τ).loc Cert.AdamwIdeal.main_v0_22) = v22 c
          ∧ r.2.mem ((c.tc : Thread Cert.AdamwIdeal.nD Cert.AdamwIdeal.τ).loc Cert.AdamwIdeal.main_v0_23) = v23 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
          ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
          ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
          ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
          ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
          ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
          ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
          ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
          ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
          ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
          ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
          ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
          ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
          ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
          ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
          ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
          ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27)
          ∧ r.2.mem ((c.tc : Thread Cert.AdamwIdeal.nD Cert.AdamwIdeal.τ).loc Cert.AdamwIdeal.main_arg28) = m ((c.tc : Thread Cert.AdamwIdeal.nD Cert.AdamwIdeal.τ).loc Cert.AdamwIdeal.main_arg28)
          ∧ r.2.mem ((c.tc : Thread Cert.AdamwIdeal.nD Cert.AdamwIdeal.τ).loc Cert.AdamwIdeal.main_arg29) = m ((c.tc : Thread Cert.AdamwIdeal.nD Cert.AdamwIdeal.τ).loc Cert.AdamwIdeal.main_arg29)
          ∧ r.2.mem ((c.tc : Thread Cert.AdamwIdeal.nD Cert.AdamwIdeal.τ).loc Cert.AdamwIdeal.main_arg30) = m ((c.tc : Thread Cert.AdamwIdeal.nD Cert.AdamwIdeal.τ).loc Cert.AdamwIdeal.main_arg30)
          ∧ r.2.mem ((c.tc : Thread Cert.AdamwIdeal.nD Cert.AdamwIdeal.τ).loc Cert.AdamwIdeal.main_arg31) = m ((c.tc : Thread Cert.AdamwIdeal.nD Cert.AdamwIdeal.τ).loc Cert.AdamwIdeal.main_arg31))
      ∧ θ_run (Cert.RefAdamwIdeal.defs (F := Ideal)) (onTc (τ := Cert.RefAdamwIdeal.τ) (Cert.RefAdamwIdeal.main (F := Ideal))) ⟨m', fun _ => 0, g'⟩ (fun r => ∀ c : Dev Cert.RefAdamwIdeal.nD,
          r.2.mem ((c.tc : Thread Cert.RefAdamwIdeal.nD Cert.RefAdamwIdeal.τ).loc Cert.RefAdamwIdeal.main_v23) = v0 c
          ∧ r.2.mem ((c.tc : Thread Cert.RefAdamwIdeal.nD Cert.RefAdamwIdeal.τ).loc Cert.RefAdamwIdeal.main_v4) = v1 c
          ∧ r.2.mem ((c.tc : Thread Cert.RefAdamwIdeal.nD Cert.RefAdamwIdeal.τ).loc Cert.RefAdamwIdeal.main_v10) = v2 c
          ∧ r.2.mem ((c.tc : Thread Cert.RefAdamwIdeal.nD Cert.RefAdamwIdeal.τ).loc Cert.RefAdamwIdeal.main_v47) = v3 c
          ∧ r.2.mem ((c.tc : Thread Cert.RefAdamwIdeal.nD Cert.RefAdamwIdeal.τ).loc Cert.RefAdamwIdeal.main_v28) = v4 c
          ∧ r.2.mem ((c.tc : Thread Cert.RefAdamwIdeal.nD Cert.RefAdamwIdeal.τ).loc Cert.RefAdamwIdeal.main_v34) = v5 c
          ∧ r.2.mem ((c.tc : Thread Cert.RefAdamwIdeal.nD Cert.RefAdamwIdeal.τ).loc Cert.RefAdamwIdeal.main_v71) = v6 c
          ∧ r.2.mem ((c.tc : Thread Cert.RefAdamwIdeal.nD Cert.RefAdamwIdeal.τ).loc Cert.RefAdamwIdeal.main_v52) = v7 c
          ∧ r.2.mem ((c.tc : Thread Cert.RefAdamwIdeal.nD Cert.RefAdamwIdeal.τ).loc Cert.RefAdamwIdeal.main_v58) = v8 c
          ∧ r.2.mem ((c.tc : Thread Cert.RefAdamwIdeal.nD Cert.RefAdamwIdeal.τ).loc Cert.RefAdamwIdeal.main_v95) = v9 c
          ∧ r.2.mem ((c.tc : Thread Cert.RefAdamwIdeal.nD Cert.RefAdamwIdeal.τ).loc Cert.RefAdamwIdeal.main_v76) = v10 c
          ∧ r.2.mem ((c.tc : Thread Cert.RefAdamwIdeal.nD Cert.RefAdamwIdeal.τ).loc Cert.RefAdamwIdeal.main_v82) = v11 c
          ∧ r.2.mem ((c.tc : Thread Cert.RefAdamwIdeal.nD Cert.RefAdamwIdeal.τ).loc Cert.RefAdamwIdeal.main_v119) = v12 c
          ∧ r.2.mem ((c.tc : Thread Cert.RefAdamwIdeal.nD Cert.RefAdamwIdeal.τ).loc Cert.RefAdamwIdeal.main_v100) = v13 c
          ∧ r.2.mem ((c.tc : Thread Cert.RefAdamwIdeal.nD Cert.RefAdamwIdeal.τ).loc Cert.RefAdamwIdeal.main_v106) = v14 c
          ∧ r.2.mem ((c.tc : Thread Cert.RefAdamwIdeal.nD Cert.RefAdamwIdeal.τ).loc Cert.RefAdamwIdeal.main_v143) = v15 c
          ∧ r.2.mem ((c.tc : Thread Cert.RefAdamwIdeal.nD Cert.RefAdamwIdeal.τ).loc Cert.RefAdamwIdeal.main_v124) = v16 c
          ∧ r.2.mem ((c.tc : Thread Cert.RefAdamwIdeal.nD Cert.RefAdamwIdeal.τ).loc Cert.RefAdamwIdeal.main_v130) = v17 c
          ∧ r.2.mem ((c.tc : Thread Cert.RefAdamwIdeal.nD Cert.RefAdamwIdeal.τ).loc Cert.RefAdamwIdeal.main_v167) = v18 c
          ∧ r.2.mem ((c.tc : Thread Cert.RefAdamwIdeal.nD Cert.RefAdamwIdeal.τ).loc Cert.RefAdamwIdeal.main_v148) = v19 c
          ∧ r.2.mem ((c.tc : Thread Cert.RefAdamwIdeal.nD Cert.RefAdamwIdeal.τ).loc Cert.RefAdamwIdeal.main_v154) = v20 c
          ∧ r.2.mem ((c.tc : Thread Cert.RefAdamwIdeal.nD Cert.RefAdamwIdeal.τ).loc Cert.RefAdamwIdeal.main_v191) = v21 c
          ∧ r.2.mem ((c.tc : Thread Cert.RefAdamwIdeal.nD Cert.RefAdamwIdeal.τ).loc Cert.RefAdamwIdeal.main_v172) = v22 c
          ∧ r.2.mem ((c.tc : Thread Cert.RefAdamwIdeal.nD Cert.RefAdamwIdeal.τ).loc Cert.RefAdamwIdeal.main_v178) = v23 c
          ∧ r.2.mem ((c.tc : Thread Cert.RefAdamwIdeal.nD Cert.RefAdamwIdeal.τ).loc Cert.RefAdamwIdeal.main_arg0) = m' ((c.tc : Thread Cert.RefAdamwIdeal.nD Cert.RefAdamwIdeal.τ).loc Cert.RefAdamwIdeal.main_arg0)
          ∧ r.2.mem ((c.tc : Thread Cert.RefAdamwIdeal.nD Cert.RefAdamwIdeal.τ).loc Cert.RefAdamwIdeal.main_arg1) = m' ((c.tc : Thread Cert.RefAdamwIdeal.nD Cert.RefAdamwIdeal.τ).loc Cert.RefAdamwIdeal.main_arg1)
          ∧ r.2.mem ((c.tc : Thread Cert.RefAdamwIdeal.nD Cert.RefAdamwIdeal.τ).loc Cert.RefAdamwIdeal.main_arg2) = m' ((c.tc : Thread Cert.RefAdamwIdeal.nD Cert.RefAdamwIdeal.τ).loc Cert.RefAdamwIdeal.main_arg2)
          ∧ r.2.mem ((c.tc : Thread Cert.RefAdamwIdeal.nD Cert.RefAdamwIdeal.τ).loc Cert.RefAdamwIdeal.main_arg3) = m' ((c.tc : Thread Cert.RefAdamwIdeal.nD Cert.RefAdamwIdeal.τ).loc Cert.RefAdamwIdeal.main_arg3)
          ∧ r.2.mem ((c.tc : Thread Cert.RefAdamwIdeal.nD Cert.RefAdamwIdeal.τ).loc Cert.RefAdamwIdeal.main_arg4) = m' ((c.tc : Thread Cert.RefAdamwIdeal.nD Cert.RefAdamwIdeal.τ).loc Cert.RefAdamwIdeal.main_arg4)
          ∧ r.2.mem ((c.tc : Thread Cert.RefAdamwIdeal.nD Cert.RefAdamwIdeal.τ).loc Cert.RefAdamwIdeal.main_arg5) = m' ((c.tc : Thread Cert.RefAdamwIdeal.nD Cert.RefAdamwIdeal.τ).loc Cert.RefAdamwIdeal.main_arg5)
          ∧ r.2.mem ((c.tc : Thread Cert.RefAdamwIdeal.nD Cert.RefAdamwIdeal.τ).loc Cert.RefAdamwIdeal.main_arg6) = m' ((c.tc : Thread Cert.RefAdamwIdeal.nD Cert.RefAdamwIdeal.τ).loc Cert.RefAdamwIdeal.main_arg6)
          ∧ r.2.mem ((c.tc : Thread Cert.RefAdamwIdeal.nD Cert.RefAdamwIdeal.τ).loc Cert.RefAdamwIdeal.main_arg7) = m' ((c.tc : Thread Cert.RefAdamwIdeal.nD Cert.RefAdamwIdeal.τ).loc Cert.RefAdamwIdeal.main_arg7)
          ∧ r.2.mem ((c.tc : Thread Cert.RefAdamwIdeal.nD Cert.RefAdamwIdeal.τ).loc Cert.RefAdamwIdeal.main_arg8) = m' ((c.tc : Thread Cert.RefAdamwIdeal.nD Cert.RefAdamwIdeal.τ).loc Cert.RefAdamwIdeal.main_arg8)
          ∧ r.2.mem ((c.tc : Thread Cert.RefAdamwIdeal.nD Cert.RefAdamwIdeal.τ).loc Cert.RefAdamwIdeal.main_arg9) = m' ((c.tc : Thread Cert.RefAdamwIdeal.nD Cert.RefAdamwIdeal.τ).loc Cert.RefAdamwIdeal.main_arg9)
          ∧ r.2.mem ((c.tc : Thread Cert.RefAdamwIdeal.nD Cert.RefAdamwIdeal.τ).loc Cert.RefAdamwIdeal.main_arg10) = m' ((c.tc : Thread Cert.RefAdamwIdeal.nD Cert.RefAdamwIdeal.τ).loc Cert.RefAdamwIdeal.main_arg10)
          ∧ r.2.mem ((c.tc : Thread Cert.RefAdamwIdeal.nD Cert.RefAdamwIdeal.τ).loc Cert.RefAdamwIdeal.main_arg11) = m' ((c.tc : Thread Cert.RefAdamwIdeal.nD Cert.RefAdamwIdeal.τ).loc Cert.RefAdamwIdeal.main_arg11)
          ∧ r.2.mem ((c.tc : Thread Cert.RefAdamwIdeal.nD Cert.RefAdamwIdeal.τ).loc Cert.RefAdamwIdeal.main_arg12) = m' ((c.tc : Thread Cert.RefAdamwIdeal.nD Cert.RefAdamwIdeal.τ).loc Cert.RefAdamwIdeal.main_arg12)
          ∧ r.2.mem ((c.tc : Thread Cert.RefAdamwIdeal.nD Cert.RefAdamwIdeal.τ).loc Cert.RefAdamwIdeal.main_arg13) = m' ((c.tc : Thread Cert.RefAdamwIdeal.nD Cert.RefAdamwIdeal.τ).loc Cert.RefAdamwIdeal.main_arg13)
          ∧ r.2.mem ((c.tc : Thread Cert.RefAdamwIdeal.nD Cert.RefAdamwIdeal.τ).loc Cert.RefAdamwIdeal.main_arg14) = m' ((c.tc : Thread Cert.RefAdamwIdeal.nD Cert.RefAdamwIdeal.τ).loc Cert.RefAdamwIdeal.main_arg14)
          ∧ r.2.mem ((c.tc : Thread Cert.RefAdamwIdeal.nD Cert.RefAdamwIdeal.τ).loc Cert.RefAdamwIdeal.main_arg15) = m' ((c.tc : Thread Cert.RefAdamwIdeal.nD Cert.RefAdamwIdeal.τ).loc Cert.RefAdamwIdeal.main_arg15)
          ∧ r.2.mem ((c.tc : Thread Cert.RefAdamwIdeal.nD Cert.RefAdamwIdeal.τ).loc Cert.RefAdamwIdeal.main_arg16) = m' ((c.tc : Thread Cert.RefAdamwIdeal.nD Cert.RefAdamwIdeal.τ).loc Cert.RefAdamwIdeal.main_arg16)
          ∧ r.2.mem ((c.tc : Thread Cert.RefAdamwIdeal.nD Cert.RefAdamwIdeal.τ).loc Cert.RefAdamwIdeal.main_arg17) = m' ((c.tc : Thread Cert.RefAdamwIdeal.nD Cert.RefAdamwIdeal.τ).loc Cert.RefAdamwIdeal.main_arg17)
          ∧ r.2.mem ((c.tc : Thread Cert.RefAdamwIdeal.nD Cert.RefAdamwIdeal.τ).loc Cert.RefAdamwIdeal.main_arg18) = m' ((c.tc : Thread Cert.RefAdamwIdeal.nD Cert.RefAdamwIdeal.τ).loc Cert.RefAdamwIdeal.main_arg18)
          ∧ r.2.mem ((c.tc : Thread Cert.RefAdamwIdeal.nD Cert.RefAdamwIdeal.τ).loc Cert.RefAdamwIdeal.main_arg19) = m' ((c.tc : Thread Cert.RefAdamwIdeal.nD Cert.RefAdamwIdeal.τ).loc Cert.RefAdamwIdeal.main_arg19)
          ∧ r.2.mem ((c.tc : Thread Cert.RefAdamwIdeal.nD Cert.RefAdamwIdeal.τ).loc Cert.RefAdamwIdeal.main_arg20) = m' ((c.tc : Thread Cert.RefAdamwIdeal.nD Cert.RefAdamwIdeal.τ).loc Cert.RefAdamwIdeal.main_arg20)
          ∧ r.2.mem ((c.tc : Thread Cert.RefAdamwIdeal.nD Cert.RefAdamwIdeal.τ).loc Cert.RefAdamwIdeal.main_arg21) = m' ((c.tc : Thread Cert.RefAdamwIdeal.nD Cert.RefAdamwIdeal.τ).loc Cert.RefAdamwIdeal.main_arg21)
          ∧ r.2.mem ((c.tc : Thread Cert.RefAdamwIdeal.nD Cert.RefAdamwIdeal.τ).loc Cert.RefAdamwIdeal.main_arg22) = m' ((c.tc : Thread Cert.RefAdamwIdeal.nD Cert.RefAdamwIdeal.τ).loc Cert.RefAdamwIdeal.main_arg22)
          ∧ r.2.mem ((c.tc : Thread Cert.RefAdamwIdeal.nD Cert.RefAdamwIdeal.τ).loc Cert.RefAdamwIdeal.main_arg23) = m' ((c.tc : Thread Cert.RefAdamwIdeal.nD Cert.RefAdamwIdeal.τ).loc Cert.RefAdamwIdeal.main_arg23)
          ∧ r.2.mem ((c.tc : Thread Cert.RefAdamwIdeal.nD Cert.RefAdamwIdeal.τ).loc Cert.RefAdamwIdeal.main_arg24) = m' ((c.tc : Thread Cert.RefAdamwIdeal.nD Cert.RefAdamwIdeal.τ).loc Cert.RefAdamwIdeal.main_arg24)
          ∧ r.2.mem ((c.tc : Thread Cert.RefAdamwIdeal.nD Cert.RefAdamwIdeal.τ).loc Cert.RefAdamwIdeal.main_arg25) = m' ((c.tc : Thread Cert.RefAdamwIdeal.nD Cert.RefAdamwIdeal.τ).loc Cert.RefAdamwIdeal.main_arg25)
          ∧ r.2.mem ((c.tc : Thread Cert.RefAdamwIdeal.nD Cert.RefAdamwIdeal.τ).loc Cert.RefAdamwIdeal.main_arg26) = m' ((c.tc : Thread Cert.RefAdamwIdeal.nD Cert.RefAdamwIdeal.τ).loc Cert.RefAdamwIdeal.main_arg26)
          ∧ r.2.mem ((c.tc : Thread Cert.RefAdamwIdeal.nD Cert.RefAdamwIdeal.τ).loc Cert.RefAdamwIdeal.main_arg27) = m' ((c.tc : Thread Cert.RefAdamwIdeal.nD Cert.RefAdamwIdeal.τ).loc Cert.RefAdamwIdeal.main_arg27)
          ∧ r.2.mem ((c.tc : Thread Cert.RefAdamwIdeal.nD Cert.RefAdamwIdeal.τ).loc Cert.RefAdamwIdeal.main_arg28) = m' ((c.tc : Thread Cert.RefAdamwIdeal.nD Cert.RefAdamwIdeal.τ).loc Cert.RefAdamwIdeal.main_arg28)
          ∧ r.2.mem ((c.tc : Thread Cert.RefAdamwIdeal.nD Cert.RefAdamwIdeal.τ).loc Cert.RefAdamwIdeal.main_arg29) = m' ((c.tc : Thread Cert.RefAdamwIdeal.nD Cert.RefAdamwIdeal.τ).loc Cert.RefAdamwIdeal.main_arg29)
          ∧ r.2.mem ((c.tc : Thread Cert.RefAdamwIdeal.nD Cert.RefAdamwIdeal.τ).loc Cert.RefAdamwIdeal.main_arg30) = m' ((c.tc : Thread Cert.RefAdamwIdeal.nD Cert.RefAdamwIdeal.τ).loc Cert.RefAdamwIdeal.main_arg30)
          ∧ r.2.mem ((c.tc : Thread Cert.RefAdamwIdeal.nD Cert.RefAdamwIdeal.τ).loc Cert.RefAdamwIdeal.main_arg31) = m' ((c.tc : Thread Cert.RefAdamwIdeal.nD Cert.RefAdamwIdeal.τ).loc Cert.RefAdamwIdeal.main_arg31))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hRefUpDxIdeal : Cert.RefUpDxIdeal.Facts) (hUpDw : Cert.UpDw.Facts) (hUpDwIdeal : Cert.UpDwIdeal.Facts) (hRefUpDwIdeal : Cert.RefUpDwIdeal.Facts) (hDownDx : Cert.DownDx.Facts) (hDownDxIdeal : Cert.DownDxIdeal.Facts) (hRefDownDxIdeal : Cert.RefDownDxIdeal.Facts) (hDownDw : Cert.DownDw.Facts) (hDownDwIdeal : Cert.DownDwIdeal.Facts) (hRefDownDwIdeal : Cert.RefDownDwIdeal.Facts) (hInDx : Cert.InDx.Facts) (hInDxIdeal : Cert.InDxIdeal.Facts) (hRefInDxIdeal : Cert.RefInDxIdeal.Facts) (hInDw : Cert.InDw.Facts) (hInDwIdeal : Cert.InDwIdeal.Facts) (hRefInDwIdeal : Cert.RefInDwIdeal.Facts) (hOutDx : Cert.OutDx.Facts) (hOutDxIdeal : Cert.OutDxIdeal.Facts) (hRefOutDxIdeal : Cert.RefOutDxIdeal.Facts) (hOutDw : Cert.OutDw.Facts) (hOutDwIdeal : Cert.OutDwIdeal.Facts) (hRefOutDwIdeal : Cert.RefOutDwIdeal.Facts) (hBrDx : Cert.BrDx.Facts) (hBrDxIdeal : Cert.BrDxIdeal.Facts) (hRefBrDxIdeal : Cert.RefBrDxIdeal.Facts) (hBrDw : Cert.BrDw.Facts) (hBrDwIdeal : Cert.BrDwIdeal.Facts) (hRefBrDwIdeal : Cert.RefBrDwIdeal.Facts) (hGluDx : Cert.GluDx.Facts) (hGluDxIdeal : Cert.GluDxIdeal.Facts) (hRefGluDxIdeal : Cert.RefGluDxIdeal.Facts) (hGluDw : Cert.GluDw.Facts) (hGluDwIdeal : Cert.GluDwIdeal.Facts) (hRefGluDwIdeal : Cert.RefGluDwIdeal.Facts) (hDown : Cert.Down.Facts) (hDownIdeal : Cert.DownIdeal.Facts) (hRefDownIdeal : Cert.RefDownIdeal.Facts) (hNormMid : Cert.NormMid.Facts) (hNormMidIdeal : Cert.NormMidIdeal.Facts) (hRefNormMidIdeal : Cert.RefNormMidIdeal.Facts) (hMerge : Cert.Merge.Facts) (hMergeIdeal : Cert.MergeIdeal.Facts) (hRefMergeIdeal : Cert.RefMergeIdeal.Facts) (hGlu : Cert.Glu.Facts) (hGluIdeal : Cert.GluIdeal.Facts) (hRefGluIdeal : Cert.RefGluIdeal.Facts) (hMid : Cert.Mid.Facts) (hMidIdeal : Cert.MidIdeal.Facts) (hRefMidIdeal : Cert.RefMidIdeal.Facts) (hNormPre : Cert.NormPre.Facts) (hNormPreIdeal : Cert.NormPreIdeal.Facts) (hRefNormPreIdeal : Cert.RefNormPreIdeal.Facts) (hLoss : Cert.Loss.Facts) (hLossIdeal : Cert.LossIdeal.Facts) (hRefLossIdeal : Cert.RefLossIdeal.Facts) (hInProj : Cert.InProj.Facts) (hInProjIdeal : Cert.InProjIdeal.Facts) (hRefInProjIdeal : Cert.RefInProjIdeal.Facts) (hMidUp : Cert.MidUp.Facts) (hMidUpIdeal : Cert.MidUpIdeal.Facts) (hRefMidUpIdeal : Cert.RefMidUpIdeal.Facts) (hGluUp : Cert.GluUp.Facts) (hGluUpIdeal : Cert.GluUpIdeal.Facts) (hRefGluUpIdeal : Cert.RefGluUpIdeal.Facts) (hMergeUp : Cert.MergeUp.Facts) (hMergeUpIdeal : Cert.MergeUpIdeal.Facts) (hRefMergeUpIdeal : Cert.RefMergeUpIdeal.Facts) (hResidUp : Cert.ResidUp.Facts) (hResidUpIdeal : Cert.ResidUpIdeal.Facts) (hRefResidUpIdeal : Cert.RefResidUpIdeal.Facts) (hConvAct : Cert.ConvAct.Facts) (hConvActIdeal : Cert.ConvActIdeal.Facts) (hRefConvActIdeal : Cert.RefConvActIdeal.Facts) (hAdamw : Cert.Adamw.Facts) (hAdamwIdeal : Cert.AdamwIdeal.Facts) (hRefAdamwIdeal : Cert.RefAdamwIdeal.Facts),
    quiescent_Kernel (hKernel := hKernel)
    ∧ quiescent_KernelIdeal (hKernelIdeal := hKernelIdeal)
    ∧ quiescent_ReferenceIdeal (hReferenceIdeal := hReferenceIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_InDx (hInDx := hInDx)
    ∧ quiescent_InDxIdeal (hInDxIdeal := hInDxIdeal)
    ∧ quiescent_RefInDxIdeal (hRefInDxIdeal := hRefInDxIdeal)
    ∧ quiescent_InDw (hInDw := hInDw)
    ∧ quiescent_InDwIdeal (hInDwIdeal := hInDwIdeal)
    ∧ quiescent_RefInDwIdeal (hRefInDwIdeal := hRefInDwIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_BrDx (hBrDx := hBrDx)
    ∧ quiescent_BrDxIdeal (hBrDxIdeal := hBrDxIdeal)
    ∧ quiescent_RefBrDxIdeal (hRefBrDxIdeal := hRefBrDxIdeal)
    ∧ quiescent_BrDw (hBrDw := hBrDw)
    ∧ quiescent_BrDwIdeal (hBrDwIdeal := hBrDwIdeal)
    ∧ quiescent_RefBrDwIdeal (hRefBrDwIdeal := hRefBrDwIdeal)
    ∧ quiescent_GluDx (hGluDx := hGluDx)
    ∧ quiescent_GluDxIdeal (hGluDxIdeal := hGluDxIdeal)
    ∧ quiescent_RefGluDxIdeal (hRefGluDxIdeal := hRefGluDxIdeal)
    ∧ quiescent_GluDw (hGluDw := hGluDw)
    ∧ quiescent_GluDwIdeal (hGluDwIdeal := hGluDwIdeal)
    ∧ quiescent_RefGluDwIdeal (hRefGluDwIdeal := hRefGluDwIdeal)
    ∧ quiescent_Down (hDown := hDown)
    ∧ quiescent_DownIdeal (hDownIdeal := hDownIdeal)
    ∧ quiescent_RefDownIdeal (hRefDownIdeal := hRefDownIdeal)
    ∧ quiescent_NormMid (hNormMid := hNormMid)
    ∧ quiescent_NormMidIdeal (hNormMidIdeal := hNormMidIdeal)
    ∧ quiescent_RefNormMidIdeal (hRefNormMidIdeal := hRefNormMidIdeal)
    ∧ quiescent_Merge (hMerge := hMerge)
    ∧ quiescent_MergeIdeal (hMergeIdeal := hMergeIdeal)
    ∧ quiescent_RefMergeIdeal (hRefMergeIdeal := hRefMergeIdeal)
    ∧ quiescent_Glu (hGlu := hGlu)
    ∧ quiescent_GluIdeal (hGluIdeal := hGluIdeal)
    ∧ quiescent_RefGluIdeal (hRefGluIdeal := hRefGluIdeal)
    ∧ quiescent_Mid (hMid := hMid)
    ∧ quiescent_MidIdeal (hMidIdeal := hMidIdeal)
    ∧ quiescent_RefMidIdeal (hRefMidIdeal := hRefMidIdeal)
    ∧ quiescent_NormPre (hNormPre := hNormPre)
    ∧ quiescent_NormPreIdeal (hNormPreIdeal := hNormPreIdeal)
    ∧ quiescent_RefNormPreIdeal (hRefNormPreIdeal := hRefNormPreIdeal)
    ∧ quiescent_Loss (hLoss := hLoss)
    ∧ quiescent_LossIdeal (hLossIdeal := hLossIdeal)
    ∧ quiescent_RefLossIdeal (hRefLossIdeal := hRefLossIdeal)
    ∧ quiescent_InProj (hInProj := hInProj)
    ∧ quiescent_InProjIdeal (hInProjIdeal := hInProjIdeal)
    ∧ quiescent_RefInProjIdeal (hRefInProjIdeal := hRefInProjIdeal)
    ∧ quiescent_MidUp (hMidUp := hMidUp)
    ∧ quiescent_MidUpIdeal (hMidUpIdeal := hMidUpIdeal)
    ∧ quiescent_RefMidUpIdeal (hRefMidUpIdeal := hRefMidUpIdeal)
    ∧ quiescent_GluUp (hGluUp := hGluUp)
    ∧ quiescent_GluUpIdeal (hGluUpIdeal := hGluUpIdeal)
    ∧ quiescent_RefGluUpIdeal (hRefGluUpIdeal := hRefGluUpIdeal)
    ∧ quiescent_MergeUp (hMergeUp := hMergeUp)
    ∧ quiescent_MergeUpIdeal (hMergeUpIdeal := hMergeUpIdeal)
    ∧ quiescent_RefMergeUpIdeal (hRefMergeUpIdeal := hRefMergeUpIdeal)
    ∧ quiescent_ResidUp (hResidUp := hResidUp)
    ∧ quiescent_ResidUpIdeal (hResidUpIdeal := hResidUpIdeal)
    ∧ quiescent_RefResidUpIdeal (hRefResidUpIdeal := hRefResidUpIdeal)
    ∧ quiescent_ConvAct (hConvAct := hConvAct)
    ∧ quiescent_ConvActIdeal (hConvActIdeal := hConvActIdeal)
    ∧ quiescent_RefConvActIdeal (hRefConvActIdeal := hRefConvActIdeal)
    ∧ quiescent_Adamw (hAdamw := hAdamw)
    ∧ quiescent_AdamwIdeal (hAdamwIdeal := hAdamwIdeal)
    ∧ quiescent_RefAdamwIdeal (hRefAdamwIdeal := hRefAdamwIdeal)
    ∧ preserves_Kernel_KernelIdeal
    ∧ algebraic_KernelIdeal_ReferenceIdeal (hKernelIdeal := hKernelIdeal) (hReferenceIdeal := hReferenceIdeal)
    ∧ preserves_UpDx_UpDxIdeal
    ∧ algebraic_UpDxIdeal_RefUpDxIdeal (hUpDxIdeal := hUpDxIdeal) (hRefUpDxIdeal := hRefUpDxIdeal)
    ∧ preserves_UpDw_UpDwIdeal
    ∧ algebraic_UpDwIdeal_RefUpDwIdeal (hUpDwIdeal := hUpDwIdeal) (hRefUpDwIdeal := hRefUpDwIdeal)
    ∧ preserves_DownDx_DownDxIdeal
    ∧ algebraic_DownDxIdeal_RefDownDxIdeal (hDownDxIdeal := hDownDxIdeal) (hRefDownDxIdeal := hRefDownDxIdeal)
    ∧ preserves_DownDw_DownDwIdeal
    ∧ algebraic_DownDwIdeal_RefDownDwIdeal (hDownDwIdeal := hDownDwIdeal) (hRefDownDwIdeal := hRefDownDwIdeal)
    ∧ preserves_InDx_InDxIdeal
    ∧ algebraic_InDxIdeal_RefInDxIdeal (hInDxIdeal := hInDxIdeal) (hRefInDxIdeal := hRefInDxIdeal)
    ∧ preserves_InDw_InDwIdeal
    ∧ algebraic_InDwIdeal_RefInDwIdeal (hInDwIdeal := hInDwIdeal) (hRefInDwIdeal := hRefInDwIdeal)
    ∧ preserves_OutDx_OutDxIdeal
    ∧ algebraic_OutDxIdeal_RefOutDxIdeal (hOutDxIdeal := hOutDxIdeal) (hRefOutDxIdeal := hRefOutDxIdeal)
    ∧ preserves_OutDw_OutDwIdeal
    ∧ algebraic_OutDwIdeal_RefOutDwIdeal (hOutDwIdeal := hOutDwIdeal) (hRefOutDwIdeal := hRefOutDwIdeal)
    ∧ preserves_BrDx_BrDxIdeal
    ∧ algebraic_BrDxIdeal_RefBrDxIdeal (hBrDxIdeal := hBrDxIdeal) (hRefBrDxIdeal := hRefBrDxIdeal)
    ∧ preserves_BrDw_BrDwIdeal
    ∧ algebraic_BrDwIdeal_RefBrDwIdeal (hBrDwIdeal := hBrDwIdeal) (hRefBrDwIdeal := hRefBrDwIdeal)
    ∧ preserves_GluDx_GluDxIdeal
    ∧ algebraic_GluDxIdeal_RefGluDxIdeal (hGluDxIdeal := hGluDxIdeal) (hRefGluDxIdeal := hRefGluDxIdeal)
    ∧ preserves_GluDw_GluDwIdeal
    ∧ algebraic_GluDwIdeal_RefGluDwIdeal (hGluDwIdeal := hGluDwIdeal) (hRefGluDwIdeal := hRefGluDwIdeal)
    ∧ preserves_Down_DownIdeal
    ∧ algebraic_DownIdeal_RefDownIdeal (hDownIdeal := hDownIdeal) (hRefDownIdeal := hRefDownIdeal)
    ∧ preserves_NormMid_NormMidIdeal
    ∧ algebraic_NormMidIdeal_RefNormMidIdeal (hNormMidIdeal := hNormMidIdeal) (hRefNormMidIdeal := hRefNormMidIdeal)
    ∧ preserves_Merge_MergeIdeal
    ∧ algebraic_MergeIdeal_RefMergeIdeal (hMergeIdeal := hMergeIdeal) (hRefMergeIdeal := hRefMergeIdeal)
    ∧ preserves_Glu_GluIdeal
    ∧ algebraic_GluIdeal_RefGluIdeal (hGluIdeal := hGluIdeal) (hRefGluIdeal := hRefGluIdeal)
    ∧ preserves_Mid_MidIdeal
    ∧ algebraic_MidIdeal_RefMidIdeal (hMidIdeal := hMidIdeal) (hRefMidIdeal := hRefMidIdeal)
    ∧ preserves_NormPre_NormPreIdeal
    ∧ algebraic_NormPreIdeal_RefNormPreIdeal (hNormPreIdeal := hNormPreIdeal) (hRefNormPreIdeal := hRefNormPreIdeal)
    ∧ preserves_Loss_LossIdeal
    ∧ algebraic_LossIdeal_RefLossIdeal (hLossIdeal := hLossIdeal) (hRefLossIdeal := hRefLossIdeal)
    ∧ preserves_InProj_InProjIdeal
    ∧ algebraic_InProjIdeal_RefInProjIdeal (hInProjIdeal := hInProjIdeal) (hRefInProjIdeal := hRefInProjIdeal)
    ∧ preserves_MidUp_MidUpIdeal
    ∧ algebraic_MidUpIdeal_RefMidUpIdeal (hMidUpIdeal := hMidUpIdeal) (hRefMidUpIdeal := hRefMidUpIdeal)
    ∧ preserves_GluUp_GluUpIdeal
    ∧ algebraic_GluUpIdeal_RefGluUpIdeal (hGluUpIdeal := hGluUpIdeal) (hRefGluUpIdeal := hRefGluUpIdeal)
    ∧ preserves_MergeUp_MergeUpIdeal
    ∧ algebraic_MergeUpIdeal_RefMergeUpIdeal (hMergeUpIdeal := hMergeUpIdeal) (hRefMergeUpIdeal := hRefMergeUpIdeal)
    ∧ preserves_ResidUp_ResidUpIdeal
    ∧ algebraic_ResidUpIdeal_RefResidUpIdeal (hResidUpIdeal := hResidUpIdeal) (hRefResidUpIdeal := hRefResidUpIdeal)
    ∧ preserves_ConvAct_ConvActIdeal
    ∧ algebraic_ConvActIdeal_RefConvActIdeal (hConvActIdeal := hConvActIdeal) (hRefConvActIdeal := hRefConvActIdeal)
    ∧ preserves_Adamw_AdamwIdeal
    ∧ algebraic_AdamwIdeal_RefAdamwIdeal (hAdamwIdeal := hAdamwIdeal) (hRefAdamwIdeal := hRefAdamwIdeal)
-- ==== Kernel.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S128x5632 : Shape := ⟨2, ![128, 5632]⟩
abbrev S128x2816 : Shape := ⟨2, ![128, 2816]⟩
abbrev S8x5632 : Shape := ⟨2, ![8, 5632]⟩
abbrev S8x2816 : Shape := ⟨2, ![8, 2816]⟩
abbrev S120x5632 : Shape := ⟨2, ![120, 5632]⟩
abbrev S5632 : Shape := ⟨1, ![5632]⟩

abbrev nBuf : Space → Nat
  | .hbm => 9
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S3x5632, .f32⟩
  | .hbm, ⟨3, _⟩ => ⟨S1x5632, .f32⟩
  | .hbm, ⟨4, _⟩ => ⟨S4096x5632, .bf16⟩
  | .hbm, ⟨5, _⟩ => ⟨S1x5632, .f32⟩
  | .hbm, ⟨6, _⟩ => ⟨S1x5632, .f32⟩
  | .hbm, ⟨7, _⟩ => ⟨S1x5632, .f32⟩
  | .hbm, ⟨8, _⟩ => ⟨S1x5632, .f32⟩
  | .local _ .vmem, ⟨0, _⟩ => ⟨S128x5632, .f32⟩
  | .local _ .vmem, ⟨1, _⟩ => ⟨S128x5632, .f32⟩
  | .local _ .vmem, ⟨2, _⟩ => ⟨S128x2816, .f32⟩
  | .local _ .vmem, ⟨3, _⟩ => ⟨S128x2816, .f32⟩
  | .local _ .vmem, ⟨4, _⟩ => ⟨S8x5632, .f32⟩
  | .local _ .vmem, ⟨5, _⟩ => ⟨S8x5632, .f32⟩
  | .local _ .vmem, ⟨6, _⟩ => ⟨S8x5632, .f32⟩
  | .local _ .vmem, ⟨7, _⟩ => ⟨S8x5632, .f32⟩
  | .local _ .vmem, ⟨8, _⟩ => ⟨S8x2816, .f32⟩
  | .local _ .vmem, ⟨9, _⟩ => ⟨S8x2816, .f32⟩
  | .local _ .vmem, ⟨10, _⟩ => ⟨S3x5632, .f32⟩
  | .local _ .vmem, ⟨11, _⟩ => ⟨S1x5632, .f32⟩
  | .local _ .vmem, ⟨12, _⟩ => ⟨S128x5632, .bf16⟩
  | .local _ .vmem, ⟨13, _⟩ => ⟨S128x5632, .bf16⟩
  | .local _ .vmem, ⟨14, _⟩ => ⟨S1x5632, .f32⟩
  | .local _ .vmem, ⟨15, _⟩ => ⟨S1x5632, .f32⟩
  | .local _ .vmem, ⟨16, _⟩ => ⟨S1x5632, .f32⟩
  | .local _ .vmem, ⟨17, _⟩ => ⟨S1x5632, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 135
  | .vmem => 0
  | .smem => 0
  | _ => 0

abbrev hbmTy0_0 (i : Nat) : BufTy := match i % 128 with
  | 0 => ⟨S4096x5632, .f32⟩
  | 1 => ⟨S4096x2816, .f32⟩
  | 2 => ⟨S3x5632, .f32⟩
  | 3 => ⟨S1x5632, .f32⟩
  | 4 => ⟨S_, .f32⟩
  | 5 => ⟨S2x5632, .f32⟩
  | 6 => ⟨S4098x5632, .f32⟩
  | 7 => ⟨S_, .f32⟩
  | 8 => ⟨S2x5632, .f32⟩
  | 9 => ⟨S1x5632, .f32⟩
  | 10 => ⟨S5632, .f32⟩
  | 11 => ⟨S4096x5632, .f32⟩
  | 12 => ⟨S1x5632, .f32⟩
  | 13 => ⟨S4096x5632, .f32⟩
  | 14 => ⟨S4096x5632, .f32⟩
  | 15 => ⟨S_, .f32⟩
  | 16 => ⟨S4096x5632, .f32⟩
  | 17 => ⟨S4096x5632, .f32⟩
  | 18 => ⟨S1x5632, .f32⟩
  | 19 => ⟨S5632, .f32⟩
  | 20 => ⟨S4096x5632, .f32⟩
  | 21 => ⟨S1x5632, .f32⟩
  | 22 => ⟨S4096x5632, .f32⟩
  | 23 => ⟨S4096x5632, .f32⟩
  | 24 => ⟨S4096x5632, .f32⟩
  | 25 => ⟨S1x5632, .f32⟩
  | 26 => ⟨S5632, .f32⟩
  | 27 => ⟨S4096x5632, .f32⟩
  | 28 => ⟨S1x5632, .f32⟩
  | 29 => ⟨S4096x5632, .f32⟩
  | 30 => ⟨S4096x5632, .f32⟩
  | 31 => ⟨S4096x5632, .f32⟩
  | 32 => ⟨S4096x5632, .f32⟩
  | 33 => ⟨S4096x5632, .f32⟩
  | 34 => ⟨S4096x2816, .f32⟩
  | 35 => ⟨S4096x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S4096x2816, .f32⟩
  | 57 => ⟨S_, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S4096x2816, .f32⟩
  | 69 => ⟨S_, .f32⟩
  | 70 => ⟨S4096x2816, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S4096x2816, .f32⟩
  | 77 => ⟨S_, .f32⟩
  | 78 => ⟨S4096x2816, .f32⟩
  | 79 => ⟨S4096x2816, .f32⟩
  | 80 => ⟨S4096x2816, .f32⟩
  | 81 => ⟨S4096x2816, .f32⟩
  | 82 => ⟨S4096x5632, .f32⟩
  | 83 => ⟨S_, .f32⟩
  | 84 => ⟨S5632, .f32⟩
  | 85 => ⟨S1x5632, .f32⟩
  | 86 => ⟨S4096x5632, .f32⟩
  | 87 => ⟨S4096x5632, .f32⟩
  | 88 => ⟨S4096x5632, .f32⟩
  | 89 => ⟨S_, .f32⟩
  | 90 => ⟨S5632, .f32⟩
  | 91 => ⟨S1x5632, .f32⟩
  | 92 => ⟨S_, .f32⟩
  | 93 => ⟨S5632, .f32⟩
  | 94 => ⟨S_, .f32⟩
  | 95 => ⟨S4098x5632, .f32⟩
  | 96 => ⟨S1x5632, .f32⟩
  | 97 => ⟨S_, .f32⟩
  | 98 => ⟨S3x5632, .f32⟩
  | 99 => ⟨S4096x5632, .f32⟩
  | 100 => ⟨S4096x5632, .f32⟩
  | 101 => ⟨S4096x5632, .f32⟩
  | 102 => ⟨S_, .f32⟩
  | 103 => ⟨S5632, .f32⟩
  | 104 => ⟨S1x5632, .f32⟩
  | 105 => ⟨S_, .f32⟩
  | 106 => ⟨S5632, .f32⟩
  | 107 => ⟨S_, .f32⟩
  | 108 => ⟨S4098x5632, .f32⟩
  | 109 => ⟨S4098x5632, .f32⟩
  | 110 => ⟨S1x5632, .f32⟩
  | 111 => ⟨S_, .f32⟩
  | 112 => ⟨S3x5632, .f32⟩
  | 113 => ⟨S3x5632, .f32⟩
  | 114 => ⟨S4096x5632, .f32⟩
  | 115 => ⟨S4096x5632, .f32⟩
  | 116 => ⟨S4096x5632, .f32⟩
  | 117 => ⟨S_, .f32⟩
  | 118 => ⟨S5632, .f32⟩
  | 119 => ⟨S1x5632, .f32⟩
  | 120 => ⟨S_, .f32⟩
  | 121 => ⟨S5632, .f32⟩
  | 122 => ⟨S_, .f32⟩
  | 123 => ⟨S4098x5632, .f32⟩
  | 124 => ⟨S4098x5632, .f32⟩
  | 125 => ⟨S1x5632, .f32⟩
  | 126 => ⟨S_, .f32⟩
  | 127 => ⟨S3x5632, .f32⟩
  | _ => ⟨S4096x5632, .f32⟩

abbrev hbmTy0_1 (i : Nat) : BufTy := match i % 128 with
  | 0 => ⟨S3x5632, .f32⟩
  | 1 => ⟨S2x5632, .f32⟩
  | 2 => ⟨S4096x5632, .f32⟩
  | 3 => ⟨S4096x5632, .bf16⟩
  | 4 => ⟨S1x5632, .f32⟩
  | 5 => ⟨S1x5632, .f32⟩
  | 6 => ⟨S1x5632, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_cst_19 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_20 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_21 : Ref sig .tc := ⟨.hbm, 117, rfl⟩
abbrev main_v91 : Ref sig .tc := ⟨.hbm, 118, rfl⟩
abbrev main_v92 : Ref sig .tc := ⟨.hbm, 119, rfl⟩
abbrev main_cst_22 : Ref sig .tc := ⟨.hbm, 120, rfl⟩
abbrev main_v93 : Ref sig .tc := ⟨.hbm, 121, rfl⟩
abbrev main_cst_23 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_24 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩

abbrev nD : Nat := 1
abbrev τ : Topo := Topo.v7x

variable {F : FTy → Type} [FloatOps F]
-- ==== UpDx.lean ====
abbrev S1024x5632 : Shape := ⟨2, ![1024, 5632]⟩
abbrev S4096x5632 : Shape := ⟨2, ![4096, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x5632, .bf16⟩
  | .hbm, ⟨1, _⟩ => ⟨S4096x5632, .bf16⟩
  | .hbm, ⟨2, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefUpDxIdeal.lean ====
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S4096x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDwIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S2816x1024 : Shape := ⟨2, ![2816, 1024]⟩
abbrev S4096x1024 : Shape := ⟨2, ![4096, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2816x1024, .bf16⟩
  | .hbm, ⟨1, _⟩ => ⟨S4096x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDownDxIdeal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S4096x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4352x1024 : Shape := ⟨2, ![4352, 1024]⟩
abbrev S4096x4352 : Shape := ⟨2, ![4096, 4352]⟩
abbrev S4096x1024 : Shape := ⟨2, ![4096, 1024]⟩
abbrev S512x4352 : Shape := ⟨2, ![512, 4352]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4096x4352, .bf16⟩
  | .hbm, ⟨2, _⟩ => ⟨S4096x1024, .f32⟩
  | .local _ .vmem, ⟨0, _⟩ => ⟨S512x4352, .bf16⟩
  | .local _ .vmem, ⟨1, _⟩ => ⟨S512x4352, .bf16⟩
  | .local _ .vmem, ⟨2, _⟩ => ⟨S4352x1024, .bf16⟩
  | .local _ .vmem, ⟨3, _⟩ => ⟨S512x1024, .f32⟩
  | .local _ .vmem, ⟨4, _⟩ => ⟨S512x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefInDxIdeal.lean ====
abbrev S4352x1024 : Shape := ⟨2, ![4352, 1024]⟩
abbrev S4096x4352 : Shape := ⟨2, ![4096, 4352]⟩
abbrev S_ : Shape := ⟨0, ![]⟩
abbrev S4096x1024 : Shape := ⟨2, ![4096, 1024]⟩
abbrev S1024x4352 : Shape := ⟨2, ![1024, 4352]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4096x4352, .bf16⟩
  | .hbm, ⟨2, _⟩ => ⟨S_, .f32⟩
  | .hbm, ⟨3, _⟩ => ⟨S4096x1024, .f32⟩
  | .hbm, ⟨4, _⟩ => ⟨S4352x1024, .f32⟩
  | .hbm, ⟨5, _⟩ => ⟨S1024x4352, .f32⟩
  | .hbm, ⟨6, _⟩ => ⟨S4096x4352, .f32⟩
  | .hbm, ⟨7, _⟩ => ⟨S4096x4352, .f32⟩
  | .hbm, ⟨8, _⟩ => ⟨S4352x1024, .f32⟩
  | .hbm, ⟨9, _⟩ => ⟨S1024x4352, .f32⟩
  | .hbm, ⟨10, _⟩ => ⟨S4096x1024, .f32⟩
  | .hbm, ⟨11, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDw.lean ====
abbrev S4096x1024 : Shape := ⟨2, ![4096, 1024]⟩
abbrev S4096x4352 : Shape := ⟨2, ![4096, 4352]⟩
abbrev S4352x1024 : Shape := ⟨2, ![4352, 1024]⟩
abbrev S1024x2176 : Shape := ⟨2, ![1024, 2176]⟩
abbrev S1024x512 : Shape := ⟨2, ![1024, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4352, .bf16⟩
  | .hbm, ⟨2, _⟩ => ⟨S4352x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDwIdeal.lean ====
abbrev S4096x1024 : Shape := ⟨2, ![4096, 1024]⟩
abbrev S4096x4352 : Shape := ⟨2, ![4096, 4352]⟩
abbrev S_ : Shape := ⟨0, ![]⟩
abbrev S4352x1024 : Shape := ⟨2, ![4352, 1024]⟩
abbrev S1024x4352 : Shape := ⟨2, ![1024, 4352]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4352, .bf16⟩
  | .hbm, ⟨2, _⟩ => ⟨S_, .f32⟩
  | .hbm, ⟨3, _⟩ => ⟨S4352x1024, .f32⟩
  | .hbm, ⟨4, _⟩ => ⟨S4096x1024, .f32⟩
  | .hbm, ⟨5, _⟩ => ⟨S1024x4352, .f32⟩
  | .hbm, ⟨6, _⟩ => ⟨S4096x4352, .f32⟩
  | .hbm, ⟨7, _⟩ => ⟨S4096x4352, .f32⟩
  | .hbm, ⟨8, _⟩ => ⟨S4352x1024, .f32⟩
  | .hbm, ⟨9, _⟩ => ⟨S1024x4352, .f32⟩
  | .hbm, ⟨10, _⟩ => ⟨S4096x1024, .f32⟩
  | .hbm, ⟨11, _⟩ => ⟨S4352x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefOutDxIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefOutDwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrDx.lean ====
abbrev S512x1024 : Shape := ⟨2, ![512, 1024]⟩
abbrev S4096x1024 : Shape := ⟨2, ![4096, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S4096x1024, .bf16⟩
  | .hbm, ⟨2, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefBrDxIdeal.lean ====
abbrev S512x1024 : Shape := ⟨2, ![512, 1024]⟩
abbrev S4096x1024 : Shape := ⟨2, ![4096, 1024]⟩
abbrev S_ : Shape := ⟨0, ![]⟩
abbrev S4096x512 : Shape := ⟨2, ![4096, 512]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4096x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S4096x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrDw.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefBrDwIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDx.lean ====
abbrev S512x512 : Shape := ⟨2, ![512, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S4096x512, .bf16⟩
  | .hbm, ⟨2, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .f32⟩
  | .local _ .vmem, ⟨4, _⟩ => ⟨S512x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefGluDxIdeal.lean ====
abbrev S512x512 : Shape := ⟨2, ![512, 512]⟩
abbrev S4096x512 : Shape := ⟨2, ![4096, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S4096x512, .bf16⟩
  | .hbm, ⟨2, _⟩ => ⟨S_, .f32⟩
  | .hbm, ⟨3, _⟩ => ⟨S4096x512, .f32⟩
  | .hbm, ⟨4, _⟩ => ⟨S512x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S4096x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefGluDwIdeal.lean ====
abbrev S4096x512 : Shape := ⟨2, ![4096, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S512x512, .f32⟩
  | .hbm, ⟨7, _⟩ => ⟨S512x512, .f32⟩
  | .hbm, ⟨8, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDownIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormMid.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefNormMidIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Merge.lean ====
abbrev S4096x2048 : Shape := ⟨2, ![4096, 2048]⟩
abbrev S4096x1024 : Shape := ⟨2, ![4096, 1024]⟩
abbrev S1x2048 : Shape := ⟨2, ![1, 2048]⟩
abbrev S512x2048 : Shape := ⟨2, ![512, 2048]⟩
abbrev S512x1024 : Shape := ⟨2, ![512, 1024]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x2048, .f32⟩
  | .hbm, ⟨5, _⟩ => ⟨S4096x2048, .bf16⟩
  | .hbm, ⟨6, _⟩ => ⟨S4096x1024, .bf16⟩
  | .hbm, ⟨7, _⟩ => ⟨S4096x1024, .bf16⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefMergeIdeal.lean ====
abbrev S4096x2048 : Shape := ⟨2, ![4096, 2048]⟩
abbrev S4096x1024 : Shape := ⟨2, ![4096, 1024]⟩
abbrev S1x2048 : Shape := ⟨2, ![1, 2048]⟩
abbrev S_ : Shape := ⟨0, ![]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .bf16⟩
  | .hbm, ⟨36, _⟩ => ⟨S4096x1024, .bf16⟩
  | .hbm, ⟨37, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Glu.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S4096x512, .bf16⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefGluIdeal.lean ====
abbrev S4096x512 : Shape := ⟨2, ![4096, 512]⟩
abbrev S1x512 : Shape := ⟨2, ![1, 512]⟩
abbrev S_ : Shape := ⟨0, ![]⟩
abbrev S512 : Shape := ⟨1, ![512]⟩

abbrev nBuf : Space → Nat
  | .hbm => 26
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Mid.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S4096x512, .bf16⟩
  | .hbm, ⟨6, _⟩ => ⟨S4096x512, .f32⟩
  | .hbm, ⟨7, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefMidIdeal.lean ====
abbrev S4096x512 : Shape := ⟨2, ![4096, 512]⟩
abbrev S1x512 : Shape := ⟨2, ![1, 512]⟩
abbrev S_ : Shape := ⟨0, ![]⟩
abbrev S512 : Shape := ⟨1, ![512]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== NormPre.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormPreIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefLossIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S4352x1024 : Shape := ⟨2, ![4352, 1024]⟩
abbrev S4096x1792 : Shape := ⟨2, ![4096, 1792]⟩
abbrev S4096x512 : Shape := ⟨2, ![4096, 512]⟩
abbrev S4096x2048 : Shape := ⟨2, ![4096, 2048]⟩
abbrev S256x1024 : Shape := ⟨2, ![256, 1024]⟩
abbrev S256x1792 : Shape := ⟨2, ![256, 1792]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1792x1024 : Shape := ⟨2, ![1792, 1024]⟩
abbrev S512x1024 : Shape := ⟨2, ![512, 1024]⟩
abbrev S2048x1024 : Shape := ⟨2, ![2048, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4352x1024, .bf16⟩
  | .hbm, ⟨3, _⟩ => ⟨S4096x1024, .bf16⟩
  | .hbm, ⟨4, _⟩ => ⟨S4096x1792, .f32⟩
  | .hbm, ⟨5, _⟩ => ⟨S4096x512, .f32⟩
  | .hbm, ⟨6, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4352x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1792, .f32⟩
  | .local _ .vmem, ⟨7, _⟩ => ⟨S256x1792, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefInProjIdeal.lean ====
abbrev S4096x1024 : Shape := ⟨2, ![4096, 1024]⟩
abbrev S1x1024 : Shape := ⟨2, ![1, 1024]⟩
abbrev S4352x1024 : Shape := ⟨2, ![4352, 1024]⟩
abbrev S_ : Shape := ⟨0, ![]⟩
abbrev S4096 : Shape := ⟨1, ![4096]⟩
abbrev S4096x1 : Shape := ⟨2, ![4096, 1]⟩
abbrev S1024x4352 : Shape := ⟨2, ![1024, 4352]⟩
abbrev S4096x4352 : Shape := ⟨2, ![4096, 4352]⟩
abbrev S4096x1792 : Shape := ⟨2, ![4096, 1792]⟩
abbrev S4096x512 : Shape := ⟨2, ![4096, 512]⟩
abbrev S4096x2048 : Shape := ⟨2, ![4096, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4352x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4352x1024, .f32⟩
  | .hbm, ⟨19, _⟩ => ⟨S1024x4352, .f32⟩
  | .hbm, ⟨20, _⟩ => ⟨S4096x4352, .f32⟩
  | .hbm, ⟨21, _⟩ => ⟨S4096x1024, .bf16⟩
  | .hbm, ⟨22, _⟩ => ⟨S4096x1792, .f32⟩
  | .hbm, ⟨23, _⟩ => ⟨S4096x512, .f32⟩
  | .hbm, ⟨24, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MidUp.lean ====
abbrev S4096x512 : Shape := ⟨2, ![4096, 512]⟩
abbrev S1x512 : Shape := ⟨2, ![1, 512]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .bf16⟩
  | .hbm, ⟨4, _⟩ => ⟨S4096x512, .bf16⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefMidUpIdeal.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .bf16⟩
  | .hbm, ⟨25, _⟩ => ⟨S512x512, .f32⟩
  | .hbm, ⟨26, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== GluUp.lean ====
abbrev S4096x512 : Shape := ⟨2, ![4096, 512]⟩
abbrev S1x512 : Shape := ⟨2, ![1, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x1024, .bf16⟩
  | .hbm, ⟨4, _⟩ => ⟨S4096x512, .bf16⟩
  | .hbm, ⟨5, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefGluUpIdeal.lean ====
abbrev S4096x512 : Shape := ⟨2, ![4096, 512]⟩
abbrev S1x512 : Shape := ⟨2, ![1, 512]⟩
abbrev S512x1024 : Shape := ⟨2, ![512, 1024]⟩
abbrev S_ : Shape := ⟨0, ![]⟩
abbrev S4096x1024 : Shape := ⟨2, ![4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x1024, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .bf16⟩
  | .hbm, ⟨16, _⟩ => ⟨S512x1024, .f32⟩
  | .hbm, ⟨17, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== MergeUp.lean ====
abbrev S4096x2048 : Shape := ⟨2, ![4096, 2048]⟩
abbrev S4096x1024 : Shape := ⟨2, ![4096, 1024]⟩
abbrev S1x2048 : Shape := ⟨2, ![1, 2048]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x2048, .f32⟩
  | .hbm, ⟨4, _⟩ => ⟨S1024x1024, .bf16⟩
  | .hbm, ⟨5, _⟩ => ⟨S4096x1024, .bf16⟩
  | .hbm, ⟨6, _⟩ => ⟨S4096x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefMergeUpIdeal.lean ====
abbrev S4096x2048 : Shape := ⟨2, ![4096, 2048]⟩
abbrev S4096x1024 : Shape := ⟨2, ![4096, 1024]⟩
abbrev S1x2048 : Shape := ⟨2, ![1, 2048]⟩
abbrev S1024x1024 : Shape := ⟨2, ![1024, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x2048, .f32⟩
  | .hbm, ⟨4, _⟩ => ⟨S1024x1024, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x1024, .f32⟩
  | .hbm, ⟨22, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ResidUp.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .bf16⟩
  | .hbm, ⟨6, _⟩ => ⟨S4096x1024, .f32⟩
  | .hbm, ⟨7, _⟩ => ⟨S4096x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .f32⟩
  | .local _ .vmem, ⟨12, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefResidUpIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S1024x5632, .f32⟩
  | .hbm, ⟨38, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== ConvAct.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S128x5632 : Shape := ⟨2, ![128, 5632]⟩
abbrev S8x5632 : Shape := ⟨2, ![8, 5632]⟩
abbrev S128x2816 : Shape := ⟨2, ![128, 2816]⟩
abbrev S120x5632 : Shape := ⟨2, ![120, 5632]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S128x5632, .f32⟩
  | .local _ .vmem, ⟨1, _⟩ => ⟨S128x5632, .f32⟩
  | .local _ .vmem, ⟨2, _⟩ => ⟨S8x5632, .f32⟩
  | .local _ .vmem, ⟨3, _⟩ => ⟨S8x5632, .f32⟩
  | .local _ .vmem, ⟨4, _⟩ => ⟨S3x5632, .f32⟩
  | .local _ .vmem, ⟨5, _⟩ => ⟨S1x5632, .f32⟩
  | .local _ .vmem, ⟨6, _⟩ => ⟨S128x2816, .bf16⟩
  | .local _ .vmem, ⟨7, _⟩ => ⟨S128x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefConvActIdeal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 52
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S1x5632, .f32⟩
  | .hbm, ⟨7, _⟩ => ⟨S5632, .f32⟩
  | .hbm, ⟨8, _⟩ => ⟨S4096x5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S4096x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S4096x5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Adamw.lean ====
abbrev S1024x1088 : Shape := ⟨2, ![1024, 1088]⟩
abbrev S1024x1408 : Shape := ⟨2, ![1024, 1408]⟩
abbrev S512x256 : Shape := ⟨2, ![512, 256]⟩
abbrev S256x1024 : Shape := ⟨2, ![256, 1024]⟩
abbrev S128x512 : Shape := ⟨2, ![128, 512]⟩
abbrev S704x1024 : Shape := ⟨2, ![704, 1024]⟩
abbrev S128x1088 : Shape := ⟨2, ![128, 1088]⟩
abbrev S128x1408 : Shape := ⟨2, ![128, 1408]⟩
abbrev S64x256 : Shape := ⟨2, ![64, 256]⟩
abbrev S32x1024 : Shape := ⟨2, ![32, 1024]⟩
abbrev S16x512 : Shape := ⟨2, ![16, 512]⟩
abbrev S88x1024 : Shape := ⟨2, ![88, 1024]⟩

abbrev nBuf : Space → Nat
  | .hbm => 56
  | .vmem => 112
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S1024x1088, .f32⟩
  | .hbm, ⟨33, _⟩ => ⟨S1024x1088, .f32⟩
  | .hbm, ⟨34, _⟩ => ⟨S1024x1088, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S704x1024, .f32⟩
  | .hbm, ⟨51, _⟩ => ⟨S704x1024, .f32⟩
  | .hbm, ⟨52, _⟩ => ⟨S704x1024, .f32⟩
  | .hbm, ⟨53, _⟩ => ⟨S256x1024, .f32⟩
  | .hbm, ⟨54, _⟩ => ⟨S256x1024, .f32⟩
  | .hbm, ⟨55, _⟩ => ⟨S256x1024, .f32⟩
  | .local _ .vmem, ⟨0, _⟩ => ⟨S128x1088, .f32⟩
  | .local _ .vmem, ⟨1, _⟩ => ⟨S128x1088, .f32⟩
  | .local _ .vmem, ⟨2, _⟩ => ⟨S128x1088, .f32⟩
  | .local _ .vmem, ⟨3, _⟩ => ⟨S128x1088, .f32⟩
  | .local _ .vmem, ⟨4, _⟩ => ⟨S128x1088, .f32⟩
  | .local _ .vmem, ⟨5, _⟩ => ⟨S128x1088, .f32⟩
  | .local _ .vmem, ⟨6, _⟩ => ⟨S128x1088, .f32⟩
  | .local _ .vmem, ⟨7, _⟩ => ⟨S128x1088, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S64x256, .f32⟩
  | .local _ .vmem, ⟨17, _⟩ => ⟨S64x256, .f32⟩
  | .local _ .vmem, ⟨18, _⟩ => ⟨S64x256, .f32⟩
  | .local _ .vmem, ⟨19, _⟩ => ⟨S64x256, .f32⟩
  | .local _ .vmem, ⟨20, _⟩ => ⟨S64x256, .f32⟩
  | .local _ .vmem, ⟨21, _⟩ => ⟨S64x256, .f32⟩
  | .local _ .vmem, ⟨22, _⟩ => ⟨S64x256, .f32⟩
  | .local _ .vmem, ⟨23, _⟩ => ⟨S64x256, .f32⟩
  | .local _ .vmem, ⟨24, _⟩ => ⟨S64x256, .f32⟩
  | .local _ .vmem, ⟨25, _⟩ => ⟨S64x256, .f32⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S64x256, .f32⟩
  | .local _ .vmem, ⟨31, _⟩ => ⟨S64x256, .f32⟩
  | .local _ .vmem, ⟨32, _⟩ => ⟨S32x1024, .f32⟩
  | .local _ .vmem, ⟨33, _⟩ => ⟨S32x1024, .f32⟩
  | .local _ .vmem, ⟨34, _⟩ => ⟨S32x1024, .f32⟩
  | .local _ .vmem, ⟨35, _⟩ => ⟨S32x1024, .f32⟩
  | .local _ .vmem, ⟨36, _⟩ => ⟨S32x1024, .f32⟩
  | .local _ .vmem, ⟨37, _⟩ => ⟨S32x1024, .f32⟩
  | .local _ .vmem, ⟨38, _⟩ => ⟨S32x1024, .f32⟩
  | .local _ .vmem, ⟨39, _⟩ => ⟨S32x1024, .f32⟩
  | .local _ .vmem, ⟨40, _⟩ => ⟨S16x512, .f32⟩
  | .local _ .vmem, ⟨41, _⟩ => ⟨S16x512, .f32⟩
  | .local _ .vmem, ⟨42, _⟩ => ⟨S16x512, .f32⟩
  | .local _ .vmem, ⟨43, _⟩ => ⟨S16x512, .f32⟩
  | .local _ .vmem, ⟨44, _⟩ => ⟨S16x512, .f32⟩
  | .local _ .vmem, ⟨45, _⟩ => ⟨S16x512, .f32⟩
  | .local _ .vmem, ⟨46, _⟩ => ⟨S16x512, .f32⟩
  | .local _ .vmem, ⟨47, _⟩ => ⟨S16x512, .f32⟩
  | .local _ .vmem, ⟨48, _⟩ => ⟨S88x1024, .f32⟩
  | .local _ .vmem, ⟨49, _⟩ => ⟨S88x1024, .f32⟩
  | .local _ .vmem, ⟨50, _⟩ => ⟨S88x1024, .f32⟩
  | .local _ .vmem, ⟨51, _⟩ => ⟨S88x1024, .f32⟩
  | .local _ .vmem, ⟨52, _⟩ => ⟨S88x1024, .f32⟩
  | .local _ .vmem, ⟨53, _⟩ => ⟨S88x1024, .f32⟩
  | .local _ .vmem, ⟨54, _⟩ => ⟨S88x1024, .f32⟩
  | .local _ .vmem, ⟨55, _⟩ => ⟨S88x1024, .f32⟩
  | .local _ .vmem, ⟨56, _⟩ => ⟨S32x1024, .f32⟩
  | .local _ .vmem, ⟨57, _⟩ => ⟨S32x1024, .f32⟩
  | .local _ .vmem, ⟨58, _⟩ => ⟨S32x1024, .f32⟩
  | .local _ .vmem, ⟨59, _⟩ => ⟨S32x1024, .f32⟩
  | .local _ .vmem, ⟨60, _⟩ => ⟨S32x1024, .f32⟩
  | .local _ .vmem, ⟨61, _⟩ => ⟨S32x1024, .f32⟩
  | .local _ .vmem, ⟨62, _⟩ => ⟨S32x1024, .f32⟩
  | .local _ .vmem, ⟨63, _⟩ => ⟨S32x1024, .f32⟩
  | .local _ .vmem, ⟨64, _⟩ => ⟨S128x1088, .f32⟩
  | .local _ .vmem, ⟨65, _⟩ => ⟨S128x1088, .f32⟩
  | .local _ .vmem, ⟨66, _⟩ => ⟨S128x1088, .f32⟩
  | .local _ .vmem, ⟨67, _⟩ => ⟨S128x1088, .f32⟩
  | .local _ .vmem, ⟨68, _⟩ => ⟨S128x1088, .f32⟩
  | .local _ .vmem, ⟨69, _⟩ => ⟨S128x1088, .f32⟩
  | .local _ .vmem, ⟨70, _⟩ => ⟨S128x1408, .f32⟩
  | .local _ .vmem, ⟨71, _⟩ => ⟨S128x1408, .f32⟩
  | .local _ .vmem, ⟨72, _⟩ => ⟨S128x1408, .f32⟩
  | .local _ .vmem, ⟨73, _⟩ => ⟨S128x1408, .f32⟩
  | .local _ .vmem, ⟨74, _⟩ => ⟨S128x1408, .f32⟩
  | .local _ .vmem, ⟨75, _⟩ => ⟨S128x1408, .f32⟩
  | .local _ .vmem, ⟨76, _⟩ => ⟨S64x256, .f32⟩
  | .local _ .vmem, ⟨77, _⟩ => ⟨S64x256, .f32⟩
  | .local _ .vmem, ⟨78, _⟩ => ⟨S64x256, .f32⟩
  | .local _ .vmem, ⟨79, _⟩ => ⟨S64x256, .f32⟩
  | .local _ .vmem, ⟨80, _⟩ => ⟨S64x256, .f32⟩
  | .local _ .vmem, ⟨81, _⟩ => ⟨S64x256, .f32⟩
  | .local _ .vmem, ⟨82, _⟩ => ⟨S64x256, .f32⟩
  | .local _ .vmem, ⟨83, _⟩ => ⟨S64x256, .f32⟩
  | .local _ .vmem, ⟨84, _⟩ => ⟨S64x256, .f32⟩
  | .local _ .vmem, ⟨85, _⟩ => ⟨S64x256, .f32⟩
  | .local _ .vmem, ⟨86, _⟩ => ⟨S64x256, .f32⟩
  | .local _ .vmem, ⟨87, _⟩ => ⟨S64x256, .f32⟩
  | .local _ .vmem, ⟨88, _⟩ => ⟨S32x1024, .f32⟩
  | .local _ .vmem, ⟨89, _⟩ => ⟨S32x1024, .f32⟩
  | .local _ .vmem, ⟨90, _⟩ => ⟨S32x1024, .f32⟩
  | .local _ .vmem, ⟨91, _⟩ => ⟨S32x1024, .f32⟩
  | .local _ .vmem, ⟨92, _⟩ => ⟨S32x1024, .f32⟩
  | .local _ .vmem, ⟨93, _⟩ => ⟨S32x1024, .f32⟩
  | .local _ .vmem, ⟨94, _⟩ => ⟨S16x512, .f32⟩
  | .local _ .vmem, ⟨95, _⟩ => ⟨S16x512, .f32⟩
  | .local _ .vmem, ⟨96, _⟩ => ⟨S16x512, .f32⟩
  | .local _ .vmem, ⟨97, _⟩ => ⟨S16x512, .f32⟩
  | .local _ .vmem, ⟨98, _⟩ => ⟨S16x512, .f32⟩
  | .local _ .vmem, ⟨99, _⟩ => ⟨S16x512, .f32⟩
  | .local _ .vmem, ⟨100, _⟩ => ⟨S88x1024, .f32⟩
  | .local _ .vmem, ⟨101, _⟩ => ⟨S88x1024, .f32⟩
  | .local _ .vmem, ⟨102, _⟩ => ⟨S88x1024, .f32⟩
  | .local _ .vmem, ⟨103, _⟩ => ⟨S88x1024, .f32⟩
  | .local _ .vmem, ⟨104, _⟩ => ⟨S88x1024, .f32⟩
  | .local _ .vmem, ⟨105, _⟩ => ⟨S88x1024, .f32⟩
  | .local _ .vmem, ⟨106, _⟩ => ⟨S32x1024, .f32⟩
  | .local _ .vmem, ⟨107, _⟩ => ⟨S32x1024, .f32⟩
  | .local _ .vmem, ⟨108, _⟩ => ⟨S32x1024, .f32⟩
  | .local _ .vmem, ⟨109, _⟩ => ⟨S32x1024, .f32⟩
  | .local _ .vmem, ⟨110, _⟩ => ⟨S32x1024, .f32⟩
  | .local _ .vmem, ⟨111, _⟩ => ⟨S32x1024, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_42 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_43 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_44 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_45 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_46 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_47 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_48 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_49 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_50 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_51 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_52 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_53 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_54 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_55 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S88x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S88x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S88x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S88x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S32x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S32x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S32x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S128x1088 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S128x1088 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S128x1088 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S128x1408 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S128x1408 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S128x1408 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S64x256 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S64x256 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S64x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S64x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S64x256 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S64x256 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S32x1024 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S32x1024 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S32x1024 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S16x512 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S16x512 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S16x512 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S88x1024 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S88x1024 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S88x1024 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S32x1024 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S32x1024 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S32x1024 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]
-- ==== RefAdamwIdeal.lean ====
abbrev S1024x1088 : Shape := ⟨2, ![1024, 1088]⟩
abbrev S1024x1408 : Shape := ⟨2, ![1024, 1408]⟩
abbrev S512x256 : Shape := ⟨2, ![512, 256]⟩
abbrev S256x1024 : Shape := ⟨2, ![256, 1024]⟩
abbrev S128x512 : Shape := ⟨2, ![128, 512]⟩
abbrev S704x1024 : Shape := ⟨2, ![704, 1024]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S1024x1088, .f32⟩
  | 1 => ⟨S1024x1088, .f32⟩
  | 2 => ⟨S1024x1088, .f32⟩
  | 3 => ⟨S1024x1088, .f32⟩
  | 4 => ⟨S1024x1408, .f32⟩
  | 5 => ⟨S1024x1408, .f32⟩
  | 6 => ⟨S1024x1408, .f32⟩
  | 7 => ⟨S1024x1408, .f32⟩
  | 8 => ⟨S512x256, .f32⟩
  | 9 => ⟨S512x256, .f32⟩
  | 10 => ⟨S512x256, .f32⟩
  | 11 => ⟨S512x256, .f32⟩
  | 12 => ⟨S512x256, .f32⟩
  | 13 => ⟨S512x256, .f32⟩
  | 14 => ⟨S512x256, .f32⟩
  | 15 => ⟨S512x256, .f32⟩
  | 16 => ⟨S256x1024, .f32⟩
  | 17 => ⟨S256x1024, .f32⟩
  | 18 => ⟨S256x1024, .f32⟩
  | 19 => ⟨S256x1024, .f32⟩
  | 20 => ⟨S128x512, .f32⟩
  | 21 => ⟨S128x512, .f32⟩
  | 22 => ⟨S128x512, .f32⟩
  | 23 => ⟨S128x512, .f32⟩
  | 24 => ⟨S704x1024, .f32⟩
  | 25 => ⟨S704x1024, .f32⟩
  | 26 => ⟨S704x1024, .f32⟩
  | 27 => ⟨S704x1024, .f32⟩
  | 28 => ⟨S256x1024, .f32⟩
  | 29 => ⟨S256x1024, .f32⟩
  | 30 => ⟨S256x1024, .f32⟩
  | 31 => ⟨S256x1024, .f32⟩
  | 32 => ⟨S_, .f32⟩
  | 33 => ⟨S1024x1088, .f32⟩
  | 34 => ⟨S1024x1088, .f32⟩
  | 35 => ⟨S_, .f32⟩
  | 36 => ⟨S1024x1088, .f32⟩
  | 37 => ⟨S1024x1088, .f32⟩
  | 38 => ⟨S1024x1088, .f32⟩
  | 39 => ⟨S_, .f32⟩
  | 40 => ⟨S1024x1088, .f32⟩
  | 41 => ⟨S1024x1088, .f32⟩
  | 42 => ⟨S1024x1088, .f32⟩
  | 43 => ⟨S_, .f32⟩
  | 44 => ⟨S1024x1088, .f32⟩
  | 45 => ⟨S1024x1088, .f32⟩
  | 46 => ⟨S1024x1088, .f32⟩
  | 47 => ⟨S_, .f32⟩
  | 48 => ⟨S1024x1088, .f32⟩
  | 49 => ⟨S1024x1088, .f32⟩
  | 50 => ⟨S_, .f32⟩
  | 51 => ⟨S1024x1088, .f32⟩
  | 52 => ⟨S1024x1088, .f32⟩
  | 53 => ⟨S1024x1088, .f32⟩
  | 54 => ⟨S_, .f32⟩
  | 55 => ⟨S1024x1088, .f32⟩
  | 56 => ⟨S1024x1088, .f32⟩
  | 57 => ⟨S1024x1088, .f32⟩
  | 58 => ⟨S_, .f32⟩
  | 59 => ⟨S1024x1088, .f32⟩
  | 60 => ⟨S1024x1088, .f32⟩
  | 61 => ⟨S1024x1088, .f32⟩
  | 62 => ⟨S_, .f32⟩
  | 63 => ⟨S1024x1088, .f32⟩
  | 64 => ⟨S1024x1088, .f32⟩
  | 65 => ⟨S_, .f32⟩
  | 66 => ⟨S1024x1408, .f32⟩
  | 67 => ⟨S1024x1408, .f32⟩
  | 68 => ⟨S_, .f32⟩
  | 69 => ⟨S1024x1408, .f32⟩
  | 70 => ⟨S1024x1408, .f32⟩
  | 71 => ⟨S1024x1408, .f32⟩
  | 72 => ⟨S_, .f32⟩
  | 73 => ⟨S1024x1408, .f32⟩
  | 74 => ⟨S1024x1408, .f32⟩
  | 75 => ⟨S1024x1408, .f32⟩
  | 76 => ⟨S_, .f32⟩
  | 77 => ⟨S1024x1408, .f32⟩
  | 78 => ⟨S1024x1408, .f32⟩
  | 79 => ⟨S1024x1408, .f32⟩
  | 80 => ⟨S_, .f32⟩
  | 81 => ⟨S1024x1408, .f32⟩
  | 82 => ⟨S1024x1408, .f32⟩
  | 83 => ⟨S_, .f32⟩
  | 84 => ⟨S1024x1408, .f32⟩
  | 85 => ⟨S1024x1408, .f32⟩
  | 86 => ⟨S1024x1408, .f32⟩
  | 87 => ⟨S_, .f32⟩
  | 88 => ⟨S1024x1408, .f32⟩
  | 89 => ⟨S1024x1408, .f32⟩
  | 90 => ⟨S1024x1408, .f32⟩
  | 91 => ⟨S_, .f32⟩
  | 92 => ⟨S1024x1408, .f32⟩
  | 93 => ⟨S1024x1408, .f32⟩
  | 94 => ⟨S1024x1408, .f32⟩
  | 95 => ⟨S_, .f32⟩
  | 96 => ⟨S1024x1408, .f32⟩
  | 97 => ⟨S1024x1408, .f32⟩
  | 98 => ⟨S_, .f32⟩
  | 99 => ⟨S512x256, .f32⟩
  | 100 => ⟨S512x256, .f32⟩
  | 101 => ⟨S_, .f32⟩
  | 102 => ⟨S512x256, .f32⟩
  | 103 => ⟨S512x256, .f32⟩
  | 104 => ⟨S512x256, .f32⟩
  | 105 => ⟨S_, .f32⟩
  | 106 => ⟨S512x256, .f32⟩
  | 107 => ⟨S512x256, .f32⟩
  | 108 => ⟨S512x256, .f32⟩
  | 109 => ⟨S_, .f32⟩
  | 110 => ⟨S512x256, .f32⟩
  | 111 => ⟨S512x256, .f32⟩
  | 112 => ⟨S512x256, .f32⟩
  | 113 => ⟨S_, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x256, .f32⟩
  | 120 => ⟨S_, .f32⟩
  | 121 => ⟨S512x256, .f32⟩
  | 122 => ⟨S512x256, .f32⟩
  | 123 => ⟨S512x256, .f32⟩
  | 124 => ⟨S_, .f32⟩
  | 125 => ⟨S512x256, .f32⟩
  | 126 => ⟨S512x256, .f32⟩
  | 127 => ⟨S512x256, .f32⟩
  | _ => ⟨S1024x1088, .f32⟩

abbrev hbmTy0_1 (i : Nat) : BufTy := match i % 128 with
  | 0 => ⟨S_, .f32⟩
  | 1 => ⟨S512x256, .f32⟩
  | 2 => ⟨S512x256, .f32⟩
  | 3 => ⟨S_, .f32⟩
  | 4 => ⟨S512x256, .f32⟩
  | 5 => ⟨S512x256, .f32⟩
  | 6 => ⟨S_, .f32⟩
  | 7 => ⟨S512x256, .f32⟩
  | 8 => ⟨S512x256, .f32⟩
  | 9 => ⟨S512x256, .f32⟩
  | 10 => ⟨S_, .f32⟩
  | 11 => ⟨S512x256, .f32⟩
  | 12 => ⟨S512x256, .f32⟩
  | 13 => ⟨S512x256, .f32⟩
  | 14 => ⟨S_, .f32⟩
  | 15 => ⟨S512x256, .f32⟩
  | 16 => ⟨S512x256, .f32⟩
  | 17 => ⟨S512x256, .f32⟩
  | 18 => ⟨S_, .f32⟩
  | 19 => ⟨S512x256, .f32⟩
  | 20 => ⟨S512x256, .f32⟩
  | 21 => ⟨S_, .f32⟩
  | 22 => ⟨S512x256, .f32⟩
  | 23 => ⟨S512x256, .f32⟩
  | 24 => ⟨S512x256, .f32⟩
  | 25 => ⟨S_, .f32⟩
  | 26 => ⟨S512x256, .f32⟩
  | 27 => ⟨S512x256, .f32⟩
  | 28 => ⟨S512x256, .f32⟩
  | 29 => ⟨S_, .f32⟩
  | 30 => ⟨S512x256, .f32⟩
  | 31 => ⟨S512x256, .f32⟩
  | 32 => ⟨S512x256, .f32⟩
  | 33 => ⟨S_, .f32⟩
  | 34 => ⟨S512x256, .f32⟩
  | 35 => ⟨S512x256, .f32⟩
  | 36 => ⟨S_, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S256x1024, .f32⟩
  | 43 => ⟨S_, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S256x1024, .f32⟩
  | 51 => ⟨S_, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S256x1024, .f32⟩
  | 58 => ⟨S_, .f32⟩
  | 59 => ⟨S256x1024, .f32⟩
  | 60 => ⟨S256x1024, .f32⟩
  | 61 => ⟨S256x1024, .f32⟩
  | 62 => ⟨S_, .f32⟩
  | 63 => ⟨S256x1024, .f32⟩
  | 64 => ⟨S256x1024, .f32⟩
  | 65 => ⟨S256x1024, .f32⟩
  | 66 => ⟨S_, .f32⟩
  | 67 => ⟨S256x1024, .f32⟩
  | 68 => ⟨S256x1024, .f32⟩
  | 69 => ⟨S_, .f32⟩
  | 70 => ⟨S128x512, .f32⟩
  | 71 => ⟨S128x512, .f32⟩
  | 72 => ⟨S_, .f32⟩
  | 73 => ⟨S128x512, .f32⟩
  | 74 => ⟨S128x512, .f32⟩
  | 75 => ⟨S128x512, .f32⟩
  | 76 => ⟨S_, .f32⟩
  | 77 => ⟨S128x512, .f32⟩
  | 78 => ⟨S128x512, .f32⟩
  | 79 => ⟨S128x512, .f32⟩
  | 80 => ⟨S_, .f32⟩
  | 81 => ⟨S128x512, .f32⟩
  | 82 => ⟨S128x512, .f32⟩
  | 83 => ⟨S128x512, .f32⟩
  | 84 => ⟨S_, .f32⟩
  | 85 => ⟨S128x512, .f32⟩
  | 86 => ⟨S128x512, .f32⟩
  | 87 => ⟨S_, .f32⟩
  | 88 => ⟨S128x512, .f32⟩
  | 89 => ⟨S128x512, .f32⟩
  | 90 => ⟨S128x512, .f32⟩
  | 91 => ⟨S_, .f32⟩
  | 92 => ⟨S128x512, .f32⟩
  | 93 => ⟨S128x512, .f32⟩
  | 94 => ⟨S128x512, .f32⟩
  | 95 => ⟨S_, .f32⟩
  | 96 => ⟨S128x512, .f32⟩
  | 97 => ⟨S128x512, .f32⟩
  | 98 => ⟨S128x512, .f32⟩
  | 99 => ⟨S_, .f32⟩
  | 100 => ⟨S128x512, .f32⟩
  | 101 => ⟨S128x512, .f32⟩
  | 102 => ⟨S_, .f32⟩
  | 103 => ⟨S704x1024, .f32⟩
  | 104 => ⟨S704x1024, .f32⟩
  | 105 => ⟨S_, .f32⟩
  | 106 => ⟨S704x1024, .f32⟩
  | 107 => ⟨S704x1024, .f32⟩
  | 108 => ⟨S704x1024, .f32⟩
  | 109 => ⟨S_, .f32⟩
  | 110 => ⟨S704x1024, .f32⟩
  | 111 => ⟨S704x1024, .f32⟩
  | 112 => ⟨S704x1024, .f32⟩
  | 113 => ⟨S_, .f32⟩
  | 114 => ⟨S704x1024, .f32⟩
  | 115 => ⟨S704x1024, .f32⟩
  | 116 => ⟨S704x1024, .f32⟩
  | 117 => ⟨S_, .f32⟩
  | 118 => ⟨S704x1024, .f32⟩
  | 119 => ⟨S704x1024, .f32⟩
  | 120 => ⟨S_, .f32⟩
  | 121 => ⟨S704x1024, .f32⟩
  | 122 => ⟨S704x1024, .f32⟩
  | 123 => ⟨S704x1024, .f32⟩
  | 124 => ⟨S_, .f32⟩
  | 125 => ⟨S704x1024, .f32⟩
  | 126 => ⟨S704x1024, .f32⟩
  | 127 => ⟨S704x1024, .f32⟩
  | _ => ⟨S1024x1088, .f32⟩

abbrev hbmTy0_2 (i : Nat) : BufTy := match i % 128 with
  | 0 => ⟨S_, .f32⟩
  | 1 => ⟨S704x1024, .f32⟩
  | 2 => ⟨S704x1024, .f32⟩
  | 3 => ⟨S704x1024, .f32⟩
  | 4 => ⟨S_, .f32⟩
  | 5 => ⟨S704x1024, .f32⟩
  | 6 => ⟨S704x1024, .f32⟩
  | 7 => ⟨S_, .f32⟩
  | 8 => ⟨S256x1024, .f32⟩
  | 9 => ⟨S256x1024, .f32⟩
  | 10 => ⟨S_, .f32⟩
  | 11 => ⟨S256x1024, .f32⟩
  | 12 => ⟨S256x1024, .f32⟩
  | 13 => ⟨S256x1024, .f32⟩
  | 14 => ⟨S_, .f32⟩
  | 15 => ⟨S256x1024, .f32⟩
  | 16 => ⟨S256x1024, .f32⟩
  | 17 => ⟨S256x1024, .f32⟩
  | 18 => ⟨S_, .f32⟩
  | 19 => ⟨S256x1024, .f32⟩
  | 20 => ⟨S256x1024, .f32⟩
  | 21 => ⟨S256x1024, .f32⟩
  | 22 => ⟨S_, .f32⟩
  | 23 => ⟨S256x1024, .f32⟩
  | 24 => ⟨S256x1024, .f32⟩
  | 25 => ⟨S_, .f32⟩
  | 26 => ⟨S256x1024, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S256x1024, .f32⟩
  | 33 => ⟨S_, .f32⟩
  | 34 => ⟨S256x1024, .f32⟩
  | 35 => ⟨S256x1024, .f32⟩
  | 36 => ⟨S256x1024, .f32⟩
  | 37 => ⟨S_, .f32⟩
  | 38 => ⟨S256x1024, .f32⟩
  | 39 => ⟨S256x1024, .f32⟩
  | _ => ⟨S1024x1088, .f32⟩

abbrev hbmTy (i : Nat) : BufTy := match i / 128 with
  | 0 => hbmTy0_0 i
  | 1 => hbmTy0_1 i
  | 2 => hbmTy0_2 i
  | _ => ⟨S1024x1088, .f32⟩

abbrev bufTy : (tb : Table) → Fin (tcTables nBuf tb) → BufTy
  | .hbm, ⟨i, _⟩ => hbmTy i
  | _, _ => ⟨S1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Proof.Moments.lean ====
/-
  One entry of the optimiser: from a weight, its gradient and its two moments, the new moments and the step; and the
  blocks of these that the optimiser's body leaves, for arrays of any shape.
-/
module

public import Idealize.ShloMosaic.Lib.Pipeline.FrameBody
public import Idealize.ShloMosaic.Lib.Tactic

@[expose] public section

noncomputable section

namespace Cert.Grad.Moments

open Idealize.ShloMosaic Idealize.ShloMosaic.TcCoe

variable {F : FTy → Type} [FloatOps F] {s : Shape}

/-- The constant array of a word. -/
abbrev const (s : Shape) (b : BitVec 32) : FVec F s .f32 := broadcast s (Scalar.ofBits .f32 b : F .f32)

/-- The new first moment, from the gradient and the old one. -/
def first (g m : Vec F s .f32) : FVec F s .f32 := addf (mulf (const s 0x3F666666#32) m) (mulf (const s 0x3DCCCCCD#32) g)

/-- The new second moment, from the gradient and the old one. -/
def second (g v : Vec F s .f32) : FVec F s .f32 :=
  addf (mulf (const s 0x3F7FBE77#32) v) (mulf (const s 0x3A83126F#32) (mulf g g))

/-- The step, from the weight, the gradient and the old moments. -/
def step (w g m v : Vec F s .f32) : FVec F s .f32 :=
  mulf (const s 0xBA83126F#32)
    (addf (divf (divf (first g m) (const s 0x3F26BD02#32))
        (addf (sqrt (divf (second g v) (const s 0x3C231ACC#32))) (const s 0x322BCC77#32)))
      (mulf (const s 0x3C23D70A#32) w))

/-- The block left by storing the first moment of what is loaded through `r`. -/
def outFirst (r : Rect s) (g m : Vec F s .f32) : Vec F s .f32 := View.canon [⟨r, first (View.ld g r) (View.ld m r)⟩]

/-- The block left by storing the second moment of what is loaded through `r`. -/
def outSecond (r : Rect s) (g v : Vec F s .f32) : Vec F s .f32 := View.canon [⟨r, second (View.ld g r) (View.ld v r)⟩]

/-- The block left by storing the step of what is loaded through `r`. -/
def outStep (r : Rect s) (w g m v : Vec F s .f32) : Vec F s .f32 :=
  View.canon [⟨r, step (View.ld w r) (View.ld g r) (View.ld m r) (View.ld v r)⟩]

end Cert.Grad.Moments

end
-- ==== Proof.AdamwIdealBody.lean ====
/-
  The optimiser's body: on whole staging blocks it leaves, in each group of four arrays, the step and the two new
  moments of the group's blocks.
-/
module

public import proofs.«01_k».proof.Proof.Gen.AdamwIdeal.Launch
public import proofs.«01_k».proof.Proof.Gen.AdamwIdeal.Skeleton
public import proofs.«01_k».proof.Proof.Gen.AdamwIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Moments

@[expose] public section

set_option maxRecDepth 16384

noncomputable section

namespace Cert.AdamwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Grad.Moments

variable {F : FTy → Type} [FloatOps F]

/-- The whole block of this shape. -/
abbrev r0_0 : Rect S128x1088 := Rect.unit (s := S128x1088) ![0, 0] S128x1088.size inb_S128x1088_S128x1088_0_0
/-- The whole block of this shape. -/
abbrev r0_1 : Rect S128x1408 := Rect.unit (s := S128x1408) ![0, 0] S128x1408.size inb_S128x1408_S128x1408_0_0
/-- The whole block of this shape. -/
abbrev r0_2 : Rect S64x256 := Rect.unit (s := S64x256) ![0, 0] S64x256.size inb_S64x256_S64x256_0_0
/-- The whole block of this shape. -/
abbrev r0_3 : Rect S32x1024 := Rect.unit (s := S32x1024) ![0, 0] S32x1024.size inb_S32x1024_S32x1024_0_0
/-- The whole block of this shape. -/
abbrev r0_4 : Rect S16x512 := Rect.unit (s := S16x512) ![0, 0] S16x512.size inb_S16x512_S16x512_0_0
/-- The whole block of this shape. -/
abbrev r0_5 : Rect S88x1024 := Rect.unit (s := S88x1024) ![0, 0] S88x1024.size inb_S88x1024_S88x1024_0_0

/-- A block's cells as one store of `p` through `r` leaves them. -/
def stored (c : Dev nD) {s : Shape} (a : Memref sig .tc .vmem s .f32) (r : Rect s) (p : FVec F r.shape .f32) :
    sProp (MT nD τ sig Unit (Elt F) ℕ (UR sig nD τ) ℕ) :=
  iprop(∃ f, a.view.loc (c : Thread nD τ) ↦[a.view.set]{fullShare} a.view.writes (Elt F) f [⟨r, p⟩])

/-- After a store through the whole block, the block is held at what was stored. -/
theorem stored_owns {c : Dev nD} {s : Shape} (a : Memref sig .tc .vmem s .f32)
    {off : Fin s.rank → ℕ} (inb : ∀ i, off i + s.size i ≤ s.size i) (p : Vec F s .f32) :
    stored c a (Rect.unit off s.size inb) p
      ⊢ owns (c : Thread nD τ) a fullShare (View.canon (Val := Elt F) (e := .f32) [⟨Rect.unit off s.size inb, p⟩]) := by
  unfold stored owns
  iintro ⟨%f, H⟩
  iexists _; isplitr
  swap; · iexact H
  ipureintro
  exact View.read_writes_eq_canon _ _ _ fun y => ⟨_, List.mem_singleton_self _, (Rect.unit off s.size inb).mem_set.2 fun i =>
    ⟨y i, (y i).isLt, by
      change (y i : ℕ) = off i + 1 * (y i : ℕ)
      have := inb i
      omega⟩⟩

set_option maxHeartbeats 2000000 in
/-- The body on whole blocks, the inputs' at `x0` to `x31` and the outputs' at anything, leaves the inputs' as they
were and in each output's what its group of four gives; `P` and `Q` pass through. -/
theorem sound_kernel (c : Dev nD) (E : Set ℕ) (i : grid0.Coords)
    (arg1 : Memref sig .tc .vmem S128x1088 .f32) (harg1 : arg1.IsWhole)
    (arg2 : Memref sig .tc .vmem S128x1088 .f32) (harg2 : arg2.IsWhole)
    (arg3 : Memref sig .tc .vmem S128x1088 .f32) (harg3 : arg3.IsWhole)
    (arg4 : Memref sig .tc .vmem S128x1088 .f32) (harg4 : arg4.IsWhole)
    (arg5 : Memref sig .tc .vmem S128x1408 .f32) (harg5 : arg5.IsWhole)
    (arg6 : Memref sig .tc .vmem S128x1408 .f32) (harg6 : arg6.IsWhole)
    (arg7 : Memref sig .tc .vmem S128x1408 .f32) (harg7 : arg7.IsWhole)
    (arg8 : Memref sig .tc .vmem S128x1408 .f32) (harg8 : arg8.IsWhole)
    (arg9 : Memref sig .tc .vmem S64x256 .f32) (harg9 : arg9.IsWhole)
    (arg10 : Memref sig .tc .vmem S64x256 .f32) (harg10 : arg10.IsWhole)
    (arg11 : Memref sig .tc .vmem S64x256 .f32) (harg11 : arg11.IsWhole)
    (arg12 : Memref sig .tc .vmem S64x256 .f32) (harg12 : arg12.IsWhole)
    (arg13 : Memref sig .tc .vmem S64x256 .f32) (harg13 : arg13.IsWhole)
    (arg14 : Memref sig .tc .vmem S64x256 .f32) (harg14 : arg14.IsWhole)
    (arg15 : Memref sig .tc .vmem S64x256 .f32) (harg15 : arg15.IsWhole)
    (arg16 : Memref sig .tc .vmem S64x256 .f32) (harg16 : arg16.IsWhole)
    (arg17 : Memref sig .tc .vmem S32x1024 .f32) (harg17 : arg17.IsWhole)
    (arg18 : Memref sig .tc .vmem S32x1024 .f32) (harg18 : arg18.IsWhole)
    (arg19 : Memref sig .tc .vmem S32x1024 .f32) (harg19 : arg19.IsWhole)
    (arg20 : Memref sig .tc .vmem S32x1024 .f32) (harg20 : arg20.IsWhole)
    (arg21 : Memref sig .tc .vmem S16x512 .f32) (harg21 : arg21.IsWhole)
    (arg22 : Memref sig .tc .vmem S16x512 .f32) (harg22 : arg22.IsWhole)
    (arg23 : Memref sig .tc .vmem S16x512 .f32) (harg23 : arg23.IsWhole)
    (arg24 : Memref sig .tc .vmem S16x512 .f32) (harg24 : arg24.IsWhole)
    (arg25 : Memref sig .tc .vmem S88x1024 .f32) (harg25 : arg25.IsWhole)
    (arg26 : Memref sig .tc .vmem S88x1024 .f32) (harg26 : arg26.IsWhole)
    (arg27 : Memref sig .tc .vmem S88x1024 .f32) (harg27 : arg27.IsWhole)
    (arg28 : Memref sig .tc .vmem S88x1024 .f32) (harg28 : arg28.IsWhole)
    (arg29 : Memref sig .tc .vmem S32x1024 .f32) (harg29 : arg29.IsWhole)
    (arg30 : Memref sig .tc .vmem S32x1024 .f32) (harg30 : arg30.IsWhole)
    (arg31 : Memref sig .tc .vmem S32x1024 .f32) (harg31 : arg31.IsWhole)
    (arg32 : Memref sig .tc .vmem S32x1024 .f32) (harg32 : arg32.IsWhole)
    (arg33 : Memref sig .tc .vmem S128x1088 .f32) (harg33 : arg33.IsWhole)
    (arg34 : Memref sig .tc .vmem S128x1088 .f32) (harg34 : arg34.IsWhole)
    (arg35 : Memref sig .tc .vmem S128x1088 .f32) (harg35 : arg35.IsWhole)
    (arg36 : Memref sig .tc .vmem S128x1408 .f32) (harg36 : arg36.IsWhole)
    (arg37 : Memref sig .tc .vmem S128x1408 .f32) (harg37 : arg37.IsWhole)
    (arg38 : Memref sig .tc .vmem S128x1408 .f32) (harg38 : arg38.IsWhole)
    (arg39 : Memref sig .tc .vmem S64x256 .f32) (harg39 : arg39.IsWhole)
    (arg40 : Memref sig .tc .vmem S64x256 .f32) (harg40 : arg40.IsWhole)
    (arg41 : Memref sig .tc .vmem S64x256 .f32) (harg41 : arg41.IsWhole)
    (arg42 : Memref sig .tc .vmem S64x256 .f32) (harg42 : arg42.IsWhole)
    (arg43 : Memref sig .tc .vmem S64x256 .f32) (harg43 : arg43.IsWhole)
    (arg44 : Memref sig .tc .vmem S64x256 .f32) (harg44 : arg44.IsWhole)
    (arg45 : Memref sig .tc .vmem S32x1024 .f32) (harg45 : arg45.IsWhole)
    (arg46 : Memref sig .tc .vmem S32x1024 .f32) (harg46 : arg46.IsWhole)
    (arg47 : Memref sig .tc .vmem S32x1024 .f32) (harg47 : arg47.IsWhole)
    (arg48 : Memref sig .tc .vmem S16x512 .f32) (harg48 : arg48.IsWhole)
    (arg49 : Memref sig .tc .vmem S16x512 .f32) (harg49 : arg49.IsWhole)
    (arg50 : Memref sig .tc .vmem S16x512 .f32) (harg50 : arg50.IsWhole)
    (arg51 : Memref sig .tc .vmem S88x1024 .f32) (harg51 : arg51.IsWhole)
    (arg52 : Memref sig .tc .vmem S88x1024 .f32) (harg52 : arg52.IsWhole)
    (arg53 : Memref sig .tc .vmem S88x1024 .f32) (harg53 : arg53.IsWhole)
    (arg54 : Memref sig .tc .vmem S32x1024 .f32) (harg54 : arg54.IsWhole)
    (arg55 : Memref sig .tc .vmem S32x1024 .f32) (harg55 : arg55.IsWhole)
    (arg56 : Memref sig .tc .vmem S32x1024 .f32) (harg56 : arg56.IsWhole)
    (x0 x1 x2 x3 : Vec F S128x1088 .f32)
    (x4 x5 x6 x7 : Vec F S128x1408 .f32)
    (x8 x9 x10 x11 : Vec F S64x256 .f32)
    (x12 x13 x14 x15 : Vec F S64x256 .f32)
    (x16 x17 x18 x19 : Vec F S32x1024 .f32)
    (x20 x21 x22 x23 : Vec F S16x512 .f32)
    (x24 x25 x26 x27 : Vec F S88x1024 .f32)
    (x28 x29 x30 x31 : Vec F S32x1024 .f32)
    (P Q : sProp (MT nD τ sig Unit (Elt F) ℕ (UR sig nD τ) ℕ)) :
    iprop(P ∗ Q ∗
      owns (c : Thread nD τ) arg1 fullShare x0 ∗ owns (c : Thread nD τ) arg2 fullShare x1 ∗
      owns (c : Thread nD τ) arg3 fullShare x2 ∗ owns (c : Thread nD τ) arg4 fullShare x3 ∗
      owns (c : Thread nD τ) arg5 fullShare x4 ∗ owns (c : Thread nD τ) arg6 fullShare x5 ∗
      owns (c : Thread nD τ) arg7 fullShare x6 ∗ owns (c : Thread nD τ) arg8 fullShare x7 ∗
      owns (c : Thread nD τ) arg9 fullShare x8 ∗ owns (c : Thread nD τ) arg10 fullShare x9 ∗
      owns (c : Thread nD τ) arg11 fullShare x10 ∗ owns (c : Thread nD τ) arg12 fullShare x11 ∗
      owns (c : Thread nD τ) arg13 fullShare x12 ∗ owns (c : Thread nD τ) arg14 fullShare x13 ∗
      owns (c : Thread nD τ) arg15 fullShare x14 ∗ owns (c : Thread nD τ) arg16 fullShare x15 ∗
      owns (c : Thread nD τ) arg17 fullShare x16 ∗ owns (c : Thread nD τ) arg18 fullShare x17 ∗
      owns (c : Thread nD τ) arg19 fullShare x18 ∗ owns (c : Thread nD τ) arg20 fullShare x19 ∗
      owns (c : Thread nD τ) arg21 fullShare x20 ∗ owns (c : Thread nD τ) arg22 fullShare x21 ∗
      owns (c : Thread nD τ) arg23 fullShare x22 ∗ owns (c : Thread nD τ) arg24 fullShare x23 ∗
      owns (c : Thread nD τ) arg25 fullShare x24 ∗ owns (c : Thread nD τ) arg26 fullShare x25 ∗
      owns (c : Thread nD τ) arg27 fullShare x26 ∗ owns (c : Thread nD τ) arg28 fullShare x27 ∗
      owns (c : Thread nD τ) arg29 fullShare x28 ∗ owns (c : Thread nD τ) arg30 fullShare x29 ∗
      owns (c : Thread nD τ) arg31 fullShare x30 ∗ owns (c : Thread nD τ) arg32 fullShare x31 ∗
      (∃ d, owns (c : Thread nD τ) arg33 fullShare d) ∗ (∃ d, owns (c : Thread nD τ) arg34 fullShare d) ∗
      (∃ d, owns (c : Thread nD τ) arg35 fullShare d) ∗ (∃ d, owns (c : Thread nD τ) arg36 fullShare d) ∗
      (∃ d, owns (c : Thread nD τ) arg37 fullShare d) ∗ (∃ d, owns (c : Thread nD τ) arg38 fullShare d) ∗
      (∃ d, owns (c : Thread nD τ) arg39 fullShare d) ∗ (∃ d, owns (c : Thread nD τ) arg40 fullShare d) ∗
      (∃ d, owns (c : Thread nD τ) arg41 fullShare d) ∗ (∃ d, owns (c : Thread nD τ) arg42 fullShare d) ∗
      (∃ d, owns (c : Thread nD τ) arg43 fullShare d) ∗ (∃ d, owns (c : Thread nD τ) arg44 fullShare d) ∗
      (∃ d, owns (c : Thread nD τ) arg45 fullShare d) ∗ (∃ d, owns (c : Thread nD τ) arg46 fullShare d) ∗
      (∃ d, owns (c : Thread nD τ) arg47 fullShare d) ∗ (∃ d, owns (c : Thread nD τ) arg48 fullShare d) ∗
      (∃ d, owns (c : Thread nD τ) arg49 fullShare d) ∗ (∃ d, owns (c : Thread nD τ) arg50 fullShare d) ∗
      (∃ d, owns (c : Thread nD τ) arg51 fullShare d) ∗ (∃ d, owns (c : Thread nD τ) arg52 fullShare d) ∗
      (∃ d, owns (c : Thread nD τ) arg53 fullShare d) ∗ (∃ d, owns (c : Thread nD τ) arg54 fullShare d) ∗
      (∃ d, owns (c : Thread nD τ) arg55 fullShare d) ∗ (∃ d, owns (c : Thread nD τ) arg56 fullShare d))
    ⊢ wp frame (wpE (defs₀ (F := F)) Variants.none c none) E
      (cc0_adamw i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24
      arg25 harg25 arg26 harg26 arg27 harg27 arg28 harg28 arg29 harg29 arg30 harg30 arg31 harg31 arg32 harg32
      arg33 harg33 arg34 harg34 arg35 harg35 arg36 harg36 arg37 harg37 arg38 harg38 arg39 harg39 arg40 harg40
      arg41 harg41 arg42 harg42 arg43 harg43 arg44 harg44 arg45 harg45 arg46 harg46 arg47 harg47 arg48 harg48
      arg49 harg49 arg50 harg50 arg51 harg51 arg52 harg52 arg53 harg53 arg54 harg54 arg55 harg55 arg56 harg56) fun _ =>
      iprop(P ∗ Q ∗
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ owns (c : Thread nD τ) arg16 fullShare x15 ∗
        owns (c : Thread nD τ) arg17 fullShare x16 ∗ owns (c : Thread nD τ) arg18 fullShare x17 ∗
        owns (c : Thread nD τ) arg19 fullShare x18 ∗ owns (c : Thread nD τ) arg20 fullShare x19 ∗
        owns (c : Thread nD τ) arg21 fullShare x20 ∗ owns (c : Thread nD τ) arg22 fullShare x21 ∗
        owns (c : Thread nD τ) arg23 fullShare x22 ∗ owns (c : Thread nD τ) arg24 fullShare x23 ∗
        owns (c : Thread nD τ) arg25 fullShare x24 ∗ owns (c : Thread nD τ) arg26 fullShare x25 ∗
        owns (c : Thread nD τ) arg27 fullShare x26 ∗ owns (c : Thread nD τ) arg28 fullShare x27 ∗
        owns (c : Thread nD τ) arg29 fullShare x28 ∗ owns (c : Thread nD τ) arg30 fullShare x29 ∗
        owns (c : Thread nD τ) arg31 fullShare x30 ∗ owns (c : Thread nD τ) arg32 fullShare x31 ∗
        stored c arg33 r0_0 (step (View.ld x0 r0_0) (View.ld x1 r0_0) (View.ld x2 r0_0) (View.ld x3 r0_0)) ∗
        stored c arg34 r0_0 (first (View.ld x1 r0_0) (View.ld x2 r0_0)) ∗
        stored c arg35 r0_0 (second (View.ld x1 r0_0) (View.ld x3 r0_0)) ∗
        stored c arg36 r0_1 (step (View.ld x4 r0_1) (View.ld x5 r0_1) (View.ld x6 r0_1) (View.ld x7 r0_1)) ∗
        stored c arg37 r0_1 (first (View.ld x5 r0_1) (View.ld x6 r0_1)) ∗
        stored c arg38 r0_1 (second (View.ld x5 r0_1) (View.ld x7 r0_1)) ∗
        stored c arg39 r0_2 (step (View.ld x8 r0_2) (View.ld x9 r0_2) (View.ld x10 r0_2) (View.ld x11 r0_2)) ∗
        stored c arg40 r0_2 (first (View.ld x9 r0_2) (View.ld x10 r0_2)) ∗
        stored c arg41 r0_2 (second (View.ld x9 r0_2) (View.ld x11 r0_2)) ∗
        stored c arg42 r0_2 (step (View.ld x12 r0_2) (View.ld x13 r0_2) (View.ld x14 r0_2) (View.ld x15 r0_2)) ∗
        stored c arg43 r0_2 (first (View.ld x13 r0_2) (View.ld x14 r0_2)) ∗
        stored c arg44 r0_2 (second (View.ld x13 r0_2) (View.ld x15 r0_2)) ∗
        stored c arg45 r0_3 (step (View.ld x16 r0_3) (View.ld x17 r0_3) (View.ld x18 r0_3) (View.ld x19 r0_3)) ∗
        stored c arg46 r0_3 (first (View.ld x17 r0_3) (View.ld x18 r0_3)) ∗
        stored c arg47 r0_3 (second (View.ld x17 r0_3) (View.ld x19 r0_3)) ∗
        stored c arg48 r0_4 (step (View.ld x20 r0_4) (View.ld x21 r0_4) (View.ld x22 r0_4) (View.ld x23 r0_4)) ∗
        stored c arg49 r0_4 (first (View.ld x21 r0_4) (View.ld x22 r0_4)) ∗
        stored c arg50 r0_4 (second (View.ld x21 r0_4) (View.ld x23 r0_4)) ∗
        stored c arg51 r0_5 (step (View.ld x24 r0_5) (View.ld x25 r0_5) (View.ld x26 r0_5) (View.ld x27 r0_5)) ∗
        stored c arg52 r0_5 (first (View.ld x25 r0_5) (View.ld x26 r0_5)) ∗
        stored c arg53 r0_5 (second (View.ld x25 r0_5) (View.ld x27 r0_5)) ∗
        stored c arg54 r0_3 (step (View.ld x28 r0_3) (View.ld x29 r0_3) (View.ld x30 r0_3) (View.ld x31 r0_3)) ∗
        stored c arg55 r0_3 (first (View.ld x29 r0_3) (View.ld x30 r0_3)) ∗
        stored c arg56 r0_3 (second (View.ld x29 r0_3) (View.ld x31 r0_3))) := by
  simp only [cc0_adamw_eq_skeleton]; unfold cc0_adamw_skel
  simp only [k0_part1_eq_skeleton, k0_part2_eq_skeleton, k0_part3_eq_skeleton, k0_part4_eq_skeleton, k0_part5_eq_skeleton, k0_part6_eq_skeleton, k0_part7_eq_skeleton]
  unfold owns stored
  iintro ⟨HP, HQ, ⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩,
    ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%f18, %hf18, H18⟩, ⟨%f19, %hf19, H19⟩, ⟨%f20, %hf20, H20⟩,
    ⟨%f21, %hf21, H21⟩, ⟨%f22, %hf22, H22⟩, ⟨%f23, %hf23, H23⟩, ⟨%f24, %hf24, H24⟩, ⟨%f25, %hf25, H25⟩,
    ⟨%f26, %hf26, H26⟩, ⟨%f27, %hf27, H27⟩, ⟨%f28, %hf28, H28⟩, ⟨%f29, %hf29, H29⟩, ⟨%f30, %hf30, H30⟩,
    ⟨%f31, %hf31, H31⟩, ⟨%d32, %f32, -, H32⟩, ⟨%d33, %f33, -, H33⟩, ⟨%d34, %f34, -, H34⟩,
    ⟨%d35, %f35, -, H35⟩, ⟨%d36, %f36, -, H36⟩, ⟨%d37, %f37, -, H37⟩, ⟨%d38, %f38, -, H38⟩,
    ⟨%d39, %f39, -, H39⟩, ⟨%d40, %f40, -, H40⟩, ⟨%d41, %f41, -, H41⟩, ⟨%d42, %f42, -, H42⟩,
    ⟨%d43, %f43, -, H43⟩, ⟨%d44, %f44, -, H44⟩, ⟨%d45, %f45, -, H45⟩, ⟨%d46, %f46, -, H46⟩,
    ⟨%d47, %f47, -, H47⟩, ⟨%d48, %f48, -, H48⟩, ⟨%d49, %f49, -, H49⟩, ⟨%d50, %f50, -, H50⟩,
    ⟨%d51, %f51, -, H51⟩, ⟨%d52, %f52, -, H52⟩, ⟨%d53, %f53, -, H53⟩, ⟨%d54, %f54, -, H54⟩,
    ⟨%d55, %f55, -, H55⟩⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  sl_close

end Cert.AdamwIdeal.Gen

end
-- ==== Proof.AdamwIdealRun.lean ====
/-
  The optimiser's call: its arrays after the call, block by block, and its frame.
-/
module

public import proofs.«01_k».proof.Proof.Gen.AdamwIdeal.Frame
public import proofs.«01_k».proof.Proof.AdamwIdealBody
public import Idealize.ShloMosaic.Lib.Claim
public import proofs.«01_k».proof.Defs

@[expose] public section

set_option maxRecDepth 16384

noncomputable section

namespace Cert.AdamwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Grad.Moments

variable {F : FTy → Type} [FloatOps F]

variable (m : (ℓ : Loc nD τ sig) → Buf (Elt F) ℓ) (ρ : Dev nD → PrngReg)

/-- What each window's block holds after the body: an input's as it was, an output's what its group gives. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => outStep r0_0 (iblk m c 0 t) (iblk m c 1 t) (iblk m c 2 t) (iblk m c 3 t)
    | ⟨33, _⟩ => outFirst r0_0 (iblk m c 1 t) (iblk m c 2 t)
    | ⟨34, _⟩ => outSecond r0_0 (iblk m c 1 t) (iblk m c 3 t)
    | ⟨35, _⟩ => outStep r0_1 (iblk m c 4 t) (iblk m c 5 t) (iblk m c 6 t) (iblk m c 7 t)
    | ⟨36, _⟩ => outFirst r0_1 (iblk m c 5 t) (iblk m c 6 t)
    | ⟨37, _⟩ => outSecond r0_1 (iblk m c 5 t) (iblk m c 7 t)
    | ⟨38, _⟩ => outStep r0_2 (iblk m c 8 t) (iblk m c 9 t) (iblk m c 10 t) (iblk m c 11 t)
    | ⟨39, _⟩ => outFirst r0_2 (iblk m c 9 t) (iblk m c 10 t)
    | ⟨40, _⟩ => outSecond r0_2 (iblk m c 9 t) (iblk m c 11 t)
    | ⟨41, _⟩ => outStep r0_2 (iblk m c 12 t) (iblk m c 13 t) (iblk m c 14 t) (iblk m c 15 t)
    | ⟨42, _⟩ => outFirst r0_2 (iblk m c 13 t) (iblk m c 14 t)
    | ⟨43, _⟩ => outSecond r0_2 (iblk m c 13 t) (iblk m c 15 t)
    | ⟨44, _⟩ => outStep r0_3 (iblk m c 16 t) (iblk m c 17 t) (iblk m c 18 t) (iblk m c 19 t)
    | ⟨45, _⟩ => outFirst r0_3 (iblk m c 17 t) (iblk m c 18 t)
    | ⟨46, _⟩ => outSecond r0_3 (iblk m c 17 t) (iblk m c 19 t)
    | ⟨47, _⟩ => outStep r0_4 (iblk m c 20 t) (iblk m c 21 t) (iblk m c 22 t) (iblk m c 23 t)
    | ⟨48, _⟩ => outFirst r0_4 (iblk m c 21 t) (iblk m c 22 t)
    | ⟨49, _⟩ => outSecond r0_4 (iblk m c 21 t) (iblk m c 23 t)
    | ⟨50, _⟩ => outStep r0_5 (iblk m c 24 t) (iblk m c 25 t) (iblk m c 26 t) (iblk m c 27 t)
    | ⟨51, _⟩ => outFirst r0_5 (iblk m c 25 t) (iblk m c 26 t)
    | ⟨52, _⟩ => outSecond r0_5 (iblk m c 25 t) (iblk m c 27 t)
    | ⟨53, _⟩ => outStep r0_3 (iblk m c 28 t) (iblk m c 29 t) (iblk m c 30 t) (iblk m c 31 t)
    | ⟨54, _⟩ => outFirst r0_3 (iblk m c 29 t) (iblk m c 30 t)
    | ⟨55, _⟩ => outSecond r0_3 (iblk m c 29 t) (iblk m c 31 t)
    | ⟨_ + 56, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- A block held at a value is held at an equal value. -/
theorem owns_of_eq {c : Dev nD} {s : Shape} {a : Memref sig .tc .vmem s .f32} {x y : Vec F s .f32} (h : x = y) :
    owns (c : Thread nD τ) a fullShare x ⊢ (owns (c : Thread nD τ) a fullShare y : sProp (MT nD τ sig Unit (Elt F) ℕ (UR sig nD τ) ℕ)) := h ▸ .rfl

set_option maxHeartbeats 8000000 in
/-- The body's triple restated over the proof data. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  unfold bodyAt0
  refine triple_restated (sound_kernel c Set.univ (grid0.coords t)
    _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)
    (iblk m c 19 t) (iblk m c 20 t) (iblk m c 21 t) (iblk m c 22 t) (iblk m c 23 t) (iblk m c 24 t)
    (iblk m c 25 t) (iblk m c 26 t) (iblk m c 27 t) (iblk m c 28 t) (iblk m c 29 t) (iblk m c 30 t)
    (iblk m c 31 t) ((dats m 0 c).Φ t.castSucc) ((dats m 0 c).owesAt () t.castSucc)) rfl ?_ fun _ => ?_
  · refine BIClass.sep_mono .rfl (BIClass.sep_mono .rfl ?_)
    iterate 32
      refine BIClass.sep_mono (exists_elim fun d => owns_of_eq
        (((dats m 0 c).before_in_eq_fetched _ rfl (fun _ => rfl) (fun _ _ _ => rfl)
          (fun t => by dsimp only [dats]; unfold Dat.blockOf iblk; rfl) t d).trans
          (by unfold Dat.fetched Dat.blockOf iblk; rfl))) ?_
    iterate 23
      refine BIClass.sep_mono (exists_elim fun d => exists_intro _) ?_
    exact exists_elim fun d => exists_intro _
  · refine BIClass.sep_mono .rfl (BIClass.sep_mono .rfl ?_)
    iterate 32
      refine BIClass.sep_mono (owns_of_eq (by dsimp only [dats])) ?_
    iterate 23
      refine BIClass.sep_mono ((stored_owns _ _ _).trans (owns_of_eq (by dsimp only [dats]; rfl))) ?_
    exact (stored_owns _ _ _).trans (owns_of_eq (by dsimp only [dats]; rfl))

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame_ideal : Cert.quiescent_AdamwIdeal := fun m ρ _ =>
  θ_run_and (frame_of m ρ (dats m) (A_eq m) (run_main m ρ)) ((θ_run defs _ _).mono (fun _ h => h.2) (run_main_quiescent m ρ))

end Cert.AdamwIdeal.Gen

end
-- ==== Proof.AdamwFrame.lean ====
/-
  The optimiser's frame before idealization, from the idealized program's run: the two have the same text.
-/
module

public import proofs.«01_k».proof.Proof.AdamwIdealRun
public import proofs.«01_k».proof.Proof.Gen.Adamw
public import Idealize.ShloMosaic.Lib.Tactic

@[expose] public section

noncomputable section

namespace Cert.AdamwIdeal.Gen

open Idealize.ShloMosaic Idealize.ShloMosaic.TcCoe Idealize.ShloMosaic.Tactic
open Idealize.SL.Sem

/-- The program before idealization has the same text, and so the same frame. -/
theorem frame_kernel : Cert.quiescent_Adamw :=
  Eq.mp (by sl_kernel_rfl) (fun (m : (ℓ : Loc nD τ sig) → Buf (Elt Bits) ℓ) (ρ : Dev nD → PrngReg) (_ : True) =>
    θ_run_and (frame_of m ρ (dats m) (A_eq m) (run_main m ρ))
      ((θ_run defs _ _).mono (fun _ h => h.2) (run_main_quiescent m ρ)))

end Cert.AdamwIdeal.Gen

end
-- ==== Proof.ConvSpec.lean ====
/-
  What the gradient of the gated convolution is, entry by entry, over the extended reals; and the one identity between
  two ways to write the gradient of the gate that the two programs differ in.
-/
module

public import Idealize.ShloMosaic.Lib.Pointwise

@[expose] public section

noncomputable section

open scoped BigOperators

namespace Cert.Grad.Conv

open Idealize.ShloMosaic

/-- `√(2/π)`, `0.044715`, `1/2` and `3` as the programs round them. -/
abbrev kA : EReal := Ideal.ofBits FTy.f32 1061962282#32
abbrev kB : EReal := Ideal.ofBits FTy.f32 1027024659#32
abbrev kH : EReal := Ideal.ofBits FTy.f32 1056964608#32
abbrev k3 : EReal := Ideal.ofBits FTy.f32 1077936128#32

/-- The hyperbolic tangent inside the gate's activation. -/
def th (g : EReal) : EReal := Ideal.tanh (kA * (g + kB * (g * g * g)))

/-- What the gradient hands back through that tangent to its argument. -/
def thGrad (g v d : EReal) : EReal := kA * (kH * (g * (d * v)) * ((1 + th g) * (1 - th g)))

/-- The gradient of `gelu g * v` with respect to `g`, for the result's gradient `d`. -/
def gateGrad (g v d : EReal) : EReal :=
  d * v * (kH * (1 + th g)) + thGrad g v d + kB * thGrad g v d * (k3 * (g * g))

/-- … and with respect to `v`. -/
def valGrad (g d : EReal) : EReal := g * (kH * (1 + th g)) * d

/-- The last word is three. -/
theorem three : k3 = 1 + 1 + 1 := by
  have h : k3 = ((3 : ℝ) : EReal) := by
    simp [k3, Ideal.ofBits, Ideal.ieee, -EReal.coe_mul]; norm_num
  rw [h, ← EReal.coe_one, ← EReal.coe_add, ← EReal.coe_add]; norm_num

/-- Three times is the sum of three. -/
theorem three_mul (x : EReal) : k3 * x = x + x + x := by
  rw [three, EReal.right_distrib_of_nonneg (by positivity) zero_le_one, EReal.right_distrib_of_nonneg zero_le_one zero_le_one,
    one_mul]

/-- The tangent's argument as the call multiplies it out. -/
theorem th_eq (g : EReal) : Ideal.tanh (kA * (g + kB * g * g * g)) = th g := by
  unfold th; congr 3; ac_rfl

/-- The call's five terms are the gate's gradient. -/
theorem gateGrad_eq (g v d : EReal) :
    (kA * (kH * g * (d * v) * ((1 + th g) * (1 - th g))) + kB * g * g * (kA * (kH * g * (d * v) * ((1 + th g) * (1 - th g))))
      + kB * g * (kA * (kH * g * (d * v) * ((1 + th g) * (1 - th g))) * g)
      + kB * (kA * (kH * g * (d * v) * ((1 + th g) * (1 - th g))) * g * g) + kH * (d * v * (1 + th g))) = gateGrad g v d := by
  have hq : kA * (kH * g * (d * v) * ((1 + th g) * (1 - th g))) = thGrad g v d := by
    unfold thGrad; ac_rfl
  rw [hq]
  unfold gateGrad
  rw [show kB * thGrad g v d * (k3 * (g * g)) = k3 * (kB * thGrad g v d * (g * g)) by ac_rfl, three_mul]
  ac_rfl

/-- One row of the gradient before the convolution, from the row's pre-activations `c` and the gradient `d` of the
row's result: the gates' half and the values' half. -/
def rowGrad (c : Fin 5632 → EReal) (d : Fin 2816 → EReal) (l : Fin 5632) : EReal :=
  if h : l.val < 2816 then gateGrad (c l) (c ⟨2816 + l.val, by omega⟩) (d ⟨l.val, h⟩)
  else valGrad (c ⟨l.val - 2816, by omega⟩) (d ⟨l.val - 2816, by omega⟩)

/-- The two halves as the call adds them, each padded with zeros. -/
theorem rowGrad_eq (c : Fin 5632 → EReal) (d : Fin 2816 → EReal) (l : Fin 5632) :
    (if h : l.val < 2816 then 0 else kH * c ⟨l.val - 2816, by omega⟩ * (1 + th (c ⟨l.val - 2816, by omega⟩))
        * d ⟨l.val - 2816, by omega⟩)
      + (if h : l.val < 2816 then gateGrad (c l) (c ⟨2816 + l.val, by omega⟩) (d ⟨l.val, h⟩) else 0) = rowGrad c d l := by
  unfold rowGrad
  split
  · rw [zero_add]
  · rw [add_zero]; unfold valGrad; ac_rfl

/-- The entry of `z` that lies `k` rows above row `r`: zero above the first row. -/
def above (z : (⟨2, ![4096, 5632]⟩ : Shape).Idx → EReal) (k r : ℕ) (l : Fin 5632) : EReal :=
  if h : k ≤ r ∧ r - k < 4096 then z (ix2 ⟨r - k, h.2⟩ l) else 0

/-- The pre-activations: the convolution over a row and the two rows above it. -/
def pre (z : (⟨2, ![4096, 5632]⟩ : Shape).Idx → EReal) (w : (⟨2, ![3, 5632]⟩ : Shape).Idx → EReal)
    (b : (⟨2, ![1, 5632]⟩ : Shape).Idx → EReal) (r : ℕ) (l : Fin 5632) : EReal :=
  b (ix2 0 l) + w (ix2 0 l) * above z 2 r l + w (ix2 1 l) * above z 1 r l + w (ix2 2 l) * above z 0 r l

/-- The gradient of the pre-activations: zero below the last row. -/
def preGrad (z : (⟨2, ![4096, 5632]⟩ : Shape).Idx → EReal) (d : (⟨2, ![4096, 2816]⟩ : Shape).Idx → EReal)
    (w : (⟨2, ![3, 5632]⟩ : Shape).Idx → EReal) (b : (⟨2, ![1, 5632]⟩ : Shape).Idx → EReal) (r : ℕ) (l : Fin 5632) : EReal :=
  if h : r < 4096 then rowGrad (pre z w b r) (fun l => d (ix2 ⟨r, h⟩ l)) l else 0

/-- Rows above the first are zero; the others are the array's. -/
theorem above_of_lt (z : (⟨2, ![4096, 5632]⟩ : Shape).Idx → EReal) {k r : ℕ} (h : r < k) (l : Fin 5632) : above z k r l = 0 := by
  unfold above; rw [dif_neg (by omega)]

theorem above_of_eq (z : (⟨2, ![4096, 5632]⟩ : Shape).Idx → EReal) {k r q : ℕ} (h : r = q + k) (l : Fin 5632) :
    above z k r l = above z 0 q l := by
  subst h; unfold above; simp

theorem above_at (z : (⟨2, ![4096, 5632]⟩ : Shape).Idx → EReal) {k r q : ℕ} (h : r = q + k) (l : Fin 5632) :
    above z 0 q l = above z k r l := (above_of_eq z h l).symm

theorem preGrad_of_le (z : (⟨2, ![4096, 5632]⟩ : Shape).Idx → EReal) (d : (⟨2, ![4096, 2816]⟩ : Shape).Idx → EReal)
    (w : (⟨2, ![3, 5632]⟩ : Shape).Idx → EReal) (b : (⟨2, ![1, 5632]⟩ : Shape).Idx → EReal) {r : ℕ} (h : 4096 ≤ r) (l : Fin 5632) :
    preGrad z d w b r l = 0 := by
  unfold preGrad; rw [dif_neg (by omega)]

/-- The gradient of `z` in row `r`: the transposed convolution of the pre-activations' gradient. -/
def zRow (z : (⟨2, ![4096, 5632]⟩ : Shape).Idx → EReal) (d : (⟨2, ![4096, 2816]⟩ : Shape).Idx → EReal)
    (w : (⟨2, ![3, 5632]⟩ : Shape).Idx → EReal) (b : (⟨2, ![1, 5632]⟩ : Shape).Idx → EReal) (r : ℕ) (l : Fin 5632) : EReal :=
  w (ix2 2 l) * preGrad z d w b r l + w (ix2 1 l) * preGrad z d w b (r + 1) l + w (ix2 0 l) * preGrad z d w b (r + 2) l

def zGrad (z : (⟨2, ![4096, 5632]⟩ : Shape).Idx → EReal) (d : (⟨2, ![4096, 2816]⟩ : Shape).Idx → EReal)
    (w : (⟨2, ![3, 5632]⟩ : Shape).Idx → EReal) (b : (⟨2, ![1, 5632]⟩ : Shape).Idx → EReal) :
    (⟨2, ![4096, 5632]⟩ : Shape).Idx → EReal := fun j => zRow z d w b (j 0).val (j 1)

/-- The gradient of the convolution's bias. -/
def biasGrad (z : (⟨2, ![4096, 5632]⟩ : Shape).Idx → EReal) (d : (⟨2, ![4096, 2816]⟩ : Shape).Idx → EReal)
    (w : (⟨2, ![3, 5632]⟩ : Shape).Idx → EReal) (b : (⟨2, ![1, 5632]⟩ : Shape).Idx → EReal) :
    (⟨2, ![1, 5632]⟩ : Shape).Idx → EReal := fun j => ∑ r : Fin 4096, preGrad z d w b r.val (j 1)

/-- The gradient of the convolution's tap that reads `k` rows above. -/
def tapGrad (z : (⟨2, ![4096, 5632]⟩ : Shape).Idx → EReal) (d : (⟨2, ![4096, 2816]⟩ : Shape).Idx → EReal)
    (w : (⟨2, ![3, 5632]⟩ : Shape).Idx → EReal) (b : (⟨2, ![1, 5632]⟩ : Shape).Idx → EReal) (k : ℕ) :
    (⟨2, ![1, 5632]⟩ : Shape).Idx → EReal := fun j => ∑ r : Fin 4096, preGrad z d w b r.val (j 1) * above z k r.val (j 1)

end Cert.Grad.Conv

end
-- ==== Proof.ConvTile.lean ====
/-
  What one point of the gated convolution's gradient computes from its blocks: 128 rows of `z` and of the result's
  gradient, the eight rows above and below them, the taps and the bias.
-/
module

public import Idealize.ShloMosaic.Lib.WordCmp
public import proofs.«01_k».proof.Proof.ConvSpec
public import proofs.«01_k».proof.Proof.Gen.KernelIdeal.Value

@[expose] public section

noncomputable section

open scoped BigOperators

namespace Cert.Grad.Conv

open Cert.KernelIdeal Cert.KernelIdeal.Gen Cert.KernelIdeal.Value
open Idealize.ShloMosaic Idealize.ShloMosaic.TcCoe

/-! ## Masks on row numbers -/

theorem sel_slt {α : Type} {a n : ℕ} (ha : a < 2 ^ 31) (hn : n < 2 ^ 31) (x y : α) :
    Scalar.select (IntOp.cmpi .slt (BitVec.ofNat 32 a) (BitVec.ofNat 32 n)) x y = if a < n then x else y := by
  rw [WordCmp.cmpi_slt_ofNat ha hn, WordCmp.select_ofBool]; simp

theorem sel_sgt {α : Type} {a n : ℕ} (ha : a < 2 ^ 31) (hn : n < 2 ^ 31) (x y : α) :
    Scalar.select (IntOp.cmpi .sgt (BitVec.ofNat 32 a) (BitVec.ofNat 32 n)) x y = if n < a then x else y := by
  rw [WordCmp.cmpi_sgt_ofNat ha hn, WordCmp.select_ofBool]; simp

theorem sel_sge {α : Type} {a n : ℕ} (ha : a < 2 ^ 31) (hn : n < 2 ^ 31) (x y : α) :
    Scalar.select (IntOp.cmpi .sge (BitVec.ofNat 32 a) (BitVec.ofNat 32 n)) x y = if n ≤ a then x else y := by
  rw [WordCmp.cmpi_sge_ofNat ha hn, WordCmp.select_ofBool]; simp

theorem sel_gt {α : Type} {a n : ℕ} (ha : a < 2 ^ 31) (hn : n < 2 ^ 31) (x y : α) :
    Scalar.select (Scalar.cmpi .sgt (BitVec.ofNat 32 a) (BitVec.ofNat 32 n)) x y = if n < a then x else y :=
  sel_sgt ha hn x y

theorem sel_lt {α : Type} {a n : ℕ} (ha : a < 2 ^ 31) (hn : n < 2 ^ 31) (x y : α) :
    Scalar.select (Scalar.cmpi .slt (BitVec.ofNat 32 a) (BitVec.ofNat 32 n)) x y = if a < n then x else y :=
  sel_slt ha hn x y

/-! ## The payloads, entry by entry -/

theorem pay8_eq (z w z1 w2 b) (a : Fin 128) (l : Fin 5632) :
    k0_pay8 (F := Ideal) z w z1 w2 (k0_pay7 b) (ix2 a l)
      = b (ix2 0 l) + w2 (ix2 a l) + w (ix2 1 l) * z1 (ix2 a l) + w (ix2 2 l) * z (ix2 a l) := by
  pointwise [k0_pay8, k0_pay7]

theorem pay6_eq (i : grid0.Coords) (z p w) (a : Fin 128) (l : Fin 5632) :
    k0_pay6 (F := Ideal) i z p w (ix2 a l) = w (ix2 0 l) * k0_pay4 (F := Ideal) i z p (ix2 a l) := by
  pointwise [k0_pay6]

theorem pay17_eq (z : Vec Ideal S128x5632 .f32) (d : Vec Ideal S128x2816 .f32) (w : Vec Ideal S3x5632 .f32)
    (z1 w2 b : Vec Ideal S128x5632 .f32) (a : Fin 128) (l : Fin 5632) :
    k0_pay17 (F := Ideal) (k0_pay15 z d w z1 w2 b) (k0_pay16 z d w z1 w2 b) (ix2 a l)
      = rowGrad (fun l => k0_pay8 (F := Ideal) z w z1 w2 b (ix2 a l)) (fun l => d (ix2 a l)) l := by
  pointwise [k0_pay17, k0_pay15, k0_pay16, k0_pay13, k0_pay12, k0_pay11, k0_pay10, k0_pay9, k0_pay14]
  simp only [th_eq, gateGrad_eq]
  exact rowGrad_eq (fun l => k0_pay8 (F := Ideal) z w z1 w2 b (ix2 a l)) (fun l => d (ix2 a l)) l

theorem pay25_eq (z : Vec Ideal S128x5632 .f32) (z' : Vec Ideal S8x5632 .f32) (w : Vec Ideal S3x5632 .f32)
    (b : Vec Ideal S1x5632 .f32) (d : Vec Ideal S8x2816 .f32) (a : Fin 8) (l : Fin 5632) :
    k0_pay25 (F := Ideal) d (k0_pay18 z z' w b) (k0_pay19 z z' w b) (k0_pay20 z z' w b) (k0_pay21 z z' w b) (k0_pay22 z z' w b)
        (k0_pay23 z z' w b) k0_pay24 (ix2 a l)
      = rowGrad (fun l => k0_pay18 (F := Ideal) z z' w b (ix2 a l)) (fun l => d (ix2 a l)) l := by
  pointwise [k0_pay25, k0_pay19, k0_pay20, k0_pay21, k0_pay22, k0_pay23, k0_pay24]
  simp only [th_eq, gateGrad_eq]
  exact rowGrad_eq (fun l => k0_pay18 (F := Ideal) z z' w b (ix2 a l)) (fun l => d (ix2 a l)) l

/-! ## The blocks of point `t` of the arrays `Z` and `D` -/

variable (Z : (⟨2, ![4096, 5632]⟩ : Shape).Idx → EReal) (D : (⟨2, ![4096, 2816]⟩ : Shape).Idx → EReal)
  (i : grid0.Coords) (z : Vec Ideal S128x5632 .f32) (d : Vec Ideal S128x2816 .f32) (p z' : Vec Ideal S8x5632 .f32)
  (d' : Vec Ideal S8x2816 .f32) (w : Vec Ideal S3x5632 .f32) (b : Vec Ideal S1x5632 .f32)

/-- The rows of the point and its neighbours are those of the arrays. -/
structure Blocks : Prop where
  z : ∀ (a : Fin 128) l, z (ix2 a l) = above Z 0 (128 * (i 0).val + a.val) l
  p : 0 < (i 0).val → ∀ (a : Fin 8) l, p (ix2 a l) = above Z 0 (128 * (i 0).val - 8 + a.val) l
  z' : (i 0).val < 31 → ∀ (a : Fin 8) l, z' (ix2 a l) = above Z 0 (128 * (i 0).val + 128 + a.val) l
  d : ∀ (a : Fin 128) l (h : 128 * (i 0).val + a.val < 4096), d (ix2 a l) = D (ix2 ⟨128 * (i 0).val + a.val, h⟩ l)
  d' : ∀ (a : Fin 8) l (h : 128 * (i 0).val + 128 + a.val < 4096), d' (ix2 a l) = D (ix2 ⟨128 * (i 0).val + 128 + a.val, h⟩ l)

variable {Z D i z d p z' d'}

theorem lt32 (i : grid0.Coords) : (i 0).val < 32 := (i 0).isLt

theorem down2 (B : Blocks Z D i z d p z' d') (a : Fin 128) (l : Fin 5632) :
    k0_pay4 (F := Ideal) i z p (ix2 a l) = above Z 2 (128 * (i 0).val + a.val) l := by
  have hi := lt32 i
  pointwise [k0_pay4]
  by_cases h1 : a.val < 8
  · rw [dif_pos h1, sel_slt (by omega) (by omega), sel_gt (by omega) (by omega)]
    by_cases h2 : a.val < 2
    · rw [if_pos h2]
      by_cases h3 : 0 < (i 0).val
      · rw [if_pos h3]
        exact (B.p h3 _ l).trans (above_at Z (by simp only; omega) l)
      · rw [if_neg h3, above_of_lt Z (by omega)]
    · rw [if_neg h2]
      exact (B.z _ l).trans (above_at Z (by simp only; omega) l)
  · rw [dif_neg h1]
    exact (B.z _ l).trans (above_at Z (by simp only; omega) l)

theorem down1 (B : Blocks Z D i z d p z' d') (a : Fin 128) (l : Fin 5632) :
    k0_pay5 (F := Ideal) i z p (ix2 a l) = above Z 1 (128 * (i 0).val + a.val) l := by
  have hi := lt32 i
  pointwise [k0_pay5]
  by_cases h1 : a.val < 8
  · rw [dif_pos h1, sel_slt (by omega) (by omega), sel_gt (by omega) (by omega)]
    by_cases h2 : a.val < 1
    · rw [if_pos h2]
      by_cases h3 : 0 < (i 0).val
      · rw [if_pos h3]
        exact (B.p h3 _ l).trans (above_at Z (by simp only; omega) l)
      · rw [if_neg h3, above_of_lt Z (by omega)]
    · rw [if_neg h2]
      exact (B.z _ l).trans (above_at Z (by simp only; omega) l)
  · rw [dif_neg h1]
    exact (B.z _ l).trans (above_at Z (by simp only; omega) l)

/-- The pre-activations of the point's rows. -/
theorem tile_pre (B : Blocks Z D i z d p z' d') (a : Fin 128) (l : Fin 5632) :
    k0_pay8 (F := Ideal) z w (k0_pay5 i z p) (k0_pay6 i z p w) (k0_pay7 b) (ix2 a l) = pre Z w b (128 * (i 0).val + a.val) l := by
  rw [pay8_eq, pay6_eq, down2 B, down1 B, B.z]; rfl

/-- … and of the eight rows below. -/
theorem next_pre (B : Blocks Z D i z d p z' d') (h31 : (i 0).val < 31) (a : Fin 8) (l : Fin 5632) :
    k0_pay18 (F := Ideal) z z' w b (ix2 a l) = pre Z w b (128 * (i 0).val + 128 + a.val) l := by
  have hi := lt32 i
  pointwise [k0_pay18]
  rw [sel_slt (by omega) (by omega), sel_slt (by omega) (by omega)]
  have h2 : (if a.val < 2 then z (ix2 ⟨120 + (a.val + 8 - 2) % 8, by omega⟩ l) else z' (ix2 ⟨(a.val + 8 - 2) % 8, by omega⟩ l))
      = above Z 2 (128 * (i 0).val + 128 + a.val) l := by
    split_ifs with h
    · exact (B.z _ l).trans (above_at Z (by simp only; omega) l)
    · exact (B.z' h31 _ l).trans (above_at Z (by simp only; omega) l)
  have h1 : (if a.val < 1 then z (ix2 ⟨120 + (a.val + 8 - 1) % 8, by omega⟩ l) else z' (ix2 ⟨(a.val + 8 - 1) % 8, by omega⟩ l))
      = above Z 1 (128 * (i 0).val + 128 + a.val) l := by
    split_ifs with h
    · exact (B.z _ l).trans (above_at Z (by simp only; omega) l)
    · exact (B.z' h31 _ l).trans (above_at Z (by simp only; omega) l)
  rw [h2, h1, B.z' h31]; rfl

/-- The gradient of the pre-activations in the point's rows. -/
abbrev tileGrad (i : grid0.Coords) (z : Vec Ideal S128x5632 .f32) (d : Vec Ideal S128x2816 .f32) (p : Vec Ideal S8x5632 .f32)
    (w : Vec Ideal S3x5632 .f32) (b : Vec Ideal S1x5632 .f32) : FVec Ideal S128x5632 .f32 :=
  k0_pay17 (F := Ideal) (k0_pay15 z d w (k0_pay5 i z p) (k0_pay6 i z p w) (k0_pay7 b))
    (k0_pay16 z d w (k0_pay5 i z p) (k0_pay6 i z p w) (k0_pay7 b))

/-- … and in the eight rows below. -/
abbrev nextGrad (z : Vec Ideal S128x5632 .f32) (z' : Vec Ideal S8x5632 .f32) (d' : Vec Ideal S8x2816 .f32)
    (w : Vec Ideal S3x5632 .f32) (b : Vec Ideal S1x5632 .f32) : FVec Ideal S8x5632 .f32 :=
  k0_pay25 (F := Ideal) d' (k0_pay18 z z' w b) (k0_pay19 z z' w b) (k0_pay20 z z' w b) (k0_pay21 z z' w b) (k0_pay22 z z' w b)
    (k0_pay23 z z' w b) k0_pay24

theorem tileGrad_eq (B : Blocks Z D i z d p z' d') (a : Fin 128) (l : Fin 5632) :
    tileGrad i z d p w b (ix2 a l) = preGrad Z D w b (128 * (i 0).val + a.val) l := by
  have hi := lt32 i
  unfold tileGrad preGrad
  rw [pay17_eq]
  rw [dif_pos (by omega)]
  congr 1
  · funext l; exact tile_pre w b B a l
  · funext l; exact B.d a l _

theorem nextGrad_eq (B : Blocks Z D i z d p z' d') (h31 : (i 0).val < 31) (a : Fin 8) (l : Fin 5632) :
    nextGrad z z' d' w b (ix2 a l) = preGrad Z D w b (128 * (i 0).val + 128 + a.val) l := by
  unfold nextGrad preGrad
  rw [pay25_eq]
  rw [dif_pos (by omega)]
  congr 1
  · funext l; exact next_pre w b B h31 a l
  · funext l; exact B.d' a l _

/-- The rows' gradient read one row further down. -/
theorem up1 (B : Blocks Z D i z d p z' d') (a : Fin 128) (l : Fin 5632) :
    k0_pay28 (F := Ideal) (BitVec.ofNat 32 (i 0).val) d' (tileGrad i z d p w b) (k0_pay18 z z' w b) (k0_pay19 z z' w b)
        (k0_pay20 z z' w b) (k0_pay21 z z' w b) (k0_pay22 z z' w b) (k0_pay23 z z' w b) k0_pay24 (ix2 a l)
      = preGrad Z D w b (128 * (i 0).val + a.val + 1) l := by
  have hi := lt32 i
  pointwise [k0_pay28]
  by_cases h1 : a.val < 120
  · rw [dif_pos h1]
    exact (tileGrad_eq w b B _ l).trans (by congr 1; simp only; omega)
  · rw [dif_neg h1, sel_sge (by omega) (by omega), sel_lt (by omega) (by omega)]
    by_cases h2 : 7 ≤ a.val - 120
    · rw [if_pos h2]
      by_cases h3 : (i 0).val < 31
      · rw [if_pos h3]
        exact (nextGrad_eq w b B h3 _ l).trans (by congr 1; simp only; omega)
      · rw [if_neg h3, preGrad_of_le _ _ _ _ (by omega)]
    · rw [if_neg h2]
      exact (tileGrad_eq w b B _ l).trans (by congr 1; simp only; omega)

/-- The gradient of `z` in the point's rows. -/
theorem dz_eq (B : Blocks Z D i z d p z' d') (a : Fin 128) (l : Fin 5632) (u : FVec Ideal S128x5632 .f32)
    (hu : u (ix2 a l) = preGrad Z D w b (128 * (i 0).val + a.val + 1) l) :
    k0_pay32 (F := Ideal) (BitVec.ofNat 32 (i 0).val) w (tileGrad i z d p w b) (nextGrad z z' d' w b)
        (k0_pay26 w (tileGrad i z d p w b)) (k0_pay27 w) u (ix2 a l)
      = w (ix2 2 l) * preGrad Z D w b (128 * (i 0).val + a.val) l + w (ix2 1 l) * preGrad Z D w b (128 * (i 0).val + a.val + 1) l
        + w (ix2 0 l) * preGrad Z D w b (128 * (i 0).val + a.val + 2) l := by
  have hi := lt32 i
  pointwise [k0_pay32, k0_pay26, k0_pay27]
  rw [hu, tileGrad_eq w b B]
  congr 2
  by_cases h1 : a.val < 120
  · rw [dif_pos h1]
    exact (tileGrad_eq w b B _ l).trans (by congr 1; simp only; omega)
  · rw [dif_neg h1, sel_sge (by omega) (by omega), sel_lt (by omega) (by omega)]
    by_cases h2 : 6 ≤ a.val - 120
    · rw [if_pos h2]
      by_cases h3 : (i 0).val < 31
      · rw [if_pos h3]
        exact (nextGrad_eq w b B h3 _ l).trans (by congr 1; simp only; omega)
      · rw [if_neg h3, preGrad_of_le _ _ _ _ (by omega)]
    · rw [if_neg h2]
      exact (tileGrad_eq w b B _ l).trans (by congr 1; simp only; omega)

/-! ## The point's additions to the four sums over the rows -/

theorem bias_eq (B : Blocks Z D i z d p z' d') (acc : Vec Ideal S1x5632 .f32) (l : Fin 5632) :
    k0_pay37 (F := Ideal) (tileGrad i z d p w b) acc (ix2 0 l)
      = acc (ix2 0 l) + ∑ a : Fin 128, preGrad Z D w b (128 * (i 0).val + a.val) l := by
  pointwise [k0_pay37]
  simp only [tileGrad_eq w b B]

theorem tap2_eq (B : Blocks Z D i z d p z' d') (acc : Vec Ideal S1x5632 .f32) (l : Fin 5632) :
    k0_pay1 (F := Ideal) (k0_pay29 (k0_pay4 i z p) (tileGrad i z d p w b)) acc (ix2 0 l)
      = acc (ix2 0 l) + ∑ a : Fin 128, preGrad Z D w b (128 * (i 0).val + a.val) l * above Z 2 (128 * (i 0).val + a.val) l := by
  pointwise [k0_pay1, k0_pay29]
  simp only [tileGrad_eq w b B, down2 B]

theorem tap1_eq (B : Blocks Z D i z d p z' d') (acc : Vec Ideal S1x5632 .f32) (l : Fin 5632) :
    k0_pay2 (F := Ideal) (k0_pay30 (k0_pay5 i z p) (tileGrad i z d p w b)) acc (ix2 0 l)
      = acc (ix2 0 l) + ∑ a : Fin 128, preGrad Z D w b (128 * (i 0).val + a.val) l * above Z 1 (128 * (i 0).val + a.val) l := by
  pointwise [k0_pay2, k0_pay30]
  simp only [tileGrad_eq w b B, down1 B]

theorem tap0_eq (B : Blocks Z D i z d p z' d') (acc : Vec Ideal S1x5632 .f32) (l : Fin 5632) :
    k0_pay3 (F := Ideal) (k0_pay31 z (tileGrad i z d p w b)) acc (ix2 0 l)
      = acc (ix2 0 l) + ∑ a : Fin 128, preGrad Z D w b (128 * (i 0).val + a.val) l * above Z 0 (128 * (i 0).val + a.val) l := by
  pointwise [k0_pay3, k0_pay31]
  simp only [tileGrad_eq w b B, B.z]

end Cert.Grad.Conv

end
-- ==== Proof.ConvGrad.lean ====
/-
  The arrays that the gated convolution's gradient leaves: the gradient of `z` block by block, and the gradients of the
  bias and of the three taps as sums over all rows, gathered point by point.
-/
module

public import Idealize.ShloMosaic.Lib.Pipeline.ReadBack
public import Idealize.ShloMosaic.Lib.Pipeline.ValueKit.Acc
public import Idealize.ShloMosaic.Lib.Pipeline.ValueKit.Geometry
public import proofs.«01_k».proof.Proof.ConvTile

@[expose] public section

noncomputable section

open scoped BigOperators

namespace Cert.Grad.Conv

open Cert.KernelIdeal Cert.KernelIdeal.Gen Cert.KernelIdeal.Value
open Idealize.ShloMosaic Idealize.ShloMosaic.TcCoe Idealize.SL.Sem

variable (m : (ℓ : Loc nD τ sig) → Buf (Elt Ideal) ℓ)

/-- The blocks that the windows name at a point. -/
theorem idx : ∀ t : Fin cfg0.N, win0_0.index t = ![t.val, 0] ∧ win0_1.index t = ![t.val, 0]
    ∧ win0_2.index t = ![t.val * 16 - 1, 0] ∧ win0_3.index t = ![min ((t.val + 1) * 16) 511, 0]
    ∧ win0_4.index t = ![min ((t.val + 1) * 16) 511, 0] ∧ win0_5.index t = ![0, 0] ∧ win0_6.index t = ![0, 0]
    ∧ win0_7.index t = ![t.val, 0] ∧ win0_8.index t = ![0, 0] ∧ win0_9.index t = ![0, 0] ∧ win0_10.index t = ![0, 0]
    ∧ win0_11.index t = ![0, 0] := by
  decide +kernel

theorem coord : ∀ t : Fin cfg0.N, (grid0.coords t 0).val = t.val := by decide +kernel

theorem lt_N (t : Fin cfg0.N) : t.val < 32 := t.isLt

/-- The point's blocks are rows of the call's operands. -/
theorem blocks (c : Dev nD) (t : Fin cfg0.N) :
    Blocks (m ((c : Thread nD τ).loc main_arg0)) (m ((c : Thread nD τ).loc main_arg1))
      (grid0.coords t) (iblk m c 0 t) (iblk m c 1 t) (iblk m c 2 t) (iblk m c 3 t) (iblk m c 4 t) where
  z a l := by
    have ht := lt_N t
    rw [coord]
    unfold above
    rw [dif_pos (by omega)]
    blk_ext [iblk, V, idx]
  p h a l := by
    have ht := lt_N t
    rw [coord] at h ⊢
    unfold above
    rw [dif_pos (by omega)]
    blk_ext [iblk, V, idx]
  z' h a l := by
    have ht := lt_N t
    rw [coord] at h ⊢
    unfold above
    rw [dif_pos (by omega)]
    blk_ext [iblk, V, idx]
  d a l h := by
    have ht := lt_N t
    simp only [coord] at h ⊢
    blk_ext [iblk, V, idx]
  d' a l h := by
    have ht := lt_N t
    simp only [coord] at h ⊢
    blk_ext [iblk, V, idx]

theorem taps (c : Dev nD) (t : Fin cfg0.N) : iblk m c 5 t = m ((c : Thread nD τ).loc main_arg2) := by
  funext j
  blk_ext [iblk, V, idx]

theorem bias (c : Dev nD) (t : Fin cfg0.N) : iblk m c 6 t = m ((c : Thread nD τ).loc main_arg3) := by
  funext j
  blk_ext [iblk, V, idx]

/-- The gradients named in the specification, at the call's operands. -/
abbrev preG (c : Dev nD) : ℕ → Fin 5632 → EReal :=
  preGrad (m ((c : Thread nD τ).loc main_arg0)) (m ((c : Thread nD τ).loc main_arg1)) (m ((c : Thread nD τ).loc main_arg2))
    (m ((c : Thread nD τ).loc main_arg3))
abbrev zG (c : Dev nD) :=
  zGrad (m ((c : Thread nD τ).loc main_arg0)) (m ((c : Thread nD τ).loc main_arg1)) (m ((c : Thread nD τ).loc main_arg2))
    (m ((c : Thread nD τ).loc main_arg3))
abbrev biasG (c : Dev nD) :=
  biasGrad (m ((c : Thread nD τ).loc main_arg0)) (m ((c : Thread nD τ).loc main_arg1)) (m ((c : Thread nD τ).loc main_arg2))
    (m ((c : Thread nD τ).loc main_arg3))
abbrev tapG (c : Dev nD) (k : ℕ) :=
  tapGrad (m ((c : Thread nD τ).loc main_arg0)) (m ((c : Thread nD τ).loc main_arg1)) (m ((c : Thread nD τ).loc main_arg2))
    (m ((c : Thread nD τ).loc main_arg3)) k

theorem row_ix (j : S1x5632.Idx) : j = ix2 0 (j 1) := by
  funext k
  match k with
  | 0 => exact Subsingleton.elim (α := Fin 1) _ _
  | 1 => rfl

theorem tile_ix (j : S128x5632.Idx) : j = ix2 (j 0) (j 1) := by
  funext k
  match k with
  | 0 => rfl
  | 1 => rfl

theorem rows_point (c : Dev nD) (t : Fin cfg0.N) (j : S128x5632.Idx) :
    (outsAt0 m c t.val t.isLt).1 j
      = zRow (m ((c : Thread nD τ).loc main_arg0)) (m ((c : Thread nD τ).loc main_arg1)) (m ((c : Thread nD τ).loc main_arg2))
          (m ((c : Thread nD τ).loc main_arg3)) (128 * t.val + (j 0).val) (j 1) := by
  obtain ⟨a, l, rfl⟩ : ∃ (a : Fin 128) (l : Fin 5632), j = ix2 a l := ⟨j 0, j 1, tile_ix j⟩
  have key := dz_eq (iblk m c 5 t) (iblk m c 6 t) (blocks m c t) a l _
    (up1 (iblk m c 5 t) (iblk m c 6 t) (blocks m c t) a l)
  rw [taps m c t, bias m c t, coord t] at key
  by_cases h0 : t.val % 32 = 0
  · rw [outsAt0_A m c t h0]; frame_out; rw [taps m c t, bias m c t, coord t]; exact key
  · rw [outsAt0_B m c t h0]; frame_out; rw [taps m c t, bias m c t, coord t]; exact key

/-- **The gradient of `z`.** -/
theorem final7 (c : Dev nD) : (dats m 0 c).arrAt 7 cfg0.N = zG m c := by
  refine (dats m 0 c).arrAt_eq_of_covers 7 _ (by decide +kernel) fun t hf j => ?_
  have h0 : ((win0_7.blk t).view.emb j 0).val = 128 * t.val + (j 0).val := by blk_simp [idx]; omega
  have h1 : (win0_7.blk t).view.emb j 1 = j 1 := Fin.ext (by blk_simp [idx])
  blk_simp
  rw [after0_7, rows_point]
  show _ = zRow _ _ _ _ _ _
  rw [h0, h1]

/-! ## The four sums over all rows -/

theorem bias_point (c : Dev nD) (t : Fin cfg0.N) (acc : Vec Ideal S1x5632 .f32) (j : S1x5632.Idx) :
    k0_pay37 (F := Ideal) (tileGrad (grid0.coords t) (iblk m c 0 t) (iblk m c 1 t) (iblk m c 2 t) (iblk m c 5 t) (iblk m c 6 t)) acc j
      = acc j + ∑ a : Fin 128, preG m c (128 * t.val + a.val) (j 1) := by
  obtain ⟨l, rfl⟩ : ∃ l : Fin 5632, j = ix2 0 l := ⟨j 1, row_ix j⟩
  have key := bias_eq (iblk m c 5 t) (iblk m c 6 t) (blocks m c t) acc l
  rw [coord] at key
  rw [key, taps, bias]
  rfl

theorem tap_point (c : Dev nD) (t : Fin cfg0.N) (acc : Vec Ideal S1x5632 .f32) (j : S1x5632.Idx) (n : ℕ) (P : Vec Ideal S1x5632 .f32)
    (hP : ∀ l, P (ix2 0 l) = acc (ix2 0 l) + ∑ a : Fin 128, preGrad (m ((c : Thread nD τ).loc main_arg0)) (m ((c : Thread nD τ).loc main_arg1))
      (iblk m c 5 t) (iblk m c 6 t) (128 * (grid0.coords t 0).val + a.val) l
        * above (m ((c : Thread nD τ).loc main_arg0)) n (128 * (grid0.coords t 0).val + a.val) l) :
    P j = acc j + ∑ a : Fin 128, preG m c (128 * t.val + a.val) (j 1)
        * above (m ((c : Thread nD τ).loc main_arg0)) n (128 * t.val + a.val) (j 1) := by
  obtain ⟨l, rfl⟩ : ∃ l : Fin 5632, j = ix2 0 l := ⟨j 1, row_ix j⟩
  have key := hP l
  rw [coord] at key
  rw [key, taps, bias]
  rfl

/-- A row that starts from zero and takes in 128 rows a point holds, after the last point, the sum over all rows. -/
theorem acc_sum (f : (n : ℕ) → n < cfg0.N → S1x5632.Idx → EReal) (T : ℕ → Fin 5632 → EReal)
    (h0 : ∀ t : Fin cfg0.N, t.val % 32 = 0 → ∀ j, f t.val t.isLt j = 0 + ∑ a : Fin 128, T (128 * t.val + a.val) (j 1))
    (hs : ∀ t : Fin cfg0.N, ¬t.val % 32 = 0 → ∀ j, f t.val t.isLt j
      = f (t.val - 1) (Nat.lt_of_le_of_lt (Nat.sub_le _ _) t.isLt) j + ∑ a : Fin 128, T (128 * t.val + a.val) (j 1))
    (t : Fin cfg0.N) (h31 : t.val % 32 = 31) (j : S1x5632.Idx) :
    f t.val t.isLt j = ∑ r : Fin 4096, T r.val (j 1) := by
  rw [Pipeline.eq_sum_fin_of_reset_step_apply_of_flush f 32 (fun _ => (0 : EReal))
    (fun t j => ∑ a : Fin 128, T (128 * t.val + a.val) (j 1)) h0 hs t h31 j, zero_add]
  have ht := lt_N t
  refine Fin.sum_mul_add_congr fun s k hl => ?_
  congr 1
  simp only
  omega

theorem zero33 (j : S1x5632.Idx) : k0_pay33 (F := Ideal) j = 0 := by pointwise [k0_pay33]
theorem zero34 (j : S1x5632.Idx) : k0_pay34 (F := Ideal) j = 0 := by pointwise [k0_pay34]
theorem zero35 (j : S1x5632.Idx) : k0_pay35 (F := Ideal) j = 0 := by pointwise [k0_pay35]
theorem zero36 (j : S1x5632.Idx) : k0_pay36 (F := Ideal) j = 0 := by pointwise [k0_pay36]

/-- **The gradient of the bias.** -/
theorem final8 (c : Dev nD) : (dats m 0 c).arrAt 8 cfg0.N = biasG m c := by
  refine (dats m 0 c).arrAt_eq_of_covers 8 _ (by decide +kernel) fun t hf j => ?_
  have h1 : (win0_8.blk t).view.emb j 1 = j 1 := Fin.ext (by blk_simp [idx])
  blk_simp
  rw [after0_8]
  refine (acc_sum (fun n h => (outsAt0 m c n h).2.1) (preG m c)
    (fun t h j => ?_) (fun t h j => ?_) t ((flush0_8 t).mp hf) j).trans ?_
  · rw [outsAt0_A m c t h]; frame_out; exact (bias_point m c t _ j).trans (by rw [zero33])
  · rw [outsAt0_B m c t h]; frame_out; exact bias_point m c t _ j
  · unfold biasG biasGrad; rw [h1]

/-- **The gradient of the tap that reads two rows above.** -/
theorem final9 (c : Dev nD) : (dats m 0 c).arrAt 9 cfg0.N = tapG m c 2 := by
  refine (dats m 0 c).arrAt_eq_of_covers 9 _ (by decide +kernel) fun t hf j => ?_
  have h1 : (win0_9.blk t).view.emb j 1 = j 1 := Fin.ext (by blk_simp [idx])
  blk_simp
  rw [after0_9]
  refine (acc_sum (fun n h => (outsAt0 m c n h).2.2.1)
    (fun r l => preG m c r l * above (m ((c : Thread nD τ).loc main_arg0)) 2 r l)
    (fun t h j => ?_) (fun t h j => ?_) t ((flush0_9 t).mp hf) j).trans ?_
  · rw [outsAt0_A m c t h]; frame_out
    exact (tap_point m c t _ j 2 _ fun l => tap2_eq _ _ (blocks m c t) _ l).trans (by rw [zero34])
  · rw [outsAt0_B m c t h]; frame_out; exact tap_point m c t _ j 2 _ fun l => tap2_eq _ _ (blocks m c t) _ l
  · unfold tapG tapGrad; rw [h1]

/-- **The gradient of the tap that reads the row above.** -/
theorem final10 (c : Dev nD) : (dats m 0 c).arrAt 10 cfg0.N = tapG m c 1 := by
  refine (dats m 0 c).arrAt_eq_of_covers 10 _ (by decide +kernel) fun t hf j => ?_
  have h1 : (win0_10.blk t).view.emb j 1 = j 1 := Fin.ext (by blk_simp [idx])
  blk_simp
  rw [after0_10]
  refine (acc_sum (fun n h => (outsAt0 m c n h).2.2.2.1)
    (fun r l => preG m c r l * above (m ((c : Thread nD τ).loc main_arg0)) 1 r l)
    (fun t h j => ?_) (fun t h j => ?_) t ((flush0_10 t).mp hf) j).trans ?_
  · rw [outsAt0_A m c t h]; frame_out
    exact (tap_point m c t _ j 1 _ fun l => tap1_eq _ _ (blocks m c t) _ l).trans (by rw [zero35])
  · rw [outsAt0_B m c t h]; frame_out; exact tap_point m c t _ j 1 _ fun l => tap1_eq _ _ (blocks m c t) _ l
  · unfold tapG tapGrad; rw [h1]

/-- **The gradient of the tap that reads the row itself.** -/
theorem final11 (c : Dev nD) : (dats m 0 c).arrAt 11 cfg0.N = tapG m c 0 := by
  refine (dats m 0 c).arrAt_eq_of_covers 11 _ (by decide +kernel) fun t hf j => ?_
  have h1 : (win0_11.blk t).view.emb j 1 = j 1 := Fin.ext (by blk_simp [idx])
  blk_simp
  rw [after0_11]
  refine (acc_sum (fun n h => (outsAt0 m c n h).2.2.2.2)
    (fun r l => preG m c r l * above (m ((c : Thread nD τ).loc main_arg0)) 0 r l)
    (fun t h j => ?_) (fun t h j => ?_) t ((flush0_11 t).mp hf) j).trans ?_
  · rw [outsAt0_A m c t h]; frame_out
    exact (tap_point m c t _ j 0 _ fun l => tap0_eq _ _ (blocks m c t) _ l).trans (by rw [zero36])
  · rw [outsAt0_B m c t h]; frame_out; exact tap_point m c t _ j 0 _ fun l => tap0_eq _ _ (blocks m c t) _ l
  · unfold tapG tapGrad; rw [h1]

end Cert.Grad.Conv

end
-- ==== Proof.ConvRef.lean ====
/-
  What the reference computes, entry by entry: the derivative that `jax.vjp` takes of the convolution, the activation and
  the product of the two halves is the gradient that the call leaves.
-/
module

public import proofs.«01_k».proof.Proof.ConvSpec
public import proofs.«01_k».proof.Proof.Gen.ReferenceIdeal.Run

@[expose] public section

noncomputable section

open scoped BigOperators

namespace Cert.Grad.Conv

open Cert.ReferenceIdeal Cert.ReferenceIdeal.Gen Cert.ReferenceIdeal.Value
open Idealize.ShloMosaic Idealize.ShloMosaic.TcCoe Idealize.SL.Sem

/-- The arguments as arrays. -/
abbrev argZ (V : Valuation τ sig (Elt Ideal)) : (⟨2, ![4096, 5632]⟩ : Shape).Idx → EReal := V (Proc.devRef .tc main_arg0)
abbrev argD (V : Valuation τ sig (Elt Ideal)) : (⟨2, ![4096, 2816]⟩ : Shape).Idx → EReal := V (Proc.devRef .tc main_arg1)
abbrev argW (V : Valuation τ sig (Elt Ideal)) : (⟨2, ![3, 5632]⟩ : Shape).Idx → EReal := V (Proc.devRef .tc main_arg2)
abbrev argB (V : Valuation τ sig (Elt Ideal)) : (⟨2, ![1, 5632]⟩ : Shape).Idx → EReal := V (Proc.devRef .tc main_arg3)

variable (V : Valuation τ sig (Elt Ideal))

theorem v5_at (r : Fin 4096) (l : Fin 5632) :
    res_main_v5 (F := Ideal) V (ix2 r l) = above (argZ V) 2 r l := by
  unfold above
  pointwise [res_main_v5, res_main_v1]
  by_cases h : r.val < 2
  · rw [dif_pos h, dif_neg (by omega)]
  · rw [dif_neg h, dif_pos (by omega)]

theorem v13_at (r : Fin 4096) (l : Fin 5632) :
    res_main_v13 (F := Ideal) V (ix2 r l) = above (argZ V) 1 r l := by
  unfold above
  pointwise [res_main_v13, res_main_v1]
  by_cases h : 1 + r.val < 2
  · rw [dif_pos h, dif_neg (by omega)]
  · rw [dif_neg h, dif_pos (by omega)]
    congr 2
    exact Fin.ext (by simp only []; omega)

theorem v20_at (r : Fin 4096) (l : Fin 5632) :
    res_main_v20 (F := Ideal) V (ix2 r l) = above (argZ V) 0 r l := by
  unfold above
  pointwise [res_main_v20, res_main_v1]

theorem v6_at (l : Fin 5632) : res_main_v6 (F := Ideal) V (ix2 0 l) = argW V (ix2 0 l) := by
  pointwise [res_main_v6]

theorem v14_at (l : Fin 5632) : res_main_v14 (F := Ideal) V (ix2 0 l) = argW V (ix2 1 l) := by
  pointwise [res_main_v14]

theorem v21_at (l : Fin 5632) : res_main_v21 (F := Ideal) V (ix2 0 l) = argW V (ix2 2 l) := by
  pointwise [res_main_v21]

theorem v26_at (r : Fin 4096) (l : Fin 5632) :
    res_main_v26 (F := Ideal) V (ix2 r l) = pre (argZ V) (argW V) (argB V) r l := by
  unfold pre
  rw [← v5_at, ← v13_at, ← v20_at, ← v6_at, ← v14_at, ← v21_at]
  pointwise [res_main_v26]
  rw [← add_assoc, ← add_assoc]

theorem v65_at (r : Fin 4096) (l : Fin 5632) :
    res_main_v65 (F := Ideal) V (ix2 r l) = preGrad (argZ V) (argD V) (argW V) (argB V) r l := by
  unfold preGrad rowGrad
  rw [dif_pos r.isLt]
  simp only [← v26_at]
  pointwise [res_main_v65, res_main_v59, res_main_v52, res_main_v49, res_main_v48, res_main_v39, res_main_v28, res_main_v27]
  rfl

/-- The gradient of `z`. -/
theorem dz_at (r : Fin 4096) (l : Fin 5632) (h) :
    extractStridedSlice S4096x5632 ![2, 0] (res_main_v95 (F := Ideal) V) h (ix2 r l)
      = zRow (argZ V) (argD V) (argW V) (argB V) r l := by
  unfold zRow
  pointwise [res_main_v95]
  rw [v21_at, v14_at, v6_at, v65_at]
  congr 1
  · congr 1
    by_cases h1 : r.val + 1 < 4096
    · rw [dif_pos (by omega), v65_at]
      congr 2
      simp only []; omega
    · rw [dif_neg (by omega), preGrad_of_le _ _ _ _ (by omega), mul_zero]
  · by_cases h2 : r.val + 2 < 4096
    · rw [dif_pos (by omega), v65_at]
      congr 2
      simp only []; omega
    · rw [dif_neg (by omega), preGrad_of_le _ _ _ _ (by omega), mul_zero]

/-- The gradient of the bias. -/
theorem db_at (l : Fin 5632) :
    (shapeCast S1x5632 (Host.reduceAdd (F := Ideal) (s := S4096x5632) (t := S5632) (φ := .f32) (res_main_v65 V)
        (constant S_ .f32 0x00000000#32) reducesTo_S4096x5632_S5632_d0 h_S_) shapeCasts_S5632_S1x5632 : Vec Ideal S1x5632 .f32)
        (ix2 0 l)
      = ∑ r : Fin 4096, preGrad (argZ V) (argD V) (argW V) (argB V) r.val l := by
  simp only [← v65_at]
  pointwise

/-- The gradients of the three taps, one row each. -/
theorem dw_at0 (l : Fin 5632) :
    res_main_v98 (F := Ideal) V (ix2 0 l)
      = ∑ r : Fin 4096, preGrad (argZ V) (argD V) (argW V) (argB V) r.val l * above (argZ V) 2 r.val l := by
  simp only [← v65_at, ← v5_at]
  pointwise [res_main_v98]
  exact Fin.sum_univ_one (M := EReal) _

theorem dw_at1 (l : Fin 5632) :
    res_main_v98 (F := Ideal) V (ix2 1 l)
      = ∑ r : Fin 4096, preGrad (argZ V) (argD V) (argW V) (argB V) r.val l * above (argZ V) 1 r.val l := by
  simp only [← v65_at, ← v13_at]
  pointwise [res_main_v98]
  exact Fin.sum_univ_one (M := EReal) _

theorem dw_at2 (l : Fin 5632) :
    res_main_v98 (F := Ideal) V (ix2 2 l)
      = ∑ r : Fin 4096, preGrad (argZ V) (argD V) (argW V) (argB V) r.val l * above (argZ V) 0 r.val l := by
  simp only [← v65_at, ← v20_at]
  pointwise [res_main_v98]
  exact Fin.sum_univ_one (M := EReal) _

end Cert.Grad.Conv

end
-- ==== Proof.Conv.lean ====
/-
  The gated convolution's gradient: the call leaves, in each of its five results, what the derivative of the convolution,
  the activation and the product of the two halves leaves.
-/
module

public import proofs.«01_k».proof.Proof.ConvGrad
public import proofs.«01_k».proof.Proof.ConvRef
public import proofs.«01_k».proof.Defs

@[expose] public section

noncomputable section

namespace Cert.Grad.Conv

open Idealize.ShloMosaic Idealize.ShloMosaic.TcCoe Idealize.ShloMosaic.StableHlo Idealize.SL.Sem
/-- An index is its row and its column. -/
theorem array_ix (j : (⟨2, ![4096, 5632]⟩ : Shape).Idx) : j = ix2 (j 0) (j 1) := by
  funext k
  match k with
  | 0 => rfl
  | 1 => rfl

open Cert.KernelIdeal Cert.KernelIdeal.Gen Cert.KernelIdeal.Value in
/-- **The call computes the derivative.** -/
theorem algebraic : Cert.algebraic_KernelIdeal_ReferenceIdeal := fun m g m' g' _ hag =>
  ⟨fun c => zG m c, fun c => biasG m c, fun c => tapG m c 2, fun c => tapG m c 1, fun c => tapG m c 0,
    (θ_run _ _ _).mono (fun _ h c => by
      obtain ⟨h7, h8, h9, h10, h11, hr⟩ := h c
      exact ⟨h7.trans (final7 m c), h8.trans (final8 m c), h9.trans (final9 m c), h10.trans (final10 m c),
        h11.trans (final11 m c), hr⟩) (run_blocks m g),
    (θ_run _ _ _).mono (fun _ h c => by
      obtain ⟨h7, h8, h9, h10, h11, hr⟩ := h c
      obtain ⟨e0, e1, e2, e3⟩ := hag c
      have hz : argZ (launchContents m' c) = m ((c : Thread nD τ).loc main_arg0) := e0
      have hd : argD (launchContents m' c) = m ((c : Thread nD τ).loc main_arg1) := e1
      have hw : argW (launchContents m' c) = m ((c : Thread nD τ).loc main_arg2) := e2
      have hb : argB (launchContents m' c) = m ((c : Thread nD τ).loc main_arg3) := e3
      refine ⟨h7.trans ?_, h8.trans ?_, h9.trans ?_, h10.trans ?_, h11.trans ?_, hr⟩
      · funext j
        obtain ⟨r, l, rfl⟩ : ∃ r l, j = ix2 r l := ⟨j 0, j 1, array_ix j⟩
        exact (dz_at (launchContents m' c) r l Cert.ReferenceIdeal.Gen.slices_S4098x5632_S4096x5632_2_0).trans
          (by rw [hz, hd, hw, hb]; rfl)
      · funext j
        obtain ⟨l, rfl⟩ : ∃ l, j = ix2 0 l := ⟨j 1, row_ix j⟩
        exact (db_at (launchContents m' c) l).trans (by rw [hz, hd, hw, hb]; rfl)
      · funext j
        obtain ⟨l, rfl⟩ : ∃ l, j = ix2 0 l := ⟨j 1, row_ix j⟩
        refine Eq.trans ?_ ((dw_at0 (launchContents m' c) l).trans ?_)
        · pointwise!
        · rw [hz, hd, hw, hb]; rfl
      · funext j
        obtain ⟨l, rfl⟩ : ∃ l, j = ix2 0 l := ⟨j 1, row_ix j⟩
        refine Eq.trans ?_ ((dw_at1 (launchContents m' c) l).trans ?_)
        · pointwise!
        · rw [hz, hd, hw, hb]; rfl
      · funext j
        obtain ⟨l, rfl⟩ : ∃ l, j = ix2 0 l := ⟨j 1, row_ix j⟩
        refine Eq.trans ?_ ((dw_at2 (launchContents m' c) l).trans ?_)
        · pointwise!
        · rw [hz, hd, hw, hb]; rfl) (Cert.ReferenceIdeal.Value.run m' g')⟩

end Cert.Grad.Conv

end
-- ==== Proof.Products.lean ====
/-
  The three products of a training step as sums over the extended reals: what a call that multiplies matrices, and the
  derivative of a plain product that it is compared with, are both brought to.
-/
module

public import Idealize.ShloMosaic.Lib.Pointwise
public import Idealize.ShloMosaic.Lib.Pipeline.ReadBack
public import Idealize.ShloMosaic.Lib.Pipeline.ValueKit.Acc
public import Idealize.ShloMosaic.Lib.Pipeline.ValueKit.Geometry

@[expose] public section

noncomputable section

open scoped BigOperators

namespace Cert.Products

open Idealize.ShloMosaic

/-- `xᵀ · y`, the sum over the rows of both operands: the gradient of a weight. -/
def overRows {K M N : ℕ} (x : (⟨2, ![K, M]⟩ : Shape).Idx → EReal) (y : (⟨2, ![K, N]⟩ : Shape).Idx → EReal) :
    (⟨2, ![M, N]⟩ : Shape).Idx → EReal := fun j => ∑ k : Fin K, x (ix2 k (j 0)) * y (ix2 k (j 1))
/-- `x · yᵀ`, the sum over the columns of both operands: the gradient of an input. -/
def overColumns {K M N : ℕ} (x : (⟨2, ![M, K]⟩ : Shape).Idx → EReal) (y : (⟨2, ![N, K]⟩ : Shape).Idx → EReal) :
    (⟨2, ![M, N]⟩ : Shape).Idx → EReal := fun j => ∑ k : Fin K, x (ix2 (j 0) k) * y (ix2 (j 1) k)
/-- `x · y`, the plain product. -/
def plain {K M N : ℕ} (x : (⟨2, ![M, K]⟩ : Shape).Idx → EReal) (y : (⟨2, ![K, N]⟩ : Shape).Idx → EReal) :
    (⟨2, ![M, N]⟩ : Shape).Idx → EReal := fun j => ∑ k : Fin K, x (ix2 (j 0) k) * y (ix2 k (j 1))

end Cert.Products

end
-- ==== Proof.UpDx.lean ====
/-
  The gradient of the up projection's input, `dz · wᵀ`: the call keeps the whole weight at hand and computes 512 rows at a
  point. Over the extended reals the array it leaves is that product.
-/
module

public import proofs.«01_k».proof.Proof.Products
public import proofs.«01_k».proof.Proof.Gen.UpDxIdeal.Value
public import proofs.«01_k».proof.Proof.Gen.RefUpDxIdeal.Run
public import proofs.«01_k».proof.Defs

@[expose] public section

noncomputable section

open scoped BigOperators

namespace Cert.Grad.UpDx

open Cert.UpDxIdeal Cert.UpDxIdeal.Gen Cert.UpDxIdeal.Value
open Idealize.ShloMosaic Idealize.ShloMosaic.TcCoe Idealize.SL.Sem

variable (m : (ℓ : Loc nD τ sig) → Buf (Elt Ideal) ℓ)

/-- One point's block. -/
theorem step (x : Vec Ideal S512x5632 .bf16) (y : Vec Ideal S1024x5632 .bf16) (j : S512x1024.Idx) :
    k0_pay1 (F := Ideal) x y j = ∑ k : Fin 5632, x (ix2 (j 0) k) * y (ix2 (j 1) k) := by
  pointwise [k0_pay1]

/-- The blocks that the windows name at a point. -/
theorem idx : ∀ t : Fin cfg0.N, win0_0.index t = ![t.val, 0] ∧ win0_1.index t = ![0, 0] ∧ win0_2.index t = ![t.val, 0] := by
  decide +kernel

/-- **The call's array**: row `i` of the gradient against row `j` of the weight. -/
theorem final (c : Dev nD) : (dats m 0 c).arrAt 2 cfg0.N
    = Products.overColumns (K := 5632) (M := 4096) (N := 1024) (m ((c : Thread nD τ).loc main_arg1))
        (m ((c : Thread nD τ).loc main_arg0)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- **The call computes the derivative of the product with respect to its input.** -/
theorem algebraic : Cert.algebraic_UpDxIdeal_RefUpDxIdeal := fun m g m' g' _ hag =>
  ⟨fun c => Products.overColumns (K := 5632) (M := 4096) (N := 1024) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overColumns]), (h c).2⟩) (Cert.RefUpDxIdeal.Value.run m' g')⟩

end Cert.Grad.UpDx

end
-- ==== Proof.UpDw.lean ====
/-
  The gradient of the up projection's weight, `h2ᵀ · dz`: the call walks the rows in four blocks of 1024 for each block of
  1408 columns, keeping the running sum in a scratch buffer that the first of the four points zeroes and the last writes
  back. Over the extended reals the array it leaves is the sum over all 4096 rows.
-/
module

public import proofs.«01_k».proof.Proof.Products
public import proofs.«01_k».proof.Proof.Gen.UpDwIdeal.Value
public import proofs.«01_k».proof.Proof.Gen.RefUpDwIdeal.Run
public import proofs.«01_k».proof.Defs

@[expose] public section

noncomputable section

open scoped BigOperators

namespace Cert.Grad.UpDw

open Cert.UpDwIdeal Cert.UpDwIdeal.Gen Cert.UpDwIdeal.Value
open Idealize.ShloMosaic Idealize.ShloMosaic.TcCoe Idealize.SL.Sem

variable (m : (ℓ : Loc nD τ sig) → Buf (Elt Ideal) ℓ)

/-- One point's contribution to the running sum. -/
theorem step (acc : Vec Ideal S1024x1408 .f32) (x : Vec Ideal S1024x1024 .bf16) (y : Vec Ideal S1024x1408 .bf16)
    (j : S1024x1408.Idx) :
    k0_pay2 (F := Ideal) acc x y j = acc j + ∑ k : Fin 1024, x (ix2 k (j 0)) * y (ix2 k (j 1)) := by
  pointwise [k0_pay2]

/-- The block the first point of a run stores before it adds: zero. -/
theorem start (j : S1024x1408.Idx) : k0_pay1 (F := Ideal) j = 0 := by
  pointwise [k0_pay1]

/-- The blocks that the windows name at a point. -/
theorem idx : ∀ t : Fin cfg0.N, win0_0.index t = ![t.val % 4, 0] ∧ win0_1.index t = ![t.val % 4, t.val / 4]
    ∧ win0_2.index t = ![0, t.val / 4] := by
  decide +kernel

/-- At the last point of a run the output's block is the running sum. -/
theorem out_eq (c : Dev nD) (t : Fin cfg0.N) (h3 : t.val % 4 = 3) :
    (outsAt0 m c t.val t.isLt).1 = (outsAt0 m c t.val t.isLt).2 := by
  rw [outsAt0_C m c t (by omega) h3]
  frame_out

/-- **The call's array**: at `(i, j)` the sum over all 4096 rows of the products of column `i` of the first operand with
    column `j` of the second. -/
theorem final (c : Dev nD) : (dats m 0 c).arrAt 2 cfg0.N
    = Products.overRows (K := 4096) (M := 1024) (N := 5632) (m ((c : Thread nD τ).loc main_arg0))
        (m ((c : Thread nD τ).loc main_arg1)) := by
  refine (dats m 0 c).arrAt_eq_of_covers 2 _ (by decide +kernel) fun t hf j => ?_
  have h3 := (flush0_2 t).mp hf
  blk_simp
  rw [after0_2, out_eq m c t h3]
  rw [Pipeline.eq_sum_fin_of_reset_step_apply_of_flush (fun n h => (outsAt0 m c n h).2) 4 (fun _ => (0 : EReal)) _
    (fun t h j => by
      rw [outsAt0_A m c t h (by omega)]; frame_out; rw [step, start])
    (fun t h j => by
      by_cases h3 : t.val % 4 = 3
      · rw [outsAt0_C m c t h h3]; frame_out; rw [step, read_unread_whole]
      · rw [outsAt0_B m c t h h3]; frame_out; rw [step, read_unread_whole]) t h3 j, zero_add]
  refine Fin.sum_mul_add_congr fun s k hl => ?_
  have h4 : (4 * (t.val / 4) + s.val) % 4 = s.val := by omega
  congr 1 <;> blk_ext [iblk, V, idx, h4]

/-- **The call computes the derivative of the product with respect to its weight.** -/
theorem algebraic : Cert.algebraic_UpDwIdeal_RefUpDwIdeal := fun m g m' g' _ hag =>
  ⟨fun c => Products.overRows (K := 4096) (M := 1024) (N := 5632) (m ((c : Thread nD τ).loc main_arg0))
      (m ((c : Thread nD τ).loc main_arg1)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overRows]), (h c).2⟩) (Cert.RefUpDwIdeal.Value.run m' g')⟩

end Cert.Grad.UpDw

end
-- ==== Proof.DownDx.lean ====
module

public import proofs.«01_k».proof.Proof.Products
public import proofs.«01_k».proof.Proof.Gen.DownDxIdeal.Value
public import proofs.«01_k».proof.Proof.Gen.RefDownDxIdeal.Run
public import proofs.«01_k».proof.Defs

@[expose] public section

noncomputable section

open scoped BigOperators

/-! The gradient of the down-projection's input: `df · w_downᵀ`, eight blocks of 512 rows. -/

namespace Cert.Grad.DownDx

open Cert.DownDxIdeal Cert.DownDxIdeal.Gen Cert.DownDxIdeal.Value
open Idealize.ShloMosaic Idealize.ShloMosaic.TcCoe Idealize.SL.Sem

variable (m : (ℓ : Loc nD τ sig) → Buf (Elt Ideal) ℓ)

/-- What one grid point computes from its 512 rows and the whole weight. -/
theorem step (x : Vec Ideal S512x1024 .bf16) (y : Vec Ideal S2816x1024 .bf16) (j : S512x2816.Idx) :
    k0_pay1 (F := Ideal) x y j = ∑ k : Fin 1024, x (ix2 (j 0) k) * y (ix2 (j 1) k) := by
  pointwise [k0_pay1]

/-- The blocks of one grid point. -/
theorem idx : ∀ t : Fin cfg0.N, win0_0.index t = ![t.val, 0] ∧ win0_1.index t = ![0, 0] ∧ win0_2.index t = ![t.val, 0] := by
  decide +kernel

/-- The whole result. -/
theorem final (c : Dev nD) : (dats m 0 c).arrAt 2 cfg0.N
    = Products.overColumns (K := 1024) (M := 4096) (N := 2816) (m ((c : Thread nD τ).loc main_arg1))
      (m ((c : Thread nD τ).loc main_arg0)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- The call computes the derivative of the product with respect to its rows. -/
theorem algebraic : Cert.algebraic_DownDxIdeal_RefDownDxIdeal := fun m g m' g' _ hag =>
  ⟨fun c => Products.overColumns (K := 1024) (M := 4096) (N := 2816) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overColumns]), (h c).2⟩)
      (Cert.RefDownDxIdeal.Value.run m' g')⟩

end Cert.Grad.DownDx

end
-- ==== Proof.DownDw.lean ====
module

public import proofs.«01_k».proof.Proof.Products
public import proofs.«01_k».proof.Proof.Gen.DownDwIdeal.Value
public import proofs.«01_k».proof.Proof.Gen.RefDownDwIdeal.Run
public import proofs.«01_k».proof.Defs

@[expose] public section

noncomputable section

open scoped BigOperators

/-! The gradient of the down-projection's weight: `actᵀ · df`, two halves of 1408 rows, each summed over four blocks
of 1024 rows of the tokens. -/

namespace Cert.Grad.DownDw

open Cert.DownDwIdeal Cert.DownDwIdeal.Gen Cert.DownDwIdeal.Value
open Idealize.ShloMosaic Idealize.ShloMosaic.TcCoe Idealize.SL.Sem

variable (m : (ℓ : Loc nD τ sig) → Buf (Elt Ideal) ℓ)

/-- One grid point adds the products of its 1024 rows to the accumulator. -/
theorem step (acc : Vec Ideal S1408x1024 .f32) (x : Vec Ideal S1024x1408 .bf16) (y : Vec Ideal S1024x1024 .bf16)
    (j : S1408x1024.Idx) :
    k0_pay2 (F := Ideal) acc x y j = acc j + ∑ k : Fin 1024, x (ix2 k (j 0)) * y (ix2 k (j 1)) := by
  pointwise [k0_pay2]

/-- The accumulator starts from zero. -/
theorem start (j : S1408x1024.Idx) : k0_pay1 (F := Ideal) j = 0 := by
  pointwise [k0_pay1]

/-- The blocks of one grid point. -/
theorem idx : ∀ t : Fin cfg0.N, win0_0.index t = ![t.val % 4, t.val / 4] ∧ win0_1.index t = ![t.val % 4, 0]
    ∧ win0_2.index t = ![t.val / 4, 0] := by
  decide +kernel

/-- At the last point of a run the block written out is the accumulator. -/
theorem out_eq (c : Dev nD) (t : Fin cfg0.N) (h3 : t.val % 4 = 3) :
    (outsAt0 m c t.val t.isLt).1 = (outsAt0 m c t.val t.isLt).2 := by
  rw [outsAt0_C m c t (by omega) h3]; frame_out

/-- The whole result: the columns of the first operand against those of the second, summed over the rows. -/
theorem final (c : Dev nD) : (dats m 0 c).arrAt 2 cfg0.N
    = Products.overRows (K := 4096) (M := 2816) (N := 1024) (m ((c : Thread nD τ).loc main_arg0))
      (m ((c : Thread nD τ).loc main_arg1)) := by
  refine (dats m 0 c).arrAt_eq_of_covers 2 _ (by decide +kernel) fun t hf j => ?_
  have h3 := (flush0_2 t).mp hf
  blk_simp
  rw [after0_2, out_eq m c t h3]
  rw [Pipeline.eq_sum_fin_of_reset_step_apply_of_flush (fun n h => (outsAt0 m c n h).2) 4 (fun _ => (0 : EReal)) _
    (fun t h j => by rw [outsAt0_A m c t h (by omega)]; frame_out; rw [step, start])
    (fun t h j => by
      by_cases h3 : t.val % 4 = 3
      · rw [outsAt0_C m c t h h3]; frame_out; rw [step, read_unread_whole]
      · rw [outsAt0_B m c t h h3]; frame_out; rw [step, read_unread_whole]) t h3 j, zero_add]
  refine Fin.sum_mul_add_congr fun s k hl => ?_
  have h4 : (4 * (t.val / 4) + s.val) % 4 = s.val := by omega
  have h5 : (4 * (t.val / 4) + s.val) / 4 = t.val / 4 := by omega
  congr 1 <;> blk_ext [iblk, V, idx, h4, h5]

/-- The call computes the derivative of the product with respect to its weight. -/
theorem algebraic : Cert.algebraic_DownDwIdeal_RefDownDwIdeal := fun m g m' g' _ hag =>
  ⟨fun c => Products.overRows (K := 4096) (M := 2816) (N := 1024) (m ((c : Thread nD τ).loc main_arg0))
      (m ((c : Thread nD τ).loc main_arg1)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overRows]), (h c).2⟩)
      (Cert.RefDownDwIdeal.Value.run m' g')⟩

end Cert.Grad.DownDw

end
-- ==== Proof.InDx.lean ====
module

public import proofs.«01_k».proof.Proof.Products
public import proofs.«01_k».proof.Proof.Gen.InDxIdeal.Value
public import proofs.«01_k».proof.Proof.Gen.RefInDxIdeal.Run
public import proofs.«01_k».proof.Defs

@[expose] public section

noncomputable section

open scoped BigOperators

/-! The gradient of the input projection's input: `dproj · w_inᵀ` with the weight kept transposed, eight blocks of 512
rows. -/

namespace Cert.Grad.InDx

open Cert.InDxIdeal Cert.InDxIdeal.Gen Cert.InDxIdeal.Value
open Idealize.ShloMosaic Idealize.ShloMosaic.TcCoe Idealize.SL.Sem

variable (m : (ℓ : Loc nD τ sig) → Buf (Elt Ideal) ℓ)

/-- What one grid point computes from its 512 rows and the whole weight. -/
theorem step (x : Vec Ideal S512x4352 .bf16) (y : Vec Ideal S4352x1024 .bf16) (j : S512x1024.Idx) :
    k0_pay1 (F := Ideal) x y j = ∑ k : Fin 4352, x (ix2 (j 0) k) * y (ix2 k (j 1)) := by
  pointwise [k0_pay1]

/-- The blocks of one grid point. -/
theorem idx : ∀ t : Fin cfg0.N, win0_0.index t = ![t.val, 0] ∧ win0_1.index t = ![0, 0] ∧ win0_2.index t = ![t.val, 0] := by
  decide +kernel

/-- The whole result. -/
theorem final (c : Dev nD) : (dats m 0 c).arrAt 2 cfg0.N
    = Products.plain (K := 4352) (M := 4096) (N := 1024) (m ((c : Thread nD τ).loc main_arg1))
      (m ((c : Thread nD τ).loc main_arg0)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- The call computes the derivative of the product with respect to its rows. -/
theorem algebraic : Cert.algebraic_InDxIdeal_RefInDxIdeal := fun m g m' g' _ hag =>
  ⟨fun c => Products.plain (K := 4352) (M := 4096) (N := 1024) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.plain]), (h c).2⟩)
      (Cert.RefInDxIdeal.Value.run m' g')⟩

end Cert.Grad.InDx

end
-- ==== Proof.InDw.lean ====
module

public import proofs.«01_k».proof.Proof.Products
public import proofs.«01_k».proof.Proof.Gen.InDwIdeal.Value
public import proofs.«01_k».proof.Proof.Gen.RefInDwIdeal.Run
public import proofs.«01_k».proof.Defs

@[expose] public section

noncomputable section

open scoped BigOperators

/-! The gradient of the input projection's weight, which is kept transposed: `dprojᵀ · h1`, four blocks, each summed
over four blocks of 1024 rows of the tokens. -/

namespace Cert.Grad.InDw

open Cert.InDwIdeal Cert.InDwIdeal.Gen Cert.InDwIdeal.Value
open Idealize.ShloMosaic Idealize.ShloMosaic.TcCoe Idealize.SL.Sem

variable (m : (ℓ : Loc nD τ sig) → Buf (Elt Ideal) ℓ)

/-- One grid point adds the products of its 1024 rows to the accumulator. -/
theorem step (acc : Vec Ideal S2176x512 .f32) (x : Vec Ideal S1024x2176 .bf16) (y : Vec Ideal S1024x512 .bf16)
    (j : S2176x512.Idx) :
    k0_pay2 (F := Ideal) acc x y j = acc j + ∑ k : Fin 1024, x (ix2 k (j 0)) * y (ix2 k (j 1)) := by
  pointwise [k0_pay2]

/-- The accumulator starts from zero. -/
theorem start (j : S2176x512.Idx) : k0_pay1 (F := Ideal) j = 0 := by
  pointwise [k0_pay1]

/-- The blocks of one grid point. -/
theorem idx : ∀ t : Fin cfg0.N, win0_0.index t = ![t.val % 4, t.val / 4 / 2] ∧ win0_1.index t = ![t.val % 4, t.val / 4 % 2]
    ∧ win0_2.index t = ![t.val / 4 / 2, t.val / 4 % 2] := by
  decide +kernel

/-- At the last point of a run the block written out is the accumulator. -/
theorem out_eq (c : Dev nD) (t : Fin cfg0.N) (h3 : t.val % 4 = 3) :
    (outsAt0 m c t.val t.isLt).1 = (outsAt0 m c t.val t.isLt).2 := by
  rw [outsAt0_C m c t (by omega) h3]; frame_out

/-- The whole result: the columns of the first operand against those of the second, summed over the rows. -/
theorem final (c : Dev nD) : (dats m 0 c).arrAt 2 cfg0.N
    = Products.overRows (K := 4096) (M := 4352) (N := 1024) (m ((c : Thread nD τ).loc main_arg1))
      (m ((c : Thread nD τ).loc main_arg0)) := by
  refine (dats m 0 c).arrAt_eq_of_covers 2 _ (by decide +kernel) fun t hf j => ?_
  have h3 := (flush0_2 t).mp hf
  blk_simp
  rw [after0_2, out_eq m c t h3]
  rw [Pipeline.eq_sum_fin_of_reset_step_apply_of_flush (fun n h => (outsAt0 m c n h).2) 4 (fun _ => (0 : EReal)) _
    (fun t h j => by rw [outsAt0_A m c t h (by omega)]; frame_out; rw [step, start])
    (fun t h j => by
      by_cases h3 : t.val % 4 = 3
      · rw [outsAt0_C m c t h h3]; frame_out; rw [step, read_unread_whole]
      · rw [outsAt0_B m c t h h3]; frame_out; rw [step, read_unread_whole]) t h3 j, zero_add]
  refine Fin.sum_mul_add_congr fun s k hl => ?_
  have h4 : (4 * (t.val / 4) + s.val) % 4 = s.val := by omega
  have h5 : (4 * (t.val / 4) + s.val) / 4 = t.val / 4 := by omega
  congr 1 <;> blk_ext [iblk, V, idx, h4, h5]

/-- The call computes the derivative of the product with respect to its weight. -/
theorem algebraic : Cert.algebraic_InDwIdeal_RefInDwIdeal := fun m g m' g' _ hag =>
  ⟨fun c => Products.overRows (K := 4096) (M := 4352) (N := 1024) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overRows]), (h c).2⟩)
      (Cert.RefInDwIdeal.Value.run m' g')⟩

end Cert.Grad.InDw

end
-- ==== Proof.OutDx.lean ====
module

public import proofs.«01_k».proof.Proof.Products
public import proofs.«01_k».proof.Proof.Gen.OutDxIdeal.Value
public import proofs.«01_k».proof.Proof.Gen.RefOutDxIdeal.Run
public import proofs.«01_k».proof.Defs

@[expose] public section

noncomputable section

open scoped BigOperators

/-! The gradient of the output projection's input: `dmixed · w_outᵀ`, eight blocks of 512 rows. -/

namespace Cert.Grad.OutDx

open Cert.OutDxIdeal Cert.OutDxIdeal.Gen Cert.OutDxIdeal.Value
open Idealize.ShloMosaic Idealize.ShloMosaic.TcCoe Idealize.SL.Sem

variable (m : (ℓ : Loc nD τ sig) → Buf (Elt Ideal) ℓ)

/-- What one grid point computes from its 512 rows and the whole weight. -/
theorem step (x : Vec Ideal S512x1024 .bf16) (y : Vec Ideal S1024x1024 .bf16) (j : S512x1024.Idx) :
    k0_pay1 (F := Ideal) x y j = ∑ k : Fin 1024, x (ix2 (j 0) k) * y (ix2 (j 1) k) := by
  pointwise [k0_pay1]

/-- The blocks of one grid point. -/
theorem idx : ∀ t : Fin cfg0.N, win0_0.index t = ![t.val, 0] ∧ win0_1.index t = ![0, 0] ∧ win0_2.index t = ![t.val, 0] := by
  decide +kernel

/-- The whole result. -/
theorem final (c : Dev nD) : (dats m 0 c).arrAt 2 cfg0.N
    = Products.overColumns (K := 1024) (M := 4096) (N := 1024) (m ((c : Thread nD τ).loc main_arg1))
      (m ((c : Thread nD τ).loc main_arg0)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- The call computes the derivative of the product with respect to its rows. -/
theorem algebraic : Cert.algebraic_OutDxIdeal_RefOutDxIdeal := fun m g m' g' _ hag =>
  ⟨fun c => Products.overColumns (K := 1024) (M := 4096) (N := 1024) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overColumns]), (h c).2⟩)
      (Cert.RefOutDxIdeal.Value.run m' g')⟩

end Cert.Grad.OutDx

end
-- ==== Proof.OutDw.lean ====
module

public import proofs.«01_k».proof.Proof.Products
public import proofs.«01_k».proof.Proof.Gen.OutDwIdeal.Value
public import proofs.«01_k».proof.Proof.Gen.RefOutDwIdeal.Run
public import proofs.«01_k».proof.Defs

@[expose] public section

noncomputable section

open scoped BigOperators

/-! The gradient of the output projection's weight: `mergedᵀ · dmixed`, summed over four blocks of 1024 rows. -/

namespace Cert.Grad.OutDw

open Cert.OutDwIdeal Cert.OutDwIdeal.Gen Cert.OutDwIdeal.Value
open Idealize.ShloMosaic Idealize.ShloMosaic.TcCoe Idealize.SL.Sem

variable (m : (ℓ : Loc nD τ sig) → Buf (Elt Ideal) ℓ)

/-- One grid point adds the products of its 1024 rows to the accumulator. -/
theorem step (acc : Vec Ideal S1024x1024 .f32) (x : Vec Ideal S1024x1024 .bf16) (y : Vec Ideal S1024x1024 .bf16)
    (j : S1024x1024.Idx) :
    k0_pay2 (F := Ideal) acc x y j = acc j + ∑ k : Fin 1024, x (ix2 k (j 0)) * y (ix2 k (j 1)) := by
  pointwise [k0_pay2]

/-- The accumulator starts from zero. -/
theorem start (j : S1024x1024.Idx) : k0_pay1 (F := Ideal) j = 0 := by
  pointwise [k0_pay1]

/-- The blocks of one grid point. -/
theorem idx : ∀ t : Fin cfg0.N, win0_0.index t = ![t.val % 4, 0] ∧ win0_1.index t = ![t.val % 4, 0]
    ∧ win0_2.index t = ![0, 0] := by
  decide +kernel

/-- At the last point of a run the block written out is the accumulator. -/
theorem out_eq (c : Dev nD) (t : Fin cfg0.N) (h3 : t.val % 4 = 3) :
    (outsAt0 m c t.val t.isLt).1 = (outsAt0 m c t.val t.isLt).2 := by
  rw [outsAt0_C m c t (by omega) h3]; frame_out

/-- The whole result: the columns of the first operand against those of the second, summed over the rows. -/
theorem final (c : Dev nD) : (dats m 0 c).arrAt 2 cfg0.N
    = Products.overRows (K := 4096) (M := 1024) (N := 1024) (m ((c : Thread nD τ).loc main_arg0))
      (m ((c : Thread nD τ).loc main_arg1)) := by
  refine (dats m 0 c).arrAt_eq_of_covers 2 _ (by decide +kernel) fun t hf j => ?_
  have h3 := (flush0_2 t).mp hf
  blk_simp
  rw [after0_2, out_eq m c t h3]
  rw [Pipeline.eq_sum_fin_of_reset_step_apply_of_flush (fun n h => (outsAt0 m c n h).2) 4 (fun _ => (0 : EReal)) _
    (fun t h j => by rw [outsAt0_A m c t h (by omega)]; frame_out; rw [step, start])
    (fun t h j => by
      by_cases h3 : t.val % 4 = 3
      · rw [outsAt0_C m c t h h3]; frame_out; rw [step, read_unread_whole]
      · rw [outsAt0_B m c t h h3]; frame_out; rw [step, read_unread_whole]) t h3 j, zero_add]
  refine Fin.sum_mul_add_congr fun s k hl => ?_
  have h4 : (4 * (t.val / 4) + s.val) % 4 = s.val := by omega
  congr 1 <;> blk_ext [iblk, V, idx, h4]

/-- The call computes the derivative of the product with respect to its weight. -/
theorem algebraic : Cert.algebraic_OutDwIdeal_RefOutDwIdeal := fun m g m' g' _ hag =>
  ⟨fun c => Products.overRows (K := 4096) (M := 1024) (N := 1024) (m ((c : Thread nD τ).loc main_arg0))
      (m ((c : Thread nD τ).loc main_arg1)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overRows]), (h c).2⟩)
      (Cert.RefOutDwIdeal.Value.run m' g')⟩

end Cert.Grad.OutDw

end
-- ==== Proof.BrDx.lean ====
module

public import proofs.«01_k».proof.Proof.Products
public import proofs.«01_k».proof.Proof.Gen.BrDxIdeal.Value
public import proofs.«01_k».proof.Proof.Gen.RefBrDxIdeal.Run
public import proofs.«01_k».proof.Defs

@[expose] public section

noncomputable section

open scoped BigOperators

/-! The gradient of a branch's output (recurrent branch and state-space branch alike): `do · wᵀ`, eight blocks of 512
rows. -/

namespace Cert.Grad.BrDx

open Cert.BrDxIdeal Cert.BrDxIdeal.Gen Cert.BrDxIdeal.Value
open Idealize.ShloMosaic Idealize.ShloMosaic.TcCoe Idealize.SL.Sem

variable (m : (ℓ : Loc nD τ sig) → Buf (Elt Ideal) ℓ)

/-- What one grid point computes from its 512 rows and the whole weight. -/
theorem step (x : Vec Ideal S512x1024 .bf16) (y : Vec Ideal S512x1024 .bf16) (j : S512x512.Idx) :
    k0_pay1 (F := Ideal) x y j = ∑ k : Fin 1024, x (ix2 (j 0) k) * y (ix2 (j 1) k) := by
  pointwise [k0_pay1]

/-- The blocks of one grid point. -/
theorem idx : ∀ t : Fin cfg0.N, win0_0.index t = ![t.val, 0] ∧ win0_1.index t = ![0, 0] ∧ win0_2.index t = ![t.val, 0] := by
  decide +kernel

/-- The whole result. -/
theorem final (c : Dev nD) : (dats m 0 c).arrAt 2 cfg0.N
    = Products.overColumns (K := 1024) (M := 4096) (N := 512) (m ((c : Thread nD τ).loc main_arg1))
      (m ((c : Thread nD τ).loc main_arg0)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- The call computes the derivative of the product with respect to its rows. -/
theorem algebraic : Cert.algebraic_BrDxIdeal_RefBrDxIdeal := fun m g m' g' _ hag =>
  ⟨fun c => Products.overColumns (K := 1024) (M := 4096) (N := 512) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overColumns]), (h c).2⟩)
      (Cert.RefBrDxIdeal.Value.run m' g')⟩

end Cert.Grad.BrDx

end
-- ==== Proof.BrDw.lean ====
module

public import proofs.«01_k».proof.Proof.Products
public import proofs.«01_k».proof.Proof.Gen.BrDwIdeal.Value
public import proofs.«01_k».proof.Proof.Gen.RefBrDwIdeal.Run
public import proofs.«01_k».proof.Defs

@[expose] public section

noncomputable section

open scoped BigOperators

/-! The gradient of a branch's weight (recurrent branch and state-space branch alike): `oᵀ · do`, summed over four
blocks of 1024 rows. -/

namespace Cert.Grad.BrDw

open Cert.BrDwIdeal Cert.BrDwIdeal.Gen Cert.BrDwIdeal.Value
open Idealize.ShloMosaic Idealize.ShloMosaic.TcCoe Idealize.SL.Sem

variable (m : (ℓ : Loc nD τ sig) → Buf (Elt Ideal) ℓ)

/-- One grid point adds the products of its 1024 rows to the accumulator. -/
theorem step (acc : Vec Ideal S512x1024 .f32) (x : Vec Ideal S1024x512 .bf16) (y : Vec Ideal S1024x1024 .bf16)
    (j : S512x1024.Idx) :
    k0_pay2 (F := Ideal) acc x y j = acc j + ∑ k : Fin 1024, x (ix2 k (j 0)) * y (ix2 k (j 1)) := by
  pointwise [k0_pay2]

/-- The accumulator starts from zero. -/
theorem start (j : S512x1024.Idx) : k0_pay1 (F := Ideal) j = 0 := by
  pointwise [k0_pay1]

/-- The blocks of one grid point. -/
theorem idx : ∀ t : Fin cfg0.N, win0_0.index t = ![t.val % 4, 0] ∧ win0_1.index t = ![t.val % 4, 0]
    ∧ win0_2.index t = ![0, 0] := by
  decide +kernel

/-- At the last point of a run the block written out is the accumulator. -/
theorem out_eq (c : Dev nD) (t : Fin cfg0.N) (h3 : t.val % 4 = 3) :
    (outsAt0 m c t.val t.isLt).1 = (outsAt0 m c t.val t.isLt).2 := by
  rw [outsAt0_C m c t (by omega) h3]; frame_out

/-- The whole result: the columns of the first operand against those of the second, summed over the rows. -/
theorem final (c : Dev nD) : (dats m 0 c).arrAt 2 cfg0.N
    = Products.overRows (K := 4096) (M := 512) (N := 1024) (m ((c : Thread nD τ).loc main_arg0))
      (m ((c : Thread nD τ).loc main_arg1)) := by
  refine (dats m 0 c).arrAt_eq_of_covers 2 _ (by decide +kernel) fun t hf j => ?_
  have h3 := (flush0_2 t).mp hf
  blk_simp
  rw [after0_2, out_eq m c t h3]
  rw [Pipeline.eq_sum_fin_of_reset_step_apply_of_flush (fun n h => (outsAt0 m c n h).2) 4 (fun _ => (0 : EReal)) _
    (fun t h j => by rw [outsAt0_A m c t h (by omega)]; frame_out; rw [step, start])
    (fun t h j => by
      by_cases h3 : t.val % 4 = 3
      · rw [outsAt0_C m c t h h3]; frame_out; rw [step, read_unread_whole]
      · rw [outsAt0_B m c t h h3]; frame_out; rw [step, read_unread_whole]) t h3 j, zero_add]
  refine Fin.sum_mul_add_congr fun s k hl => ?_
  have h4 : (4 * (t.val / 4) + s.val) % 4 = s.val := by omega
  congr 1 <;> blk_ext [iblk, V, idx, h4]

/-- The call computes the derivative of the product with respect to its weight. -/
theorem algebraic : Cert.algebraic_BrDwIdeal_RefBrDwIdeal := fun m g m' g' _ hag =>
  ⟨fun c => Products.overRows (K := 4096) (M := 512) (N := 1024) (m ((c : Thread nD τ).loc main_arg0))
      (m ((c : Thread nD τ).loc main_arg1)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overRows]), (h c).2⟩)
      (Cert.RefBrDwIdeal.Value.run m' g')⟩

end Cert.Grad.BrDw

end
-- ==== Proof.GluDx.lean ====
module

public import proofs.«01_k».proof.Proof.Products
public import proofs.«01_k».proof.Proof.Gen.GluDxIdeal.Value
public import proofs.«01_k».proof.Proof.Gen.RefGluDxIdeal.Run
public import proofs.«01_k».proof.Defs

@[expose] public section

noncomputable section

open scoped BigOperators

/-! The gradient of the gate's input in the state-space branch: `dz2 · w_gluᵀ`, eight blocks of 512 rows. -/

namespace Cert.Grad.GluDx

open Cert.GluDxIdeal Cert.GluDxIdeal.Gen Cert.GluDxIdeal.Value
open Idealize.ShloMosaic Idealize.ShloMosaic.TcCoe Idealize.SL.Sem

variable (m : (ℓ : Loc nD τ sig) → Buf (Elt Ideal) ℓ)

/-- What one grid point computes from its 512 rows and the whole weight. -/
theorem step (x : Vec Ideal S512x512 .bf16) (y : Vec Ideal S512x512 .bf16) (j : S512x512.Idx) :
    k0_pay1 (F := Ideal) x y j = ∑ k : Fin 512, x (ix2 (j 0) k) * y (ix2 (j 1) k) := by
  pointwise [k0_pay1]

/-- The blocks of one grid point. -/
theorem idx : ∀ t : Fin cfg0.N, win0_0.index t = ![t.val, 0] ∧ win0_1.index t = ![0, 0] ∧ win0_2.index t = ![t.val, 0] := by
  decide +kernel

/-- The whole result. -/
theorem final (c : Dev nD) : (dats m 0 c).arrAt 2 cfg0.N
    = Products.overColumns (K := 512) (M := 4096) (N := 512) (m ((c : Thread nD τ).loc main_arg1))
      (m ((c : Thread nD τ).loc main_arg0)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- The call computes the derivative of the product with respect to its rows. -/
theorem algebraic : Cert.algebraic_GluDxIdeal_RefGluDxIdeal := fun m g m' g' _ hag =>
  ⟨fun c => Products.overColumns (K := 512) (M := 4096) (N := 512) (m ((c : Thread nD τ).loc main_arg1))
      (m ((c : Thread nD τ).loc main_arg0)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overColumns]), (h c).2⟩)
      (Cert.RefGluDxIdeal.Value.run m' g')⟩

end Cert.Grad.GluDx

end
-- ==== Proof.GluDw.lean ====
module

public import proofs.«01_k».proof.Proof.Products
public import proofs.«01_k».proof.Proof.Gen.GluDwIdeal.Value
public import proofs.«01_k».proof.Proof.Gen.RefGluDwIdeal.Run
public import proofs.«01_k».proof.Defs

@[expose] public section

noncomputable section

open scoped BigOperators

/-! The gradient of the gate's weight in the state-space branch: `ygᵀ · dz2`, summed over eight blocks of 512 rows. -/

namespace Cert.Grad.GluDw

open Cert.GluDwIdeal Cert.GluDwIdeal.Gen Cert.GluDwIdeal.Value
open Idealize.ShloMosaic Idealize.ShloMosaic.TcCoe Idealize.SL.Sem

variable (m : (ℓ : Loc nD τ sig) → Buf (Elt Ideal) ℓ)

/-- One grid point adds the products of its 512 rows to the accumulator. -/
theorem step (acc : Vec Ideal S512x512 .f32) (x : Vec Ideal S512x512 .f32) (y : Vec Ideal S512x512 .bf16)
    (j : S512x512.Idx) :
    k0_pay2 (F := Ideal) acc x y j = acc j + ∑ k : Fin 512, x (ix2 k (j 0)) * y (ix2 k (j 1)) := by
  pointwise [k0_pay2]

/-- The accumulator starts from zero. -/
theorem start (j : S512x512.Idx) : k0_pay1 (F := Ideal) j = 0 := by
  pointwise [k0_pay1]

/-- The blocks of one grid point. -/
theorem idx : ∀ t : Fin cfg0.N, win0_0.index t = ![t.val % 8, 0] ∧ win0_1.index t = ![t.val % 8, 0]
    ∧ win0_2.index t = ![0, 0] := by
  decide +kernel

/-- At the last point of a run the block written out is the accumulator. -/
theorem out_eq (c : Dev nD) (t : Fin cfg0.N) (h3 : t.val % 8 = 7) :
    (outsAt0 m c t.val t.isLt).1 = (outsAt0 m c t.val t.isLt).2 := by
  rw [outsAt0_C m c t (by omega) h3]; frame_out

/-- The whole result: the columns of the first operand against those of the second, summed over the rows. -/
theorem final (c : Dev nD) : (dats m 0 c).arrAt 2 cfg0.N
    = Products.overRows (K := 4096) (M := 512) (N := 512) (m ((c : Thread nD τ).loc main_arg0))
      (m ((c : Thread nD τ).loc main_arg1)) := by
  refine (dats m 0 c).arrAt_eq_of_covers 2 _ (by decide +kernel) fun t hf j => ?_
  have h3 := (flush0_2 t).mp hf
  blk_simp
  rw [after0_2, out_eq m c t h3]
  rw [Pipeline.eq_sum_fin_of_reset_step_apply_of_flush (fun n h => (outsAt0 m c n h).2) 8 (fun _ => (0 : EReal)) _
    (fun t h j => by rw [outsAt0_A m c t h (by omega)]; frame_out; rw [step, start])
    (fun t h j => by
      by_cases h3 : t.val % 8 = 7
      · rw [outsAt0_C m c t h h3]; frame_out; rw [step, read_unread_whole]
      · rw [outsAt0_B m c t h h3]; frame_out; rw [step, read_unread_whole]) t h3 j, zero_add]
  refine Fin.sum_mul_add_congr fun s k hl => ?_
  have h4 : (8 * (t.val / 8) + s.val) % 8 = s.val := by omega
  congr 1 <;> blk_ext [iblk, V, idx, h4]

/-- The call computes the derivative of the product with respect to its weight. -/
theorem algebraic : Cert.algebraic_GluDwIdeal_RefGluDwIdeal := fun m g m' g' _ hag =>
  ⟨fun c => Products.overRows (K := 4096) (M := 512) (N := 512) (m ((c : Thread nD τ).loc main_arg0))
      (m ((c : Thread nD τ).loc main_arg1)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.overRows]), (h c).2⟩)
      (Cert.RefGluDwIdeal.Value.run m' g')⟩

end Cert.Grad.GluDw

end
-- ==== Proof.Down.lean ====
module

public import proofs.«01_k».proof.Proof.Products
public import proofs.«01_k».proof.Proof.Gen.DownIdeal.Value
public import proofs.«01_k».proof.Proof.Gen.RefDownIdeal.Run
public import proofs.«01_k».proof.Defs

@[expose] public section

noncomputable section

open scoped BigOperators

/-! The down-projection: `act · w_down`, eight blocks of 512 rows. -/

namespace Cert.Grad.Down

open Cert.DownIdeal Cert.DownIdeal.Gen Cert.DownIdeal.Value
open Idealize.ShloMosaic Idealize.ShloMosaic.TcCoe Idealize.SL.Sem

variable (m : (ℓ : Loc nD τ sig) → Buf (Elt Ideal) ℓ)

/-- What one grid point computes from its 512 rows and the whole weight. -/
theorem step (x : Vec Ideal S512x2816 .bf16) (y : Vec Ideal S2816x1024 .bf16) (j : S512x1024.Idx) :
    k0_pay1 (F := Ideal) x y j = ∑ k : Fin 2816, x (ix2 (j 0) k) * y (ix2 k (j 1)) := by
  pointwise [k0_pay1]

/-- The blocks of one grid point. -/
theorem idx : ∀ t : Fin cfg0.N, win0_0.index t = ![t.val, 0] ∧ win0_1.index t = ![0, 0] ∧ win0_2.index t = ![t.val, 0] := by
  decide +kernel

/-- The whole result. -/
theorem final (c : Dev nD) : (dats m 0 c).arrAt 2 cfg0.N
    = Products.plain (K := 2816) (M := 4096) (N := 1024) (m ((c : Thread nD τ).loc main_arg0))
      (m ((c : Thread nD τ).loc main_arg1)) := by
  refine (dats m 0 c).arrAt_eq_of_covers 2 _ (by decide +kernel) fun t hf j => ?_
  blk_simp
  rw [after0_2]
  frame_out
  rw [step]
  refine Fin.sum_fin_congr fun k => ?_
  congr 1 <;> blk_ext [iblk, V, idx]

/-- The call computes the product. -/
theorem algebraic : Cert.algebraic_DownIdeal_RefDownIdeal := fun m g m' g' _ hag =>
  ⟨fun c => Products.plain (K := 2816) (M := 4096) (N := 1024) (m ((c : Thread nD τ).loc main_arg0))
      (m ((c : Thread nD τ).loc main_arg1)),
    (θ_run _ _ _).mono (fun _ h c => ⟨(h c).1.trans (final m c), (h c).2⟩) (run_blocks m g),
    (θ_run _ _ _).mono (fun _ h c => ⟨(h c).1.trans (by
      rw [(hag c).1, (hag c).2]; funext j; pointwise! [Products.plain]), (h c).2⟩)
      (Cert.RefDownIdeal.Value.run m' g')⟩

end Cert.Grad.Down

end
-- ==== Proof.Rows.lean ====
/-
  Calls that walk the 4096 rows of a device in eight blocks of 512: rows of arrays, and a row of sums that starts from
  zero at the first point and takes in one block at each.
-/
module

public import Idealize.ShloMosaic.Lib.Pointwise
public import Idealize.ShloMosaic.Lib.Pipeline.ReadBack
public import Idealize.ShloMosaic.Lib.Pipeline.ValueKit.Acc
public import Idealize.ShloMosaic.Lib.Pipeline.ValueKit.Geometry

@[expose] public section

noncomputable section

open scoped BigOperators

namespace Cert.Rows

open Idealize.ShloMosaic

/-- One row of an array. -/
def row {M N : ℕ} (x : (⟨2, ![M, N]⟩ : Shape).Idx → EReal) (r : Fin M) : Fin N → EReal := fun k => x (ix2 r k)

theorem row_apply {M N : ℕ} (x : (⟨2, ![M, N]⟩ : Shape).Idx → EReal) (r : Fin M) (k : Fin N) : row x r k = x (ix2 r k) := rfl

/-- The sums over the rows, column by column. -/
def columnSums {M N : ℕ} (x : (⟨2, ![M, N]⟩ : Shape).Idx → EReal) : (⟨2, ![1, N]⟩ : Shape).Idx → EReal :=
  fun j => ∑ r : Fin M, x (ix2 r (j 1))

/-- An index of a single row. -/
theorem single_ix {N : ℕ} (j : (⟨2, ![1, N]⟩ : Shape).Idx) : j = ix2 0 (j 1) := by
  funext k
  match k with
  | 0 => exact Subsingleton.elim (α := Fin 1) _ _
  | 1 => rfl

/-- Row `a` of the block at point `t`. -/
def tileRow {P : ℕ} (hP : P = 8) (t : Fin P) (a : Fin 512) : Fin 4096 :=
  ⟨512 * t.val + a.val, by have := t.isLt; omega⟩

/-- A row that starts from zero and takes in 512 rows a point holds, after the last point, the sum over all rows. -/
theorem acc_rows {ι : Type} {P : ℕ} (hP : P = 8) (f : (n : ℕ) → n < P → ι → EReal) (T : Fin 4096 → ι → EReal)
    (h0 : ∀ t : Fin P, t.val % 8 = 0 → ∀ j, f t.val t.isLt j = 0 + ∑ a : Fin 512, T (tileRow hP t a) j)
    (hs : ∀ t : Fin P, ¬t.val % 8 = 0 → ∀ j, f t.val t.isLt j
      = f (t.val - 1) (Nat.lt_of_le_of_lt (Nat.sub_le _ _) t.isLt) j + ∑ a : Fin 512, T (tileRow hP t a) j)
    (t : Fin P) (h7 : t.val % 8 = 7) (j : ι) :
    f t.val t.isLt j = ∑ r : Fin 4096, T r j := by
  rw [Pipeline.eq_sum_fin_of_reset_step_apply_of_flush f 8 (fun _ => (0 : EReal))
    (fun t j => ∑ a : Fin 512, T (tileRow hP t a) j) h0 hs t h7 j, zero_add]
  have ht := t.isLt
  refine Fin.sum_mul_add_congr fun s k hl => ?_
  congr 1
  refine Fin.ext ?_
  simp only [tileRow]
  omega

end Cert.Rows

end
-- ==== Proof.Norm.lean ====
/-
  The root-mean-square norm of a row of 1024, and its derivative: with respect to the row, and with respect to the gain
  before the sum over the rows.
-/
module

public import proofs.«01_k».proof.Proof.Rows

@[expose] public section

noncomputable section

open scoped BigOperators

namespace Cert.Norm

open Idealize.ShloMosaic Cert.Rows

/-- `1024`, the norm's epsilon and `-1/2`. -/
abbrev kN : EReal := Ideal.ofBits FTy.f32 1149239296#32
abbrev kE : EReal := Ideal.ofBits FTy.f32 897988541#32
abbrev kM : EReal := Ideal.ofBits FTy.f32 3204448256#32

/-- The mean of the squares, with the epsilon. -/
def meanSq (x : Fin 1024 → EReal) : EReal := Ideal.div (∑ k, x k * x k) kN + kE

/-- The row's scale. -/
def scale (x : Fin 1024 → EReal) : EReal := Ideal.rsqrt (meanSq x)

/-- The norm's row. -/
def rms (x g : Fin 1024 → EReal) (l : Fin 1024) : EReal := x l * scale x * g l

/-- What each entry's square receives, from the gradient `d` of the norm's row. -/
def squareGrad (x g d : Fin 1024 → EReal) : EReal :=
  Ideal.div ((∑ k, x k * (d k * g k)) * (kM * Ideal.div (scale x) (meanSq x))) kN

/-- The gradient of the row. -/
def rmsGrad (x g d : Fin 1024 → EReal) (l : Fin 1024) : EReal :=
  d l * g l * scale x + x l * squareGrad x g d + squareGrad x g d * x l

/-- The row's part of the gradient of the gain. -/
def gainGrad (x d : Fin 1024 → EReal) (l : Fin 1024) : EReal := x l * scale x * d l

/-- The norm of every row of an array. -/
def normRows {M : ℕ} (x : (⟨2, ![M, 1024]⟩ : Shape).Idx → EReal) (g : (⟨2, ![1, 1024]⟩ : Shape).Idx → EReal) :
    (⟨2, ![M, 1024]⟩ : Shape).Idx → EReal := fun j => rms (row x (j 0)) (row g 0) (j 1)

/-- The gradient of every row of an array. -/
def normGrad {M : ℕ} (x : (⟨2, ![M, 1024]⟩ : Shape).Idx → EReal) (g : (⟨2, ![1, 1024]⟩ : Shape).Idx → EReal)
    (d : (⟨2, ![M, 1024]⟩ : Shape).Idx → EReal) : (⟨2, ![M, 1024]⟩ : Shape).Idx → EReal :=
  fun j => rmsGrad (row x (j 0)) (row g 0) (row d (j 0)) (j 1)

/-- The gradient of the gain: the sum over the rows. -/
def gainSum {M : ℕ} (x d : (⟨2, ![M, 1024]⟩ : Shape).Idx → EReal) : (⟨2, ![1, 1024]⟩ : Shape).Idx → EReal :=
  fun j => ∑ r : Fin M, gainGrad (row x r) (row d r) (j 1)

end Cert.Norm

end
-- ==== Proof.HostNorm.lean ====
/-
  The norm and its derivative as the reference's host operations compute them, for an array of 4096 rows.
-/
module

public import proofs.«01_k».proof.Proof.Norm
public import proofs.«01_k».proof.Proof.Gen.RefNormMidIdeal.Run

@[expose] public section

noncomputable section

open scoped BigOperators

namespace Cert.HostNorm

open Cert.RefNormMidIdeal Cert.RefNormMidIdeal.Gen Cert.Rows Cert.Norm
open Idealize.ShloMosaic Idealize.ShloMosaic.TcCoe Idealize.SL.Sem

/-- The mean of the squares, with the epsilon, as a column. -/
def hMean (x : FVec Ideal S4096x1024 .f32) : FVec Ideal S4096x1 .f32 :=
  addf (Host.divf (broadcastInDim S4096x1 ![0] bcast_S4096_S4096x1_0 (Host.reduceAdd (mulf x x) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- The norm. -/
def hNorm (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (hMean x))))
    (broadcastInDim S4096x1024 ![0, 1] bcast_S1x1024_S4096x1024_0_1 g)

/-- The gradient of the norm's row, times the gain. -/
def hGained (d : FVec Ideal S4096x1024 .f32) (g : FVec Ideal S1x1024 .f32) : FVec Ideal S4096x1024 .f32 :=
  mulf d (broadcastInDim S4096x1024 ![0, 1] bcast_S1x1024_S4096x1024_0_1 g)

/-- What the squares receive. -/
def hSquare (x d : FVec Ideal S4096x1024 .f32) (g : FVec Ideal S1x1024 .f32) : FVec Ideal S4096x1024 .f32 :=
  broadcastInDim S4096x1024 ![0] bcast_S4096_S4096x1024_0 (Host.reduceAdd (Host.divf (mulf (shapeCast _ (Host.reduceAdd
    (mulf x (hGained d g)) (constant S_ .f32 0x00000000#32) reducesTo_S4096x1024_S4096_d1 h_S_) shapeCasts_S4096_S4096x1)
    (mulf (broadcastInDim S4096x1 ![] bcast_S_S4096x1 (constant S_ .f32 0xBF000000#32))
      (Host.divf (Host.rsqrt (hMean x)) (hMean x)))) (broadcastInDim S4096x1 ![] bcast_S_S4096x1
    (constant S_ .f32 0x44800000#32))) (constant S_ .f32 0x00000000#32) reducesTo_S4096x1_S4096_d1 h_S_)

/-- The gradient of the rows. -/
def hGrad (x d : FVec Ideal S4096x1024 .f32) (g : FVec Ideal S1x1024 .f32) : FVec Ideal S4096x1024 .f32 :=
  addf (addf (mulf (hGained d g) (broadcastInDim S4096x1024 ![0, 1] bcast_S4096x1_S4096x1024_0_1 (Host.rsqrt (hMean x))))
    (mulf x (hSquare x d g))) (mulf (hSquare x d g) x)

/-- The gradient of the gain. -/
def hGain (x d : FVec Ideal S4096x1024 .f32) : FVec Ideal S1x1024 .f32 :=
  shapeCast _ (Host.reduceAdd (mulf (mulf x (broadcastInDim S4096x1024 ![0, 1] bcast_S4096x1_S4096x1024_0_1
    (Host.rsqrt (hMean x)))) d) (constant S_ .f32 0x00000000#32) reducesTo_S4096x1024_S1024_d0 h_S_) shapeCasts_S1024_S1x1024

theorem hNorm_eq (x : FVec Ideal S4096x1024 .f32) (g : FVec Ideal S1x1024 .f32) : hNorm x g = normRows x g := by
  funext j
  unfold normRows rms scale meanSq
  pointwise [hNorm, hMean, row]

theorem hGrad_eq (x d : FVec Ideal S4096x1024 .f32) (g : FVec Ideal S1x1024 .f32) : hGrad x d g = normGrad x g d := by
  funext j
  unfold normGrad rmsGrad squareGrad scale meanSq
  pointwise [hGrad, hSquare, hGained, hMean, row]
  simp only [Finset.univ_unique, Finset.sum_const, Finset.card_singleton, one_smul]

theorem hGain_eq (x d : FVec Ideal S4096x1024 .f32) : hGain x d = gainSum x d := by
  funext j
  obtain ⟨l, rfl⟩ : ∃ l, j = ix2 0 l := ⟨j 1, single_ix j⟩
  unfold gainSum gainGrad scale meanSq
  pointwise [hGain, hMean, row]

end Cert.HostNorm

end
-- ==== Proof.NormMid.lean ====
/-
  The gradient of the two norms around the mixer's end: of the norm before the feed-forward, added to the residual's
  gradient, and of the norm after the mixer, which takes that sum; and the gains' gradients summed over the rows.
-/
module

public import proofs.«01_k».proof.Proof.HostNorm
public import proofs.«01_k».proof.Proof.Gen.NormMidIdeal.Value
public import proofs.«01_k».proof.Proof.Gen.RefNormMidIdeal.Run
public import proofs.«01_k».proof.Defs

@[expose] public section

noncomputable section

open scoped BigOperators

namespace Cert.Grad.NormMid

open Cert.NormMidIdeal Cert.NormMidIdeal.Gen Cert.NormMidIdeal.Value Cert.Rows Cert.Norm Cert.HostNorm
open Idealize.ShloMosaic Idealize.ShloMosaic.TcCoe Idealize.SL.Sem

variable (m : (ℓ : Loc nD τ sig) → Buf (Elt Ideal) ℓ)

/-- The gradient of the stream between the two norms. -/
def dx1 {M : ℕ} (x d0 d : (⟨2, ![M, 1024]⟩ : Shape).Idx → EReal) (g : (⟨2, ![1, 1024]⟩ : Shape).Idx → EReal) :
    (⟨2, ![M, 1024]⟩ : Shape).Idx → EReal := fun j => d0 j + normGrad x g d j

theorem pay7 (x d0 d : Vec Ideal S512x1024 .f32) (g : Vec Ideal S1x1024 .f32) :
    k0_pay7 (F := Ideal) d0 (k0_pay6 x d g) = dx1 x d0 d g := by
  funext j
  unfold dx1 normGrad rmsGrad squareGrad scale meanSq
  pointwise [k0_pay7, k0_pay6, k0_pay4, k0_pay3, row]
  simp only [Finset.univ_unique, Finset.sum_const, Finset.card_singleton, one_smul]

theorem pay11 (y d0 d : Vec Ideal S512x1024 .f32) (g : Vec Ideal S1x1024 .f32) (j : S512x1024.Idx) :
    k0_pay11 (F := Ideal) y d0 g d j = normGrad y g (k0_pay7 (F := Ideal) d0 d) j := by
  unfold normGrad rmsGrad squareGrad scale meanSq
  pointwise [k0_pay11, k0_pay9, k0_pay8, row]
  simp only [Finset.univ_unique, Finset.sum_const, Finset.card_singleton, one_smul]

theorem pay5 (x d : Vec Ideal S512x1024 .f32) (acc : Vec Ideal S1x1024 .f32) (j : S1x1024.Idx) :
    k0_pay2 (F := Ideal) (k0_pay5 x d) acc j = acc j + ∑ a : Fin 512, gainGrad (row x a) (row d a) (j 1) := by
  obtain ⟨l, rfl⟩ : ∃ l, j = ix2 0 l := ⟨j 1, single_ix j⟩
  unfold gainGrad scale meanSq
  pointwise [k0_pay2, k0_pay5, k0_pay4, k0_pay3, row]

theorem pay10 (y d0 d : Vec Ideal S512x1024 .f32) (acc : Vec Ideal S1x1024 .f32) (j : S1x1024.Idx) :
    k0_pay1 (F := Ideal) (k0_pay10 y d0 d) acc j
      = acc j + ∑ a : Fin 512, gainGrad (row y a) (row (k0_pay7 (F := Ideal) d0 d) a) (j 1) := by
  obtain ⟨l, rfl⟩ : ∃ l, j = ix2 0 l := ⟨j 1, single_ix j⟩
  unfold gainGrad scale meanSq
  pointwise [k0_pay1, k0_pay10, k0_pay9, k0_pay8, row]

theorem zero2 (j : S1x1024.Idx) : k0_pay12 (F := Ideal) j = 0 := by pointwise [k0_pay12]

theorem zero3 (j : S1x1024.Idx) : k0_pay13 (F := Ideal) j = 0 := by pointwise [k0_pay13]

/-- The blocks that the windows name at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] := by
  decide +kernel

theorem blk0 (c : Dev nD) (t : Fin cfg0.N) (a : Fin 512) : row (iblk m c 0 t) a
    = row (m ((c : Thread nD τ).loc main_arg0)) (tileRow rfl t a) := by
  funext k; blk_ext [iblk, V, idx, tileRow, row]

theorem blk1 (c : Dev nD) (t : Fin cfg0.N) (a : Fin 512) : row (iblk m c 1 t) a
    = row (m ((c : Thread nD τ).loc main_arg1)) (tileRow rfl t a) := by
  funext k; blk_ext [iblk, V, idx, tileRow, row]

theorem blk2 (c : Dev nD) (t : Fin cfg0.N) (a : Fin 512) (k : Fin 1024) : iblk m c 2 t (ix2 a k)
    = m ((c : Thread nD τ).loc main_arg2) (ix2 (tileRow rfl t a) k) := by
  blk_ext [iblk, V, idx, tileRow]

theorem blk3 (c : Dev nD) (t : Fin cfg0.N) (a : Fin 512) : row (iblk m c 3 t) a
    = row (m ((c : Thread nD τ).loc main_arg3)) (tileRow rfl t a) := by
  funext k; blk_ext [iblk, V, idx, tileRow, row]

theorem blk4 (c : Dev nD) (t : Fin cfg0.N) : row (iblk m c 4 t) 0 = row (m ((c : Thread nD τ).loc main_arg4)) 0 := by
  funext k; blk_ext [iblk, V, idx, row]

theorem blk5 (c : Dev nD) (t : Fin cfg0.N) : row (iblk m c 5 t) 0 = row (m ((c : Thread nD τ).loc main_arg5)) 0 := by
  funext k; blk_ext [iblk, V, idx, row]

/-- The gradient of the stream in the device's memory. -/
def D (c : Dev nD) : (⟨2, ![4096, 1024]⟩ : Shape).Idx → EReal :=
  dx1 (m ((c : Thread nD τ).loc main_arg0)) (m ((c : Thread nD τ).loc main_arg2)) (m ((c : Thread nD τ).loc main_arg3))
    (m ((c : Thread nD τ).loc main_arg5))

/-- A row of the block is the row of the array. -/
theorem blkD (c : Dev nD) (t : Fin cfg0.N) (a : Fin 512) :
    row (dx1 (M := 512) (iblk m c 0 t) (iblk m c 2 t) (iblk m c 3 t) (iblk m c 5 t)) a = row (D m c) (tileRow rfl t a) := by
  funext k
  simp only [D, dx1, normGrad, row_apply, ix2_0, ix2_1, blk0, blk2, blk3, blk5]

theorem out6 (c : Dev nD) (t : Fin cfg0.N) : (outsAt0 m c t.val t.isLt).1
    = k0_pay7 (F := Ideal) (iblk m c 2 t) (k0_pay6 (iblk m c 0 t) (iblk m c 3 t) (iblk m c 5 t)) := by
  funext j
  by_cases h0 : t.val % 8 = 0
  · rw [outsAt0_A m c t h0]; frame_out
  · rw [outsAt0_B m c t h0]; frame_out

theorem out7 (c : Dev nD) (t : Fin cfg0.N) : (outsAt0 m c t.val t.isLt).2.1
    = k0_pay11 (F := Ideal) (iblk m c 1 t) (iblk m c 2 t) (iblk m c 4 t)
        (k0_pay6 (iblk m c 0 t) (iblk m c 3 t) (iblk m c 5 t)) := by
  funext j
  by_cases h0 : t.val % 8 = 0
  · rw [outsAt0_A m c t h0]; frame_out
  · rw [outsAt0_B m c t h0]; frame_out

/-- **The array of the stream's gradient.** -/
theorem final6 (c : Dev nD) : (dats m 0 c).arrAt 6 cfg0.N = D m c := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (tileRow rfl t a) l := by blk_ext [idx, tileRow]
  rw [after0_6, out6, pay7, he]
  exact congrFun (blkD m c t a) l

/-- **The array of the mixer's gradient.** -/
theorem final7 (c : Dev nD) : (dats m 0 c).arrAt 7 cfg0.N
    = normGrad (m ((c : Thread nD τ).loc main_arg1)) (m ((c : Thread nD τ).loc main_arg4)) (D m c) := by
  refine (dats m 0 c).arrAt_eq_of_covers 7 _ (by decide +kernel) fun t hf j => ?_
  blk_simp
  obtain ⟨a, l, rfl⟩ : ∃ a l, j = ix2 a l := ⟨j 0, j 1, (ix2_eta j).symm⟩
  have he : (win0_7.blk t).view.emb (ix2 a l) = ix2 (tileRow rfl t a) l := by blk_ext [idx, tileRow]
  rw [after0_7, out7, pay11, pay7, he]
  simp only [normGrad, ix2_0, ix2_1, blk1, blk4, blkD]

/-- **The gradient of the gain after the mixer.** -/
theorem final8 (c : Dev nD) : (dats m 0 c).arrAt 8 cfg0.N = gainSum (m ((c : Thread nD τ).loc main_arg1)) (D m c) := by
  refine (dats m 0 c).arrAt_eq_of_covers 8 _ (by decide +kernel) fun t hf j => ?_
  have h1 : (win0_8.blk t).view.emb j 1 = j 1 := Fin.ext (by blk_simp [idx])
  have hr : ∀ (t : Fin cfg0.N) (acc : Vec Ideal S1x1024 .f32) (j : S1x1024.Idx),
      k0_pay1 (F := Ideal) (k0_pay10 (iblk m c 1 t) (iblk m c 2 t) (k0_pay6 (iblk m c 0 t) (iblk m c 3 t) (iblk m c 5 t)))
        acc j = acc j + ∑ a : Fin 512, gainGrad (row (m ((c : Thread nD τ).loc main_arg1)) (tileRow rfl t a))
          (row (D m c) (tileRow rfl t a)) (j 1) := by
    intro t acc j
    rw [pay10, pay7]
    simp only [blk1, blkD]
  rw [after0_8]
  refine (acc_rows rfl (fun n h => (outsAt0 m c n h).2.2.1) (fun r j => gainGrad (row (m ((c : Thread nD τ).loc main_arg1)) r)
    (row (D m c) r) (j 1)) (fun t h j => ?_) (fun t h j => ?_) t ((flush0_8 t).mp hf) j).trans ?_
  · rw [outsAt0_A m c t h]; frame_out; exact (hr t _ j).trans (congrArg (· + _) (zero2 j))
  · rw [outsAt0_B m c t h]; frame_out; exact hr t _ j
  · unfold gainSum; rw [h1]

/-- **The gradient of the gain before the feed-forward.** -/
theorem final9 (c : Dev nD) : (dats m 0 c).arrAt 9 cfg0.N
    = gainSum (m ((c : Thread nD τ).loc main_arg0)) (m ((c : Thread nD τ).loc main_arg3)) := by
  refine (dats m 0 c).arrAt_eq_of_covers 9 _ (by decide +kernel) fun t hf j => ?_
  have h1 : (win0_9.blk t).view.emb j 1 = j 1 := Fin.ext (by blk_simp [idx])
  have hr : ∀ (t : Fin cfg0.N) (acc : Vec Ideal S1x1024 .f32) (j : S1x1024.Idx),
      k0_pay2 (F := Ideal) (k0_pay5 (iblk m c 0 t) (iblk m c 3 t)) acc j = acc j + ∑ a : Fin 512,
        gainGrad (row (m ((c : Thread nD τ).loc main_arg0)) (tileRow rfl t a))
          (row (m ((c : Thread nD τ).loc main_arg3)) (tileRow rfl t a)) (j 1) := by
    intro t acc j
    rw [pay5]
    simp only [blk0, blk3]
  rw [after0_9]
  refine (acc_rows rfl (fun n h => (outsAt0 m c n h).2.2.2) (fun r j => gainGrad (row (m ((c : Thread nD τ).loc main_arg0)) r)
    (row (m ((c : Thread nD τ).loc main_arg3)) r) (j 1)) (fun t h j => ?_) (fun t h j => ?_) t ((flush0_9 t).mp hf) j).trans ?_
  · rw [outsAt0_A m c t h]; frame_out; exact (hr t _ j).trans (congrArg (· + _) (zero3 j))
  · rw [outsAt0_B m c t h]; frame_out; exact hr t _ j
  · unfold gainSum; rw [h1]

/-- The stream's gradient as the reference's host operations compute it. -/
theorem hdx1 (x d0 d : FVec Ideal S4096x1024 .f32) (g : FVec Ideal S1x1024 .f32) :
    addf (F := Ideal) (φ := .f32) (hGrad x d g) d0 = dx1 x d0 d g := by
  rw [hGrad_eq]; funext j; exact add_comm _ _

/-- **The call computes the derivative.** -/
theorem algebraic : Cert.algebraic_NormMidIdeal_RefNormMidIdeal := fun m g m' g' _ hag =>
  ⟨fun c => _, fun c => _, fun c => _, fun c => _,
    (θ_run _ _ _).mono (fun _ h c => ⟨(h c).1.trans (final6 m c), (h c).2.1.trans (final7 m c), (h c).2.2.1.trans (final8 m c),
      (h c).2.2.2.1.trans (final9 m c), (h c).2.2.2.2⟩) (run_blocks m g),
    (θ_run _ _ _).mono (fun _ h c => by
      obtain ⟨e0, e1, e2, e3, e4, e5⟩ := hag c
      refine ⟨(h c).1.trans ?_, (h c).2.1.trans ?_, (h c).2.2.1.trans ?_, (h c).2.2.2.1.trans ?_, (h c).2.2.2.2⟩
      · rw [e0, e2, e3, e5]
        exact hdx1 _ _ _ _
      · unfold Cert.RefNormMidIdeal.Value.res_main_v69
        rw [e0, e1, e2, e3, e4, e5]
        refine (hGrad_eq _ (addf (F := Ideal) (φ := .f32) (hGrad _ _ _) _) _).trans ?_
        rw [hdx1]; rfl
      · unfold Cert.RefNormMidIdeal.Value.res_main_v52
        rw [e0, e1, e2, e3, e5]
        refine (hGain_eq _ (addf (F := Ideal) (φ := .f32) (hGrad _ _ _) _)).trans ?_
        rw [hdx1]; rfl
      · rw [e0, e3]
        exact hGain_eq _ _) (Cert.RefNormMidIdeal.Value.run m' g')⟩

end Cert.Grad.NormMid

end
-- ==== Proof.Gate.lean ====
/-
  The logistic function that opens the gates.
-/
module

public import Idealize.ShloMosaic.Lib.Pointwise

@[expose] public section

noncomputable section

namespace Cert.Gate

open Idealize.ShloMosaic

/-- The logistic function. -/
def sg (z : EReal) : EReal := Ideal.logistic z

end Cert.Gate

end
-- ==== Proof.Merge.lean ====
/-
  The gradient of the gated merge `sigmoid (p + b)` of the two branches: with respect to the gates before the bias, to the
  branches, and to the bias, summed over the rows.
-/
module

public import proofs.«01_k».proof.Proof.Rows
public import proofs.«01_k».proof.Proof.Gate
public import proofs.«01_k».proof.Proof.Gen.MergeIdeal.Value
public import proofs.«01_k».proof.Proof.Gen.RefMergeIdeal.Run
public import proofs.«01_k».proof.Defs

@[expose] public section

noncomputable section

open scoped BigOperators

namespace Cert.Grad.Merge

open Cert.MergeIdeal Cert.MergeIdeal.Gen Cert.MergeIdeal.Value Cert.Rows Cert.Gate
open Idealize.ShloMosaic Idealize.ShloMosaic.TcCoe Idealize.SL.Sem

variable (m : (ℓ : Loc nD τ sig) → Buf (Elt Ideal) ℓ)

/-- The left and the right half of a row of gates. -/
def left (l : Fin 1024) : Fin 2048 := ⟨l.val, by omega⟩
def right (l : Fin 1024) : Fin 2048 := ⟨1024 + l.val, by omega⟩

/-- A gate. -/
def gate {M : ℕ} (p : (⟨2, ![M, 2048]⟩ : Shape).Idx → EReal) (b : (⟨2, ![1, 2048]⟩ : Shape).Idx → EReal) (r : Fin M)
    (l : Fin 2048) : EReal := sg (p (ix2 r l) + b (ix2 0 l))

/-- The gradient of the gates: the first half belongs to the one branch, the second to the other. -/
def dgate {M : ℕ} (x y d : (⟨2, ![M, 1024]⟩ : Shape).Idx → EReal) (r : Fin M) (l : Fin 2048) : EReal :=
  if h : l.val < 1024 then d (ix2 r ⟨l.val, h⟩) * x (ix2 r ⟨l.val, h⟩)
  else d (ix2 r ⟨l.val - 1024, by omega⟩) * y (ix2 r ⟨l.val - 1024, by omega⟩)

/-- The gradient of the gates before the bias. -/
def dpre {M : ℕ} (p : (⟨2, ![M, 2048]⟩ : Shape).Idx → EReal) (x y d : (⟨2, ![M, 1024]⟩ : Shape).Idx → EReal)
    (b : (⟨2, ![1, 2048]⟩ : Shape).Idx → EReal) : (⟨2, ![M, 2048]⟩ : Shape).Idx → EReal :=
  fun j => dgate x y d (j 0) (j 1) * (gate p b (j 0) (j 1) * (1 - gate p b (j 0) (j 1)))

/-- The gradient of a branch, whose gates lie in the columns `f`. -/
def dbranch {M : ℕ} (f : Fin 1024 → Fin 2048) (p : (⟨2, ![M, 2048]⟩ : Shape).Idx → EReal)
    (d : (⟨2, ![M, 1024]⟩ : Shape).Idx → EReal) (b : (⟨2, ![1, 2048]⟩ : Shape).Idx → EReal) :
    (⟨2, ![M, 1024]⟩ : Shape).Idx → EReal := fun j => gate p b (j 0) (f (j 1)) * d j

theorem pay6 (p : Vec Ideal S512x2048 .f32) (x y d : Vec Ideal S512x1024 .f32) (b : Vec Ideal S1x2048 .f32) :
    k0_pay6 (F := Ideal) p x y d b = dpre p x y d b := by
  funext j
  obtain ⟨r, l, rfl⟩ : ∃ r l, j = ix2 r l := ⟨j 0, j 1, (ix2_eta j).symm⟩
  unfold dpre dgate gate sg
  pointwise [k0_pay6, k0_pay5, k0_pay4, k0_pay3]
  by_cases h : l.val < 1024
  · simp only [dif_pos h, zero_add]
  · simp only [dif_neg h, add_zero]

theorem pay9 (p : Vec Ideal S512x2048 .f32) (d : Vec Ideal S512x1024 .f32) (b : Vec Ideal S1x2048 .f32) :
    k0_pay9 (F := Ideal) p d b = dbranch left p d b := by
  funext j
  obtain ⟨r, l, rfl⟩ : ∃ r l, j = ix2 r l := ⟨j 0, j 1, (ix2_eta j).symm⟩
  unfold dbranch gate sg left
  pointwise [k0_pay9, k0_pay4, k0_pay3]

theorem pay10 (p : Vec Ideal S512x2048 .f32) (d : Vec Ideal S512x1024 .f32) (b : Vec Ideal S1x2048 .f32) :
    k0_pay10 (F := Ideal) p d b = dbranch right p d b := by
  funext j
  obtain ⟨r, l, rfl⟩ : ∃ r l, j = ix2 r l := ⟨j 0, j 1, (ix2_eta j).symm⟩
  unfold dbranch gate sg right
  pointwise [k0_pay10, k0_pay5, k0_pay3]

theorem pay7 (p : Vec Ideal S512x2048 .f32) (x y d : Vec Ideal S512x1024 .f32) (b acc : Vec Ideal S1x2048 .f32) (j : S1x2048.Idx) :
    k0_pay2 (F := Ideal) (k0_pay7 p x y d b) acc j = acc j + ∑ a : Fin 512, dpre (M := 512) p x y d b (ix2 a (j 1)) := by
  obtain ⟨l, rfl⟩ : ∃ l, j = ix2 0 l := ⟨j 1, single_ix j⟩
  rw [← pay6]
  pointwise [k0_pay2, k0_pay7]

theorem zero (j : S1x2048.Idx) : k0_pay1 (F := Ideal) j = 0 := by pointwise [k0_pay1]

/-- The blocks that the windows name at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] := by
  decide +kernel

theorem blk0 (c : Dev nD) (t : Fin cfg0.N) (a : Fin 512) (k : Fin 2048) : iblk m c 0 t (ix2 a k)
    = m ((c : Thread nD τ).loc main_arg0) (ix2 (tileRow rfl t a) k) := by
  blk_ext [iblk, V, idx, tileRow]

theorem blk1 (c : Dev nD) (t : Fin cfg0.N) (a : Fin 512) (k : Fin 1024) : iblk m c 1 t (ix2 a k)
    = m ((c : Thread nD τ).loc main_arg1) (ix2 (tileRow rfl t a) k) := by
  blk_ext [iblk, V, idx, tileRow]

theorem blk2 (c : Dev nD) (t : Fin cfg0.N) (a : Fin 512) (k : Fin 1024) : iblk m c 2 t (ix2 a k)
    = m ((c : Thread nD τ).loc main_arg2) (ix2 (tileRow rfl t a) k) := by
  blk_ext [iblk, V, idx, tileRow]

theorem blk3 (c : Dev nD) (t : Fin cfg0.N) (a : Fin 512) (k : Fin 1024) : iblk m c 3 t (ix2 a k)
    = m ((c : Thread nD τ).loc main_arg3) (ix2 (tileRow rfl t a) k) := by
  blk_ext [iblk, V, idx, tileRow]

theorem blk4 (c : Dev nD) (t : Fin cfg0.N) (k : Fin 2048) : iblk m c 4 t (ix2 0 k)
    = m ((c : Thread nD τ).loc main_arg4) (ix2 0 k) := by
  blk_ext [iblk, V, idx]

/-- The gradient of the gates in the device's memory. -/
def P (c : Dev nD) : (⟨2, ![4096, 2048]⟩ : Shape).Idx → EReal :=
  dpre (m ((c : Thread nD τ).loc main_arg0)) (m ((c : Thread nD τ).loc main_arg1)) (m ((c : Thread nD τ).loc main_arg2))
    (m ((c : Thread nD τ).loc main_arg3)) (m ((c : Thread nD τ).loc main_arg4))

theorem blkP (c : Dev nD) (t : Fin cfg0.N) (a : Fin 512) (k : Fin 2048) :
    dpre (M := 512) (iblk m c 0 t) (iblk m c 1 t) (iblk m c 2 t) (iblk m c 3 t) (iblk m c 4 t) (ix2 a k)
      = P m c (ix2 (tileRow rfl t a) k) := by
  simp only [P, dpre, dgate, gate, ix2_0, ix2_1, blk0, blk1, blk2, blk3, blk4]
  rfl

/-- A branch's gradient at a row of a block. -/
theorem blkBranch (f : Fin 1024 → Fin 2048) (c : Dev nD) (t : Fin cfg0.N) (a : Fin 512) (k : Fin 1024) :
    dbranch (M := 512) f (iblk m c 0 t) (iblk m c 3 t) (iblk m c 4 t) (ix2 a k) = dbranch (M := 4096) f
      (m ((c : Thread nD τ).loc main_arg0)) (m ((c : Thread nD τ).loc main_arg3)) (m ((c : Thread nD τ).loc main_arg4))
      (ix2 (tileRow rfl t a) k) := by
  simp only [dbranch, gate, ix2_0, ix2_1, blk0, blk3, blk4]

theorem out5 (c : Dev nD) (t : Fin cfg0.N) : (outsAt0 m c t.val t.isLt).1
    = k0_pay6 (F := Ideal) (iblk m c 0 t) (iblk m c 1 t) (iblk m c 2 t) (iblk m c 3 t) (iblk m c 4 t) := by
  funext j
  by_cases h0 : t.val % 8 = 0
  · rw [outsAt0_A m c t h0]; frame_out; rfl
  · rw [outsAt0_B m c t h0]; frame_out; rfl

theorem out6 (c : Dev nD) (t : Fin cfg0.N) : (outsAt0 m c t.val t.isLt).2.1
    = k0_pay9 (F := Ideal) (iblk m c 0 t) (iblk m c 3 t) (iblk m c 4 t) := by
  funext j
  by_cases h0 : t.val % 8 = 0
  · rw [outsAt0_A m c t h0]; frame_out
  · rw [outsAt0_B m c t h0]; frame_out

theorem out7 (c : Dev nD) (t : Fin cfg0.N) : (outsAt0 m c t.val t.isLt).2.2.1
    = k0_pay10 (F := Ideal) (iblk m c 0 t) (iblk m c 3 t) (iblk m c 4 t) := by
  funext j
  by_cases h0 : t.val % 8 = 0
  · rw [outsAt0_A m c t h0]; frame_out
  · rw [outsAt0_B m c t h0]; frame_out

/-- **The gradient of the gates.** -/
theorem final5 (c : Dev nD) : (dats m 0 c).arrAt 5 cfg0.N = P m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5, out5, pay6, he]
  exact blkP m c t a l

/-- **The gradient of the first branch.** -/
theorem final6 (c : Dev nD) : (dats m 0 c).arrAt 6 cfg0.N = dbranch left (m ((c : Thread nD τ).loc main_arg0))
    (m ((c : Thread nD τ).loc main_arg3)) (m ((c : Thread nD τ).loc main_arg4)) := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (tileRow rfl t a) l := by blk_ext [idx, tileRow]
  rw [after0_6, out6, pay9, he]
  exact blkBranch m left c t a l

/-- **The gradient of the second branch.** -/
theorem final7 (c : Dev nD) : (dats m 0 c).arrAt 7 cfg0.N = dbranch right (m ((c : Thread nD τ).loc main_arg0))
    (m ((c : Thread nD τ).loc main_arg3)) (m ((c : Thread nD τ).loc main_arg4)) := by
  refine (dats m 0 c).arrAt_eq_of_covers 7 _ (by decide +kernel) fun t hf j => ?_
  blk_simp
  obtain ⟨a, l, rfl⟩ : ∃ a l, j = ix2 a l := ⟨j 0, j 1, (ix2_eta j).symm⟩
  have he : (win0_7.blk t).view.emb (ix2 a l) = ix2 (tileRow rfl t a) l := by blk_ext [idx, tileRow]
  rw [after0_7, out7, pay10, he]
  exact blkBranch m right c t a l

/-- **The bias's gradient.** -/
theorem final8 (c : Dev nD) : (dats m 0 c).arrAt 8 cfg0.N = columnSums (P m c) := by
  refine (dats m 0 c).arrAt_eq_of_covers 8 _ (by decide +kernel) fun t hf j => ?_
  have h1 : (win0_8.blk t).view.emb j 1 = j 1 := Fin.ext (by blk_simp [idx])
  have hr : ∀ (t : Fin cfg0.N) (acc : Vec Ideal S1x2048 .f32) (j : S1x2048.Idx),
      k0_pay2 (F := Ideal) (k0_pay7 (iblk m c 0 t) (iblk m c 1 t) (iblk m c 2 t) (iblk m c 3 t) (iblk m c 4 t)) acc j
        = acc j + ∑ a : Fin 512, P m c (ix2 (tileRow rfl t a) (j 1)) := by
    intro t acc j
    rw [pay7]
    exact congrArg (acc j + ·) (Finset.sum_congr rfl fun a _ => blkP m c t a (j 1))
  rw [after0_8]
  refine (acc_rows rfl (fun n h => (outsAt0 m c n h).2.2.2) (fun r j => P m c (ix2 r (j 1)))
    (fun t h j => ?_) (fun t h j => ?_) t ((flush0_8 t).mp hf) j).trans ?_
  · rw [outsAt0_A m c t h]; frame_out; exact (hr t _ j).trans (congrArg (· + _) (zero j))
  · rw [outsAt0_B m c t h]; frame_out; exact hr t _ j
  · unfold columnSums; rw [h1]

/-- **The call computes the derivative.** -/
theorem algebraic : Cert.algebraic_MergeIdeal_RefMergeIdeal := fun m g m' g' _ hag =>
  ⟨fun c => _, fun c => _, fun c => _, fun c => _,
    (θ_run _ _ _).mono (fun _ h c => ⟨(h c).1.trans (final5 m c), (h c).2.1.trans (final6 m c), (h c).2.2.1.trans (final7 m c),
      (h c).2.2.2.1.trans (final8 m c), (h c).2.2.2.2⟩) (run_blocks m g),
    (θ_run _ _ _).mono (fun _ h c => by
      obtain ⟨e0, e1, e2, e3, e4⟩ := hag c
      refine ⟨(h c).1.trans ?_, (h c).2.1.trans ?_, (h c).2.2.1.trans ?_, (h c).2.2.2.1.trans ?_, (h c).2.2.2.2⟩
      · rw [e0, e1, e2, e3, e4]; funext j
        unfold P dpre dgate gate sg Ideal.logistic
        pointwise!
      · rw [e0, e3, e4]; funext j
        unfold dbranch gate left sg Ideal.logistic
        pointwise!
      · rw [e0, e3, e4]; funext j
        unfold dbranch gate right sg Ideal.logistic
        pointwise!
      · rw [e0, e1, e2, e3, e4]; funext j
        unfold columnSums P dpre dgate gate sg Ideal.logistic
        pointwise!) (Cert.RefMergeIdeal.Value.run m' g')⟩

end Cert.Grad.Merge

end
-- ==== Proof.Glu.lean ====
/-
  The gradient of the state-space branch's gate `y * sigmoid (z + b)`: with respect to `y`, to `z`, and to the bias, summed
  over the rows.
-/
module

public import proofs.«01_k».proof.Proof.Rows
public import proofs.«01_k».proof.Proof.Gate
public import proofs.«01_k».proof.Proof.Gen.GluIdeal.Value
public import proofs.«01_k».proof.Proof.Gen.RefGluIdeal.Run
public import proofs.«01_k».proof.Defs

@[expose] public section

noncomputable section

open scoped BigOperators

namespace Cert.Grad.Glu

open Cert.GluIdeal Cert.GluIdeal.Gen Cert.GluIdeal.Value Cert.Rows Cert.Gate
open Idealize.ShloMosaic Idealize.ShloMosaic.TcCoe Idealize.SL.Sem

variable (m : (ℓ : Loc nD τ sig) → Buf (Elt Ideal) ℓ)

/-- The gradient of `y`. -/
def dy {M : ℕ} (z d : (⟨2, ![M, 512]⟩ : Shape).Idx → EReal) (b : (⟨2, ![1, 512]⟩ : Shape).Idx → EReal) :
    (⟨2, ![M, 512]⟩ : Shape).Idx → EReal := fun j => d j * sg (z j + b (ix2 0 (j 1)))

/-- The gradient of `z`. -/
def dz {M : ℕ} (y z d : (⟨2, ![M, 512]⟩ : Shape).Idx → EReal) (b : (⟨2, ![1, 512]⟩ : Shape).Idx → EReal) :
    (⟨2, ![M, 512]⟩ : Shape).Idx → EReal :=
  fun j => y j * d j * (sg (z j + b (ix2 0 (j 1))) * (1 - sg (z j + b (ix2 0 (j 1)))))

theorem pay2 (z d : Vec Ideal S512x512 .f32) (b : Vec Ideal S1x512 .f32) :
    k0_pay2 (F := Ideal) z d b = dy z d b := by
  funext j
  unfold dy sg
  pointwise [k0_pay2, k0_pay1]

theorem pay3 (y z d : Vec Ideal S512x512 .f32) (b : Vec Ideal S1x512 .f32) :
    k0_pay3 (F := Ideal) y z d b = dz y z d b := by
  funext j
  unfold dz sg
  pointwise [k0_pay3, k0_pay1]

theorem pay6 (y z d : Vec Ideal S512x512 .f32) (b acc : Vec Ideal S1x512 .f32) (j : S1x512.Idx) :
    k0_pay6 (F := Ideal) y z d b acc j = acc j + ∑ a : Fin 512, dz (M := 512) y z d b (ix2 a (j 1)) := by
  obtain ⟨l, rfl⟩ : ∃ l, j = ix2 0 l := ⟨j 1, single_ix j⟩
  rw [← pay3]
  pointwise [k0_pay6]

theorem zero (j : S1x512.Idx) : k0_pay5 (F := Ideal) j = 0 := by pointwise [k0_pay5]

/-- The blocks that the windows name at a point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] := by
  decide +kernel

theorem blk0 (c : Dev nD) (t : Fin cfg0.N) (a k : Fin 512) : iblk m c 0 t (ix2 a k)
    = m ((c : Thread nD τ).loc main_arg0) (ix2 (tileRow rfl t a) k) := by
  blk_ext [iblk, V, idx, tileRow]

theorem blk1 (c : Dev nD) (t : Fin cfg0.N) (a k : Fin 512) : iblk m c 1 t (ix2 a k)
    = m ((c : Thread nD τ).loc main_arg1) (ix2 (tileRow rfl t a) k) := by
  blk_ext [iblk, V, idx, tileRow]

theorem blk2 (c : Dev nD) (t : Fin cfg0.N) (a k : Fin 512) : iblk m c 2 t (ix2 a k)
    = m ((c : Thread nD τ).loc main_arg2) (ix2 (tileRow rfl t a) k) := by
  blk_ext [iblk, V, idx, tileRow]

theorem blk3 (c : Dev nD) (t : Fin cfg0.N) (k : Fin 512) : iblk m c 3 t (ix2 0 k)
    = m ((c : Thread nD τ).loc main_arg3) (ix2 0 k) := by
  blk_ext [iblk, V, idx]

/-- The gradient of `z` in the device's memory. -/
def Z (c : Dev nD) : (⟨2, ![4096, 512]⟩ : Shape).Idx → EReal :=
  dz (m ((c : Thread nD τ).loc main_arg0)) (m ((c : Thread nD τ).loc main_arg1)) (m ((c : Thread nD τ).loc main_arg2))
    (m ((c : Thread nD τ).loc main_arg3))

theorem blkZ (c : Dev nD) (t : Fin cfg0.N) (a k : Fin 512) :
    dz (M := 512) (iblk m c 0 t) (iblk m c 1 t) (iblk m c 2 t) (iblk m c 3 t) (ix2 a k) = Z m c (ix2 (tileRow rfl t a) k) := by
  simp only [Z, dz, ix2_0, ix2_1, blk0, blk1, blk2, blk3]

theorem out4 (c : Dev nD) (t : Fin cfg0.N) : (outsAt0 m c t.val t.isLt).1
    = k0_pay2 (F := Ideal) (iblk m c 1 t) (iblk m c 2 t) (iblk m c 3 t) := by
  funext j
  by_cases h0 : t.val % 8 = 0
  · rw [outsAt0_A m c t h0]; frame_out
  · rw [outsAt0_B m c t h0]; frame_out

theorem out5 (c : Dev nD) (t : Fin cfg0.N) : (outsAt0 m c t.val t.isLt).2.1
    = k0_pay3 (F := Ideal) (iblk m c 0 t) (iblk m c 1 t) (iblk m c 2 t) (iblk m c 3 t) := by
  funext j
  by_cases h0 : t.val % 8 = 0
  · rw [outsAt0_A m c t h0]; frame_out; rfl
  · rw [outsAt0_B m c t h0]; frame_out; rfl

/-- **The gradient of `y`.** -/
theorem final4 (c : Dev nD) : (dats m 0 c).arrAt 4 cfg0.N = dy (m ((c : Thread nD τ).loc main_arg1))
    (m ((c : Thread nD τ).loc main_arg2)) (m ((c : Thread nD τ).loc main_arg3)) := by
  refine (dats m 0 c).arrAt_eq_of_covers 4 _ (by decide +kernel) fun t hf j => ?_
  blk_simp
  obtain ⟨a, l, rfl⟩ : ∃ a l, j = ix2 a l := ⟨j 0, j 1, (ix2_eta j).symm⟩
  have he : (win0_4.blk t).view.emb (ix2 a l) = ix2 (tileRow rfl t a) l := by blk_ext [idx, tileRow]
  rw [after0_4, out4, pay2, he]
  simp only [dy, ix2_0, ix2_1, blk1, blk2, blk3]

/-- **The gradient of `z`.** -/
theorem final5 (c : Dev nD) : (dats m 0 c).arrAt 5 cfg0.N = Z m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5, out5, pay3, he]
  exact blkZ m c t a l

/-- **The bias's gradient.** -/
theorem final6 (c : Dev nD) : (dats m 0 c).arrAt 6 cfg0.N = columnSums (Z m c) := by
  refine (dats m 0 c).arrAt_eq_of_covers 6 _ (by decide +kernel) fun t hf j => ?_
  have h1 : (win0_6.blk t).view.emb j 1 = j 1 := Fin.ext (by blk_simp [idx])
  have hr : ∀ (t : Fin cfg0.N) (acc : Vec Ideal S1x512 .f32) (j : S1x512.Idx),
      k0_pay6 (F := Ideal) (iblk m c 0 t) (iblk m c 1 t) (iblk m c 2 t) (iblk m c 3 t) acc j
        = acc j + ∑ a : Fin 512, Z m c (ix2 (tileRow rfl t a) (j 1)) := by
    intro t acc j
    rw [pay6]
    exact congrArg (acc j + ·) (Finset.sum_congr rfl fun a _ => blkZ m c t a (j 1))
  rw [after0_6]
  refine (acc_rows rfl (fun n h => (outsAt0 m c n h).2.2) (fun r j => Z m c (ix2 r (j 1)))
    (fun t h j => ?_) (fun t h j => ?_) t ((flush0_6 t).mp hf) j).trans ?_
  · rw [outsAt0_A m c t h]; frame_out; exact (hr t _ j).trans (congrArg (· + _) (zero j))
  · rw [outsAt0_B m c t h]; frame_out; exact hr t _ j
  · unfold columnSums; rw [h1]

/-- **The call computes the derivative.** -/
theorem algebraic : Cert.algebraic_GluIdeal_RefGluIdeal := fun m g m' g' _ hag =>
  ⟨fun c => _, fun c => _, fun c => _,
    (θ_run _ _ _).mono (fun _ h c => ⟨(h c).1.trans (final4 m c), (h c).2.1.trans (final5 m c), (h c).2.2.1.trans (final6 m c),
      (h c).2.2.2⟩) (run_blocks m g),
    (θ_run _ _ _).mono (fun _ h c => by
      obtain ⟨e0, e1, e2, e3⟩ := hag c
      refine ⟨(h c).1.trans ?_, (h c).2.1.trans ?_, (h c).2.2.1.trans ?_, (h c).2.2.2⟩
      · rw [e1, e2, e3]; funext j
        unfold dy sg Ideal.logistic
        pointwise!
      · rw [e0, e1, e2, e3]; funext j
        unfold Z dz sg Ideal.logistic
        pointwise!
      · rw [e0, e1, e2, e3]; funext j
        unfold columnSums Z dz sg Ideal.logistic
        pointwise!) (Cert.RefGluIdeal.Value.run m' g')⟩

end Cert.Grad.Glu

end
-- ==== Proof.HostMid.lean ====
/-
  What the derivative of `gelu (y + d * u)` is, entry by entry; and the same as the reference's host operations compute it.
-/
module

public import proofs.«01_k».proof.Proof.Rows
public import proofs.«01_k».proof.Proof.ConvSpec
public import proofs.«01_k».proof.Proof.Gen.RefMidIdeal.Run

@[expose] public section

noncomputable section

open scoped BigOperators

namespace Cert.Grad.Mid

open Cert.RefMidIdeal Cert.RefMidIdeal.Gen Cert.Rows Cert.Grad.Conv
open Idealize.ShloMosaic Idealize.ShloMosaic.TcCoe Idealize.SL.Sem

/-- The activation's argument. -/
def arg {M : ℕ} (y u : (⟨2, ![M, 512]⟩ : Shape).Idx → EReal) (d : (⟨2, ![1, 512]⟩ : Shape).Idx → EReal) :
    (⟨2, ![M, 512]⟩ : Shape).Idx → EReal := fun j => y j + d (ix2 0 (j 1)) * u j

/-- The gradient of the argument. -/
def grad {M : ℕ} (y u da db : (⟨2, ![M, 512]⟩ : Shape).Idx → EReal) (d : (⟨2, ![1, 512]⟩ : Shape).Idx → EReal) :
    (⟨2, ![M, 512]⟩ : Shape).Idx → EReal := fun j => gateGrad (arg y u d j) 1 (da j + db j)

/-- The gradient of `u`, from the argument's. -/
def du {M : ℕ} (e : (⟨2, ![M, 512]⟩ : Shape).Idx → EReal) (d : (⟨2, ![1, 512]⟩ : Shape).Idx → EReal) :
    (⟨2, ![M, 512]⟩ : Shape).Idx → EReal := fun j => d (ix2 0 (j 1)) * e j

/-- A constant array. -/
abbrev hC (w : BitVec 32) : FVec Ideal S4096x512 .f32 := broadcastInDim S4096x512 ![] bcast_S_S4096x512 (constant S_ .f32 w)

/-- The argument, and the hyperbolic tangent in the activation. -/
def hArg (y u : FVec Ideal S4096x512 .f32) (d : FVec Ideal S1x512 .f32) : FVec Ideal S4096x512 .f32 :=
  addf y (mulf (broadcastInDim S4096x512 ![0, 1] bcast_S1x512_S4096x512_0_1 d) u)

def hTh (x : FVec Ideal S4096x512 .f32) : FVec Ideal S4096x512 .f32 :=
  Host.tanh (mulf (hC 0x3F4C422A#32) (addf x (mulf (hC 0x3D372713#32) (mulf (mulf x x) x))))

/-- What the tangent's argument receives. -/
def hThGrad (x e : FVec Ideal S4096x512 .f32) : FVec Ideal S4096x512 .f32 :=
  mulf (hC 0x3F4C422A#32) (mulf (mulf (hC 0x3F000000#32) (mulf x e)) (mulf (addf (hC 0x3F800000#32) (hTh x))
    (subf (hC 0x3F800000#32) (hTh x))))

/-- The argument's gradient. -/
def hGelu (x e : FVec Ideal S4096x512 .f32) : FVec Ideal S4096x512 .f32 :=
  addf (addf (mulf e (mulf (hC 0x3F000000#32) (addf (hC 0x3F800000#32) (hTh x)))) (hThGrad x e))
    (mulf (mulf (hC 0x3D372713#32) (hThGrad x e)) (mulf (hC 0x40400000#32) (mulf x x)))

def hGrad (y u da db : FVec Ideal S4096x512 .f32) (d : FVec Ideal S1x512 .f32) : FVec Ideal S4096x512 .f32 :=
  hGelu (hArg y u d) (addf da db)

theorem hArg_eq (y u : FVec Ideal S4096x512 .f32) (d : FVec Ideal S1x512 .f32) : hArg y u d = arg y u d := by
  funext j
  unfold arg
  pointwise [hArg]

theorem hTh_eq (x : FVec Ideal S4096x512 .f32) (j : S4096x512.Idx) : hTh x j = th (x j) := by
  unfold th
  pointwise [hTh]

theorem hGelu_eq (x e : FVec Ideal S4096x512 .f32) (j : S4096x512.Idx) : hGelu x e j = gateGrad (x j) 1 (e j) := by
  unfold gateGrad thGrad
  rw [mul_one, ← hTh_eq]
  pointwise [hGelu, hThGrad]

theorem hGrad_eq (y u da db : FVec Ideal S4096x512 .f32) (d : FVec Ideal S1x512 .f32) : hGrad y u da db d = grad y u da db d := by
  funext j
  exact (hGelu_eq _ _ _).trans (by rw [hArg_eq]; rfl)

theorem hDu_eq (e : FVec Ideal S4096x512 .f32) (d : FVec Ideal S1x512 .f32) :
    mulf (F := Ideal) (φ := .f32) (broadcastInDim S4096x512 ![0, 1] bcast_S1x512_S4096x512_0_1 d) e = du e d := by
  funext j
  unfold du
  pointwise

theorem hSums_eq (e u : FVec Ideal S4096x512 .f32) :
    shapeCast S1x512 (Host.reduceAdd (F := Ideal) (φ := .f32) (mulf e u) (constant S_ .f32 0x00000000#32)
      reducesTo_S4096x512_S512_d0 h_S_) shapeCasts_S512_S1x512 = columnSums (M := 4096) (N := 512) fun j => e j * u j := by
  funext j
  obtain ⟨l, rfl⟩ : ∃ l, j = ix2 0 l := ⟨j 1, single_ix j⟩
  unfold columnSums
  pointwise

end Cert.Grad.Mid

end
-- ==== Proof.Mid.lean ====
/-
  The gradient of the state-space branch's activation `gelu (y + d * u)`: with respect to the scan's output `y`, to `u`, and
  to `d`, summed over the rows.
-/
module

public import proofs.«01_k».proof.Proof.HostMid
public import proofs.«01_k».proof.Proof.Gen.MidIdeal.Value
public import proofs.«01_k».proof.Defs

@[expose] public section

noncomputable section

open scoped BigOperators

namespace Cert.Grad.Mid

open Cert.MidIdeal Cert.MidIdeal.Gen Cert.MidIdeal.Value Cert.Rows Cert.Grad.Conv
open Idealize.ShloMosaic Idealize.ShloMosaic.TcCoe Idealize.SL.Sem

variable (m : (ℓ : Loc nD τ sig) → Buf (Elt Ideal) ℓ)

theorem pay6 (y u : Vec Ideal S512x512 .f32) (d : Vec Ideal S1x512 .f32) : k0_pay6 (F := Ideal) y u d = arg y u d := by
  funext j
  unfold arg
  pointwise [k0_pay6]

theorem pay9 (y u : Vec Ideal S512x512 .f32) (d : Vec Ideal S1x512 .f32) (j : S512x512.Idx) :
    k0_pay9 (F := Ideal) y u d j = th (arg y u d j) := by
  rw [← th_eq, ← pay6]
  pointwise [k0_pay9, k0_pay8, k0_pay7]

theorem pay1 (y u da db : Vec Ideal S512x512 .f32) (d : Vec Ideal S1x512 .f32) :
    k0_pay1 (F := Ideal) (k0_pay11 y u da db d) (k0_pay12 y u da db d) kH = grad y u da db d := by
  funext j
  unfold grad
  rw [← gateGrad_eq, mul_one]
  pointwise [k0_pay1, k0_pay11, k0_pay12, k0_pay10, k0_pay8, k0_pay7]
  rw [pay9, pay6]

theorem pay2 (y u da db : Vec Ideal S512x512 .f32) (d : Vec Ideal S1x512 .f32) :
    k0_pay2 (F := Ideal) d (k0_pay11 y u da db d) (k0_pay12 y u da db d) kH = du (M := 512) (grad y u da db d) d := by
  funext j
  unfold du
  rw [← pay1]
  pointwise [k0_pay2]

theorem pay5 (y u da db : Vec Ideal S512x512 .f32) (d acc : Vec Ideal S1x512 .f32) (j : S1x512.Idx) :
    k0_pay5 (F := Ideal) u (k0_pay11 y u da db d) (k0_pay12 y u da db d) kH acc j
      = acc j + ∑ a : Fin 512, grad (M := 512) y u da db d (ix2 a (j 1)) * u (ix2 a (j 1)) := by
  obtain ⟨l, rfl⟩ : ∃ l, j = ix2 0 l := ⟨j 1, single_ix j⟩
  rw [← pay1]
  pointwise [k0_pay5]

theorem zero (j : S1x512.Idx) : k0_pay4 (F := Ideal) j = 0 := by pointwise [k0_pay4]

/-- The blocks that the windows name at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] := by
  decide +kernel

theorem blk0 (c : Dev nD) (t : Fin cfg0.N) (a k : Fin 512) : iblk m c 0 t (ix2 a k)
    = m ((c : Thread nD τ).loc main_arg0) (ix2 (tileRow rfl t a) k) := by
  blk_ext [iblk, V, idx, tileRow]

theorem blk1 (c : Dev nD) (t : Fin cfg0.N) (a k : Fin 512) : iblk m c 1 t (ix2 a k)
    = m ((c : Thread nD τ).loc main_arg1) (ix2 (tileRow rfl t a) k) := by
  blk_ext [iblk, V, idx, tileRow]

theorem blk2 (c : Dev nD) (t : Fin cfg0.N) (a k : Fin 512) : iblk m c 2 t (ix2 a k)
    = m ((c : Thread nD τ).loc main_arg2) (ix2 (tileRow rfl t a) k) := by
  blk_ext [iblk, V, idx, tileRow]

theorem blk3 (c : Dev nD) (t : Fin cfg0.N) (a k : Fin 512) : iblk m c 3 t (ix2 a k)
    = m ((c : Thread nD τ).loc main_arg3) (ix2 (tileRow rfl t a) k) := by
  blk_ext [iblk, V, idx, tileRow]

theorem blk4 (c : Dev nD) (t : Fin cfg0.N) (k : Fin 512) : iblk m c 4 t (ix2 0 k)
    = m ((c : Thread nD τ).loc main_arg4) (ix2 0 k) := by
  blk_ext [iblk, V, idx]

/-- The gradient of the argument in the device's memory. -/
def G (c : Dev nD) : (⟨2, ![4096, 512]⟩ : Shape).Idx → EReal :=
  grad (m ((c : Thread nD τ).loc main_arg0)) (m ((c : Thread nD τ).loc main_arg1)) (m ((c : Thread nD τ).loc main_arg2))
    (m ((c : Thread nD τ).loc main_arg3)) (m ((c : Thread nD τ).loc main_arg4))

theorem blkG (c : Dev nD) (t : Fin cfg0.N) (a k : Fin 512) :
    grad (M := 512) (iblk m c 0 t) (iblk m c 1 t) (iblk m c 2 t) (iblk m c 3 t) (iblk m c 4 t) (ix2 a k)
      = G m c (ix2 (tileRow rfl t a) k) := by
  simp only [G, grad, arg, ix2_0, ix2_1, blk0, blk1, blk2, blk3, blk4]

theorem out5 (c : Dev nD) (t : Fin cfg0.N) : (outsAt0 m c t.val t.isLt).1
    = k0_pay1 (F := Ideal) (k0_pay11 (iblk m c 0 t) (iblk m c 1 t) (iblk m c 2 t) (iblk m c 3 t) (iblk m c 4 t))
        (k0_pay12 (iblk m c 0 t) (iblk m c 1 t) (iblk m c 2 t) (iblk m c 3 t) (iblk m c 4 t)) kH := by
  funext j
  by_cases h0 : t.val % 8 = 0
  · rw [outsAt0_A m c t h0]; frame_out; rfl
  · rw [outsAt0_B m c t h0]; frame_out; rfl

theorem out6 (c : Dev nD) (t : Fin cfg0.N) : (outsAt0 m c t.val t.isLt).2.1
    = k0_pay2 (F := Ideal) (iblk m c 4 t)
        (k0_pay11 (iblk m c 0 t) (iblk m c 1 t) (iblk m c 2 t) (iblk m c 3 t) (iblk m c 4 t))
        (k0_pay12 (iblk m c 0 t) (iblk m c 1 t) (iblk m c 2 t) (iblk m c 3 t) (iblk m c 4 t)) kH := by
  funext j
  by_cases h0 : t.val % 8 = 0
  · rw [outsAt0_A m c t h0]; frame_out; rfl
  · rw [outsAt0_B m c t h0]; frame_out; rfl

/-- **The gradient of the scan's output.** -/
theorem final5 (c : Dev nD) : (dats m 0 c).arrAt 5 cfg0.N = G m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5, out5, pay1, he]
  exact blkG m c t a l

/-- **The gradient of `u`.** -/
theorem final6 (c : Dev nD) : (dats m 0 c).arrAt 6 cfg0.N = du (G m c) (m ((c : Thread nD τ).loc main_arg4)) := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (tileRow rfl t a) l := by blk_ext [idx, tileRow]
  rw [after0_6, out6, pay2, he]
  simp only [du, ix2_0, ix2_1, blk4, blkG]

/-- **The gradient of `d`.** -/
theorem final7 (c : Dev nD) : (dats m 0 c).arrAt 7 cfg0.N
    = columnSums (M := 4096) (N := 512) fun j => G m c j * m ((c : Thread nD τ).loc main_arg1) j := by
  refine (dats m 0 c).arrAt_eq_of_covers 7 _ (by decide +kernel) fun t hf j => ?_
  have h1 : (win0_7.blk t).view.emb j 1 = j 1 := Fin.ext (by blk_simp [idx])
  have hr : ∀ (t : Fin cfg0.N) (acc : Vec Ideal S1x512 .f32) (j : S1x512.Idx),
      k0_pay5 (F := Ideal) (iblk m c 1 t)
        (k0_pay11 (iblk m c 0 t) (iblk m c 1 t) (iblk m c 2 t) (iblk m c 3 t) (iblk m c 4 t))
        (k0_pay12 (iblk m c 0 t) (iblk m c 1 t) (iblk m c 2 t) (iblk m c 3 t) (iblk m c 4 t)) kH acc j
        = acc j + ∑ a : Fin 512, (fun j => G m c j * m ((c : Thread nD τ).loc main_arg1) j : (⟨2, ![4096, 512]⟩ : Shape).Idx → EReal)
            (ix2 (tileRow rfl t a) (j 1)) := by
    intro t acc j
    rw [pay5]
    exact congrArg (acc j + ·) (Finset.sum_congr rfl fun a _ => congrArg₂ (· * ·) (blkG m c t a (j 1)) (blk1 m c t a (j 1)))
  rw [after0_7]
  refine (acc_rows rfl (fun n h => (outsAt0 m c n h).2.2)
    (fun r j => (fun j => G m c j * m ((c : Thread nD τ).loc main_arg1) j : (⟨2, ![4096, 512]⟩ : Shape).Idx → EReal) (ix2 r (j 1)))
    (fun t h j => ?_) (fun t h j => ?_) t ((flush0_7 t).mp hf) j).trans ?_
  · rw [outsAt0_A m c t h]; frame_out; exact (hr t _ j).trans (congrArg (· + _) (zero j))
  · rw [outsAt0_B m c t h]; frame_out; exact hr t _ j
  · unfold columnSums; rw [h1]

/-- **The call computes the derivative.** -/
theorem algebraic : Cert.algebraic_MidIdeal_RefMidIdeal := fun m g m' g' _ hag =>
  ⟨fun c => _, fun c => _, fun c => _,
    (θ_run _ _ _).mono (fun _ h c => ⟨(h c).1.trans (final5 m c), (h c).2.1.trans (final6 m c), (h c).2.2.1.trans (final7 m c),
      (h c).2.2.2⟩) (run_blocks m g),
    (θ_run _ _ _).mono (fun _ h c => by
      obtain ⟨e0, e1, e2, e3, e4⟩ := hag c
      refine ⟨(h c).1.trans ?_, (h c).2.1.trans ?_, (h c).2.2.1.trans ?_, (h c).2.2.2⟩
      · unfold Cert.RefMidIdeal.Value.res_main_v42
        rw [e0, e1, e2, e3, e4]
        exact hGrad_eq _ _ _ _ _
      · unfold Cert.RefMidIdeal.Value.res_main_v38
        rw [e0, e1, e2, e3, e4]
        exact (hDu_eq _ _).trans (congrArg (du · _) (hGrad_eq _ _ _ _ _))
      · unfold Cert.RefMidIdeal.Value.res_main_v41
        rw [e0, e1, e2, e3, e4]
        refine (hSums_eq (hGrad _ _ _ _ _) _).trans ?_
        rw [hGrad_eq]; rfl) (Cert.RefMidIdeal.Value.run m' g')⟩

end Cert.Grad.Mid

end
-- ==== Proof.NormPre.lean ====
/-
  The gradient of the norm before the mixer: the residual's gradient plus what the norm hands back, and the gain's
  gradient summed over the rows.
-/
module

public import proofs.«01_k».proof.Proof.Norm
public import proofs.«01_k».proof.Proof.Rows
public import proofs.«01_k».proof.Proof.Gen.NormPreIdeal.Value
public import proofs.«01_k».proof.Proof.Gen.RefNormPreIdeal.Run
public import proofs.«01_k».proof.Defs

@[expose] public section

noncomputable section

open scoped BigOperators

namespace Cert.Grad.NormPre

open Cert.NormPreIdeal Cert.NormPreIdeal.Gen Cert.NormPreIdeal.Value Cert.Rows Cert.Norm
open Idealize.ShloMosaic Idealize.ShloMosaic.TcCoe Idealize.SL.Sem

variable (m : (ℓ : Loc nD τ sig) → Buf (Elt Ideal) ℓ)

/-- The gradient of `x`. -/
def dx (x d0 d : (⟨2, ![4096, 1024]⟩ : Shape).Idx → EReal) (g : (⟨2, ![1, 1024]⟩ : Shape).Idx → EReal) :
    (⟨2, ![4096, 1024]⟩ : Shape).Idx → EReal := fun j => d0 j + normGrad x g d j

theorem pay6 (x d0 d : Vec Ideal S512x1024 .f32) (g : Vec Ideal S1x1024 .f32) (j : S512x1024.Idx) :
    k0_pay6 (F := Ideal) x d0 d g j = d0 j + rmsGrad (row x (j 0)) (row g 0) (row d (j 0)) (j 1) := by
  unfold rmsGrad squareGrad scale meanSq
  pointwise [k0_pay6, k0_pay4, k0_pay3, row]
  simp only [Finset.univ_unique, Finset.sum_const, Finset.card_singleton, one_smul]

theorem pay5 (x d : Vec Ideal S512x1024 .f32) (acc : Vec Ideal S1x1024 .f32) (j : S1x1024.Idx) :
    k0_pay2 (F := Ideal) (k0_pay5 x d) acc j = acc j + ∑ a : Fin 512, gainGrad (row x a) (row d a) (j 1) := by
  obtain ⟨l, rfl⟩ : ∃ l, j = ix2 0 l := ⟨j 1, single_ix j⟩
  unfold gainGrad scale meanSq
  pointwise [k0_pay2, k0_pay5, k0_pay4, k0_pay3, row]

theorem zero (j : S1x1024.Idx) : k0_pay1 (F := Ideal) j = 0 := by pointwise [k0_pay1]

/-- The blocks that the windows name at a point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] := by
  decide +kernel

theorem blk0 (c : Dev nD) (t : Fin cfg0.N) (a : Fin 512) : row (iblk m c 0 t) a
    = row (m ((c : Thread nD τ).loc main_arg0)) (tileRow rfl t a) := by
  funext k; blk_ext [iblk, V, idx, tileRow, row]

theorem blk1 (c : Dev nD) (t : Fin cfg0.N) (a : Fin 512) (k : Fin 1024) : iblk m c 1 t (ix2 a k)
    = m ((c : Thread nD τ).loc main_arg1) (ix2 (tileRow rfl t a) k) := by
  blk_ext [iblk, V, idx, tileRow]

theorem blk2 (c : Dev nD) (t : Fin cfg0.N) (a : Fin 512) : row (iblk m c 2 t) a
    = row (m ((c : Thread nD τ).loc main_arg2)) (tileRow rfl t a) := by
  funext k; blk_ext [iblk, V, idx, tileRow, row]

theorem blk3 (c : Dev nD) (t : Fin cfg0.N) : row (iblk m c 3 t) 0 = row (m ((c : Thread nD τ).loc main_arg3)) 0 := by
  funext k; blk_ext [iblk, V, idx, row]

theorem out4 (c : Dev nD) (t : Fin cfg0.N) : (outsAt0 m c t.val t.isLt).1
    = k0_pay6 (F := Ideal) (iblk m c 0 t) (iblk m c 1 t) (iblk m c 2 t) (iblk m c 3 t) := by
  funext j
  by_cases h0 : t.val % 8 = 0
  · rw [outsAt0_A m c t h0]; frame_out
  · rw [outsAt0_B m c t h0]; frame_out

/-- **The array of the rows' gradients.** -/
theorem final4 (c : Dev nD) : (dats m 0 c).arrAt 4 cfg0.N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf j => ?_
  blk_simp
  obtain ⟨a, l, rfl⟩ : ∃ a l, j = ix2 a l := ⟨j 0, j 1, (ix2_eta j).symm⟩
  have he : (win0_4.blk t).view.emb (ix2 a l) = ix2 (tileRow rfl t a) l := by blk_ext [idx, tileRow]
  rw [after0_4, out4, pay6, he]
  simp only [dx, normGrad, ix2_0, ix2_1, blk0, blk1, blk2, blk3]

/-- **The gain's gradient.** -/
theorem final5 (c : Dev nD) : (dats m 0 c).arrAt 5 cfg0.N
    = gainSum (m ((c : Thread nD τ).loc main_arg0)) (m ((c : Thread nD τ).loc main_arg2)) := by
  refine (dats m 0 c).arrAt_eq_of_covers 5 _ (by decide +kernel) fun t hf j => ?_
  have h1 : (win0_5.blk t).view.emb j 1 = j 1 := Fin.ext (by blk_simp [idx])
  have hr : ∀ (t : Fin cfg0.N) (acc : Vec Ideal S1x1024 .f32) (j : S1x1024.Idx),
      k0_pay2 (F := Ideal) (k0_pay5 (iblk m c 0 t) (iblk m c 2 t)) acc j = acc j + ∑ a : Fin 512,
        gainGrad (row (m ((c : Thread nD τ).loc main_arg0)) (tileRow rfl t a))
          (row (m ((c : Thread nD τ).loc main_arg2)) (tileRow rfl t a)) (j 1) := by
    intro t acc j
    rw [pay5]
    simp only [blk0, blk2]
  rw [after0_5]
  refine (acc_rows rfl (fun n h => (outsAt0 m c n h).2) (fun r j => gainGrad (row (m ((c : Thread nD τ).loc main_arg0)) r)
    (row (m ((c : Thread nD τ).loc main_arg2)) r) (j 1)) (fun t h j => ?_) (fun t h j => ?_) t ((flush0_5 t).mp hf) j).trans ?_
  · rw [outsAt0_A m c t h]; frame_out; exact (hr t _ j).trans (congrArg (· + _) (zero j))
  · rw [outsAt0_B m c t h]; frame_out; exact hr t _ j
  · unfold gainSum; rw [h1]

/-- **The call computes the derivative.** -/
theorem algebraic : Cert.algebraic_NormPreIdeal_RefNormPreIdeal := fun m g m' g' _ hag =>
  ⟨fun c => _, fun c => _,
    (θ_run _ _ _).mono (fun _ h c => ⟨(h c).1.trans (final4 m c), (h c).2.1.trans (final5 m c), (h c).2.2⟩) (run_blocks m g),
    (θ_run _ _ _).mono (fun _ h c => by
      obtain ⟨e0, e1, e2, e3⟩ := hag c
      refine ⟨(h c).1.trans ?_, (h c).2.1.trans ?_, (h c).2.2⟩
      · rw [e0, e1, e2, e3]; funext j
        unfold dx normGrad rmsGrad squareGrad scale meanSq
        pointwise! [row]
        simp only [Finset.univ_unique, Finset.sum_const, Finset.card_singleton, one_smul]
        exact add_comm _ _
      · rw [e0, e2]; funext j
        unfold gainSum gainGrad scale meanSq
        pointwise! [row]) (Cert.RefNormPreIdeal.Value.run m' g')⟩

end Cert.Grad.NormPre

end
-- ==== Proof.Scales.lean ====
/-
  The loss's constants as real numbers, and sums of non-negative numbers times a constant.
-/
module

public import Idealize.ShloMosaic.Lib.Pointwise

@[expose] public section

noncomputable section

open scoped BigOperators

namespace Cert.Scales

open Idealize.ShloMosaic

/-- `1/2`, `2`, `1024`, `1/2048` and `1/1024` as the programs write them. -/
abbrev cHalf : EReal := Ideal.ofBits FTy.f32 1056964608#32
abbrev cTwo : EReal := Ideal.ofBits FTy.f32 1073741824#32
abbrev cN : EReal := Ideal.ofBits FTy.f32 1149239296#32
abbrev cS : EReal := Ideal.ofBits FTy.f32 973078528#32
abbrev cM : EReal := Ideal.ofBits FTy.f32 981467136#32

theorem half : cHalf = ((1 / 2 : ℝ) : EReal) := by
  simp [cHalf, Ideal.ofBits, Ideal.ieee, -EReal.coe_mul]; norm_num

theorem two : cTwo = ((2 : ℝ) : EReal) := by
  simp [cTwo, Ideal.ofBits, Ideal.ieee, -EReal.coe_mul]; norm_num

theorem thousand : cN = ((1024 : ℝ) : EReal) := by
  simp [cN, Ideal.ofBits, Ideal.ieee, -EReal.coe_mul]; norm_num

theorem small : cS = ((1 / 2048 : ℝ) : EReal) := by
  simp [cS, Ideal.ofBits, Ideal.ieee, -EReal.coe_mul]; norm_num

theorem mean : cM = ((1 / 1024 : ℝ) : EReal) := by
  simp [cM, Ideal.ofBits, Ideal.ieee, -EReal.coe_mul]; norm_num

/-- Dividing by `1024` is multiplying by its inverse. -/
theorem div_thousand (s : EReal) : Ideal.div s cN = s * ((1 / 1024 : ℝ) : EReal) := by
  have h : ((1024 : ℝ) : EReal) ≠ 0 := by norm_num
  rw [thousand, Ideal.div, if_neg h, ← EReal.coe_inv]
  norm_num

/-- What each entry of the difference receives. -/
theorem scale_eq (d : EReal) : Ideal.div (cHalf * 1) cN * (cTwo * d) = d * cM := by
  rw [div_thousand, half, two, mean, mul_one, ← mul_assoc, ← EReal.coe_mul, ← EReal.coe_mul, mul_comm]
  norm_num

/-- Half of the mean of a row. -/
theorem half_mean (s : EReal) : cHalf * Ideal.div s cN = s * cS := by
  rw [div_thousand, half, small, mul_left_comm, ← EReal.coe_mul]
  norm_num

theorem square_nonneg (x : EReal) : 0 ≤ x * x := by
  rcases le_total 0 x with h | h
  · exact mul_nonneg h h
  · have := mul_nonneg (EReal.neg_nonneg.mpr h) (EReal.neg_nonneg.mpr h)
    rwa [EReal.neg_mul, mul_comm, EReal.neg_mul, neg_neg] at this

/-- A constant goes into a sum of non-negative numbers. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

end Cert.Scales

end
-- ==== Proof.HostLoss.lean ====
/-
  What the loss head computes, entry by entry; and the same as the reference's host operations compute it.
-/
module

public import proofs.«01_k».proof.Proof.HostNorm
public import proofs.«01_k».proof.Proof.Scales
public import proofs.«01_k».proof.Proof.Gen.RefLossIdeal.Run

@[expose] public section

noncomputable section

open scoped BigOperators

namespace Cert.Grad.Loss

open Cert.RefLossIdeal Cert.RefLossIdeal.Gen Cert.Rows Cert.Norm Cert.HostNorm Cert.Scales
open Idealize.ShloMosaic Idealize.ShloMosaic.TcCoe Idealize.SL.Sem

/-- The difference from the target. -/
def miss {M : ℕ} (x f t : (⟨2, ![M, 1024]⟩ : Shape).Idx → EReal) (g : (⟨2, ![1, 1024]⟩ : Shape).Idx → EReal) :
    (⟨2, ![M, 1024]⟩ : Shape).Idx → EReal := fun j => x j + normRows f g j - t j

/-- The gradient of the stream. -/
def dx2 {M : ℕ} (x f t : (⟨2, ![M, 1024]⟩ : Shape).Idx → EReal) (g : (⟨2, ![1, 1024]⟩ : Shape).Idx → EReal) :
    (⟨2, ![M, 1024]⟩ : Shape).Idx → EReal := fun j => miss x f t g j * cM

/-- A row's part of the loss. -/
def rowLoss (d : Fin 1024 → EReal) : EReal := (∑ k, d k * d k) * cS

/-- The difference as the reference's host operations compute it. -/
def hMiss (x f t : FVec Ideal S4096x1024 .f32) (g : FVec Ideal S1x1024 .f32) : FVec Ideal S4096x1024 .f32 :=
  subf (addf x (hNorm f g)) t

theorem hMiss_eq (x f t : FVec Ideal S4096x1024 .f32) (g : FVec Ideal S1x1024 .f32) : hMiss x f t g = miss x f t g := by
  unfold hMiss; rw [hNorm_eq]; rfl

/-- The gradient of the stream, from the difference. -/
def hGrad2 (e : FVec Ideal S4096x1024 .f32) : FVec Ideal S4096x1024 .f32 :=
  mulf (broadcastInDim S4096x1024 ![0] bcast_S4096_S4096x1024_0 (Host.divf (broadcastInDim S4096 ![] bcast_S_S4096
    (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) e)

theorem hGrad2_eq (e : FVec Ideal S4096x1024 .f32) : hGrad2 e = fun j => e j * cM := by
  funext j
  rw [← scale_eq]
  pointwise [hGrad2]

/-- The loss, from the difference. -/
def hLoss (e : FVec Ideal S4096x1024 .f32) : FVec Ideal S1x1024 .f32 :=
  broadcastInDim S1x1024 ![] bcast_S_S1x1024 (mulf (constant S_ .f32 0x3F000000#32) (Host.reduceAdd (Host.divf (Host.reduceAdd
    (mulf e e) (constant S_ .f32 0x00000000#32) reducesTo_S4096x1024_S4096_d1 h_S_)
    (broadcastInDim S4096 ![] bcast_S_S4096 (constant S_ .f32 0x44800000#32))) (constant S_ .f32 0x00000000#32)
    reducesTo_S4096_S_d0 h_S_))

theorem hLoss_eq (e : FVec Ideal S4096x1024 .f32) :
    hLoss e = (fun _ => ∑ r : Fin 4096, rowLoss (row e r) : (⟨2, ![1, 1024]⟩ : Shape).Idx → EReal) := by
  funext j
  unfold rowLoss
  simp only [← half_mean]
  have hn : ∀ r : Fin 4096, 0 ≤ Ideal.div (∑ k, row e r k * row e r k) cN := fun r => by
    rw [div_thousand]
    exact mul_nonneg (Finset.sum_nonneg fun k _ => square_nonneg _) (EReal.coe_nonneg.mpr (by norm_num))
  rw [show (∑ r : Fin 4096, cHalf * Ideal.div (∑ k, row e r k * row e r k) cN)
      = cHalf * ∑ r : Fin 4096, Ideal.div (∑ k, row e r k * row e r k) cN from by
    rw [mul_comm cHalf, sum_mul_of_nonneg _ _ hn]
    exact Finset.sum_congr rfl fun r _ => mul_comm _ _]
  pointwise [hLoss, row]

end Cert.Grad.Loss

end
-- ==== Proof.Loss.lean ====
/-
  The loss head: the loss, half the sum over the rows of the mean square of the difference, and its gradient with respect
  to the stream, to the feed-forward's result and to the last norm's gain.
-/
module

public import proofs.«01_k».proof.Proof.HostLoss
public import proofs.«01_k».proof.Proof.Gen.LossIdeal.Value
public import proofs.«01_k».proof.Defs

@[expose] public section

noncomputable section

open scoped BigOperators

namespace Cert.Grad.Loss

open Cert.LossIdeal Cert.LossIdeal.Gen Cert.LossIdeal.Value Cert.Rows Cert.Norm Cert.HostNorm Cert.Scales
open Idealize.ShloMosaic Idealize.ShloMosaic.TcCoe Idealize.SL.Sem

variable (m : (ℓ : Loc nD τ sig) → Buf (Elt Ideal) ℓ)

theorem pay9 (x f t : Vec Ideal S512x1024 .f32) (g : Vec Ideal S1x1024 .f32) :
    k0_pay9 (F := Ideal) x f t g = miss x f t g := by
  funext j
  unfold miss normRows rms scale meanSq
  pointwise [k0_pay9, k0_pay8, k0_pay7, k0_pay6, row]

theorem pay11 (x f t : Vec Ideal S512x1024 .f32) (g : Vec Ideal S1x1024 .f32) :
    k0_pay11 (F := Ideal) x f t g = dx2 x f t g := by
  funext j
  unfold dx2
  rw [← pay9]
  pointwise [k0_pay11]

theorem pay10 (x f t : Vec Ideal S512x1024 .f32) (g : Vec Ideal S1x1024 .f32) (acc : Vec Ideal S1x1024 .f32) (j : S1x1024.Idx) :
    k0_pay4 (F := Ideal) (k0_pay10 x f t g) acc j = acc j + ∑ a : Fin 512, rowLoss (row (miss x f t g) a) := by
  unfold rowLoss
  rw [← sum_mul_of_nonneg _ _ (fun a => Finset.sum_nonneg fun k _ => square_nonneg _), ← pay9]
  pointwise [k0_pay4, k0_pay10, row]

theorem pay1 (x f t : Vec Ideal S512x1024 .f32) (g : Vec Ideal S1x1024 .f32) (j : S512x1024.Idx) :
    k0_pay1 (F := Ideal) f (k0_pay14 x f t g) (k0_pay15 x f t g) k0_pay16 j = normGrad f g (dx2 x f t g) j := by
  rw [← pay11]
  unfold normGrad rmsGrad squareGrad scale meanSq
  pointwise [k0_pay1, k0_pay13, k0_pay14, k0_pay15, k0_pay16, k0_pay7, k0_pay6, row]
  simp only [Finset.univ_unique, Finset.sum_const, Finset.card_singleton, one_smul]

theorem pay12 (x f t : Vec Ideal S512x1024 .f32) (g : Vec Ideal S1x1024 .f32) (acc : Vec Ideal S1x1024 .f32) (j : S1x1024.Idx) :
    k0_pay5 (F := Ideal) (k0_pay12 x f t g) acc j
      = acc j + ∑ a : Fin 512, gainGrad (row f a) (row (dx2 x f t g) a) (j 1) := by
  obtain ⟨l, rfl⟩ : ∃ l, j = ix2 0 l := ⟨j 1, single_ix j⟩
  rw [← pay11]
  unfold gainGrad scale meanSq
  pointwise [k0_pay5, k0_pay12, k0_pay8, k0_pay7, k0_pay6, row]

theorem zero2 (j : S1x1024.Idx) : k0_pay2 (F := Ideal) j = 0 := by pointwise [k0_pay2]

theorem zero3 (j : S1x1024.Idx) : k0_pay3 (F := Ideal) j = 0 := by pointwise [k0_pay3]

/-- The blocks that the windows name at a point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] := by
  decide +kernel

theorem blk0 (c : Dev nD) (t : Fin cfg0.N) (a : Fin 512) (k : Fin 1024) : iblk m c 0 t (ix2 a k)
    = m ((c : Thread nD τ).loc main_arg0) (ix2 (tileRow rfl t a) k) := by
  blk_ext [iblk, V, idx, tileRow]

theorem blk1 (c : Dev nD) (t : Fin cfg0.N) (a : Fin 512) : row (iblk m c 1 t) a
    = row (m ((c : Thread nD τ).loc main_arg1)) (tileRow rfl t a) := by
  funext k; blk_ext [iblk, V, idx, tileRow, row]

theorem blk2 (c : Dev nD) (t : Fin cfg0.N) (a : Fin 512) (k : Fin 1024) : iblk m c 2 t (ix2 a k)
    = m ((c : Thread nD τ).loc main_arg2) (ix2 (tileRow rfl t a) k) := by
  blk_ext [iblk, V, idx, tileRow]

theorem blk3 (c : Dev nD) (t : Fin cfg0.N) : row (iblk m c 3 t) 0 = row (m ((c : Thread nD τ).loc main_arg3)) 0 := by
  funext k; blk_ext [iblk, V, idx, row]

/-- The difference in the device's memory. -/
def E (c : Dev nD) : (⟨2, ![4096, 1024]⟩ : Shape).Idx → EReal :=
  miss (m ((c : Thread nD τ).loc main_arg0)) (m ((c : Thread nD τ).loc main_arg1)) (m ((c : Thread nD τ).loc main_arg2))
    (m ((c : Thread nD τ).loc main_arg3))

/-- The gradient of the stream in the device's memory. -/
def D (c : Dev nD) : (⟨2, ![4096, 1024]⟩ : Shape).Idx → EReal := fun j => E m c j * cM

theorem blkE (c : Dev nD) (t : Fin cfg0.N) (a : Fin 512) :
    row (miss (M := 512) (iblk m c 0 t) (iblk m c 1 t) (iblk m c 2 t) (iblk m c 3 t)) a = row (E m c) (tileRow rfl t a) := by
  funext k
  simp only [E, miss, normRows, row_apply, ix2_0, ix2_1, blk0, blk1, blk2, blk3]

theorem blkD (c : Dev nD) (t : Fin cfg0.N) (a : Fin 512) :
    row (dx2 (M := 512) (iblk m c 0 t) (iblk m c 1 t) (iblk m c 2 t) (iblk m c 3 t)) a = row (D m c) (tileRow rfl t a) := by
  funext k
  exact congrArg (· * cM) (congrFun (blkE m c t a) k)

theorem out4 (c : Dev nD) (t : Fin cfg0.N) : (outsAt0 m c t.val t.isLt).1
    = k0_pay1 (F := Ideal) (iblk m c 1 t) (k0_pay14 (iblk m c 0 t) (iblk m c 1 t) (iblk m c 2 t) (iblk m c 3 t))
        (k0_pay15 (iblk m c 0 t) (iblk m c 1 t) (iblk m c 2 t) (iblk m c 3 t)) k0_pay16 := by
  funext j
  by_cases h0 : t.val % 8 = 0
  · rw [outsAt0_A m c t h0]; frame_out
  · rw [outsAt0_B m c t h0]; frame_out

theorem out5 (c : Dev nD) (t : Fin cfg0.N) : (outsAt0 m c t.val t.isLt).2.1
    = k0_pay11 (F := Ideal) (iblk m c 0 t) (iblk m c 1 t) (iblk m c 2 t) (iblk m c 3 t) := by
  funext j
  by_cases h0 : t.val % 8 = 0
  · rw [outsAt0_A m c t h0]; frame_out
  · rw [outsAt0_B m c t h0]; frame_out

/-- **The gradient of the feed-forward's result.** -/
theorem final4 (c : Dev nD) : (dats m 0 c).arrAt 4 cfg0.N
    = normGrad (m ((c : Thread nD τ).loc main_arg1)) (m ((c : Thread nD τ).loc main_arg3)) (D m c) := by
  refine (dats m 0 c).arrAt_eq_of_covers 4 _ (by decide +kernel) fun t hf j => ?_
  blk_simp
  obtain ⟨a, l, rfl⟩ : ∃ a l, j = ix2 a l := ⟨j 0, j 1, (ix2_eta j).symm⟩
  have he : (win0_4.blk t).view.emb (ix2 a l) = ix2 (tileRow rfl t a) l := by blk_ext [idx, tileRow]
  rw [after0_4, out4, pay1, he]
  simp only [normGrad, ix2_0, ix2_1, blk1, blk3, blkD]

/-- **The gradient of the stream.** -/
theorem final5 (c : Dev nD) : (dats m 0 c).arrAt 5 cfg0.N = D m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5, out5, pay11, he]
  exact congrFun (blkD m c t a) l

/-- **The loss**, in every entry of a row. -/
theorem final6 (c : Dev nD) : (dats m 0 c).arrAt 6 cfg0.N
    = (fun _ => ∑ r : Fin 4096, rowLoss (row (E m c) r) : (⟨2, ![1, 1024]⟩ : Shape).Idx → EReal) := by
  refine (dats m 0 c).arrAt_eq_of_covers 6 _ (by decide +kernel) fun t hf j => ?_
  have hr : ∀ (t : Fin cfg0.N) (acc : Vec Ideal S1x1024 .f32) (j : S1x1024.Idx),
      k0_pay4 (F := Ideal) (k0_pay10 (iblk m c 0 t) (iblk m c 1 t) (iblk m c 2 t) (iblk m c 3 t)) acc j
        = acc j + ∑ a : Fin 512, rowLoss (row (E m c) (tileRow rfl t a)) := by
    intro t acc j
    rw [pay10]
    simp only [blkE]
  rw [after0_6]
  refine (acc_rows rfl (fun n h => (outsAt0 m c n h).2.2.1) (fun r _ => rowLoss (row (E m c) r))
    (fun t h j => ?_) (fun t h j => ?_) t ((flush0_6 t).mp hf) j).trans ?_
  · rw [outsAt0_A m c t h]; frame_out; exact (hr t _ j).trans (congrArg (· + _) (zero2 j))
  · rw [outsAt0_B m c t h]; frame_out; exact hr t _ j
  · rfl

/-- **The gradient of the gain.** -/
theorem final7 (c : Dev nD) : (dats m 0 c).arrAt 7 cfg0.N = gainSum (m ((c : Thread nD τ).loc main_arg1)) (D m c) := by
  refine (dats m 0 c).arrAt_eq_of_covers 7 _ (by decide +kernel) fun t hf j => ?_
  have h1 : (win0_7.blk t).view.emb j 1 = j 1 := Fin.ext (by blk_simp [idx])
  have hr : ∀ (t : Fin cfg0.N) (acc : Vec Ideal S1x1024 .f32) (j : S1x1024.Idx),
      k0_pay5 (F := Ideal) (k0_pay12 (iblk m c 0 t) (iblk m c 1 t) (iblk m c 2 t) (iblk m c 3 t)) acc j
        = acc j + ∑ a : Fin 512, gainGrad (row (m ((c : Thread nD τ).loc main_arg1)) (tileRow rfl t a))
            (row (D m c) (tileRow rfl t a)) (j 1) := by
    intro t acc j
    rw [pay12]
    simp only [blk1, blkD]
  rw [after0_7]
  refine (acc_rows rfl (fun n h => (outsAt0 m c n h).2.2.2) (fun r j => gainGrad (row (m ((c : Thread nD τ).loc main_arg1)) r)
    (row (D m c) r) (j 1)) (fun t h j => ?_) (fun t h j => ?_) t ((flush0_7 t).mp hf) j).trans ?_
  · rw [outsAt0_A m c t h]; frame_out; exact (hr t _ j).trans (congrArg (· + _) (zero3 j))
  · rw [outsAt0_B m c t h]; frame_out; exact hr t _ j
  · unfold gainSum; rw [h1]

/-- **The call computes the loss and its derivative.** -/
theorem algebraic : Cert.algebraic_LossIdeal_RefLossIdeal := fun m g m' g' _ hag =>
  ⟨fun c => _, fun c => _, fun c => _, fun c => _,
    (θ_run _ _ _).mono (fun _ h c => ⟨(h c).1.trans (final4 m c), (h c).2.1.trans (final5 m c), (h c).2.2.1.trans (final6 m c),
      (h c).2.2.2.1.trans (final7 m c), (h c).2.2.2.2⟩) (run_blocks m g),
    (θ_run _ _ _).mono (fun _ h c => by
      obtain ⟨e0, e1, e2, e3⟩ := hag c
      have hd : hGrad2 (hMiss (m ((c.tc : Thread nD τ).loc main_arg0)) (m ((c.tc : Thread nD τ).loc main_arg1))
          (m ((c.tc : Thread nD τ).loc main_arg2)) (m ((c.tc : Thread nD τ).loc main_arg3))) = D m c := by
        rw [hGrad2_eq, hMiss_eq]; rfl
      refine ⟨(h c).1.trans ?_, (h c).2.1.trans ?_, (h c).2.2.1.trans ?_, (h c).2.2.2.1.trans ?_, (h c).2.2.2.2⟩
      · unfold Cert.RefLossIdeal.Value.res_main_v50
        rw [e0, e1, e2, e3]
        refine (hGrad_eq _ (hGrad2 (hMiss _ _ _ _)) _).trans ?_
        rw [hd]
      · rw [e0, e1, e2, e3]
        exact hd
      · rw [e0, e1, e2, e3]
        refine (hLoss_eq (hMiss _ _ _ _)).trans ?_
        rw [hMiss_eq]; rfl
      · rw [e0, e1, e2, e3]
        refine (hGain_eq _ (hGrad2 (hMiss _ _ _ _))).trans ?_
        rw [hd]) (Cert.RefLossIdeal.Value.run m' g')⟩

end Cert.Grad.Loss

end
-- ==== Proof.Forward.lean ====
/-
  Forward calls that walk the 4096 rows of a device in blocks and multiply each block by a weight: rows of blocks of any
  height, and when two products agree at an entry.
-/
module

public import proofs.«01_k».proof.Proof.Rows
public import proofs.«01_k».proof.Proof.Products

@[expose] public section

noncomputable section

open scoped BigOperators

namespace Cert.Forward

open Idealize.ShloMosaic Cert.Products

/-- Row `a` of the block of `B` rows at point `t`. -/
def blockRow {P B : ℕ} (hP : P * B = 4096) (t : Fin P) (a : Fin B) : Fin 4096 :=
  ⟨B * t.val + a.val, by
    have h : B * (t.val + 1) ≤ B * P := Nat.mul_le_mul_left B t.isLt
    have ha := a.isLt
    rw [Nat.mul_comm P B] at hP
    rw [Nat.mul_succ] at h
    omega⟩

/-- Two products agree at an entry where the rows and the columns agree. -/
theorem plain_congr {K M M' N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal} {a : Fin M} {a' : Fin M'}
    {l : Fin N} {l' : Fin N'} (hx : ∀ k, x (ix2 a k) = x' (ix2 a' k)) (hw : ∀ k, w (ix2 k l) = w' (ix2 k l')) :
    plain x w (ix2 a l) = plain x' w' (ix2 a' l') :=
  Finset.sum_congr rfl fun k _ => congrArg₂ (· * ·) (hx k) (hw k)

/-- The same where the second operand is transposed. -/
theorem overColumns_congr {K M M' N N' : ℕ} {x : (⟨2, ![M, K]⟩ : Shape).Idx → EReal}
    {x' : (⟨2, ![M', K]⟩ : Shape).Idx → EReal} {w : (⟨2, ![N, K]⟩ : Shape).Idx → EReal}
    {w' : (⟨2, ![N', K]⟩ : Shape).Idx → EReal} {a : Fin M} {a' : Fin M'} {l : Fin N} {l' : Fin N'}
    (hx : ∀ k, x (ix2 a k) = x' (ix2 a' k)) (hw : ∀ k, w (ix2 l k) = w' (ix2 l' k)) :
    overColumns x w (ix2 a l) = overColumns x' w' (ix2 a' l') :=
  Finset.sum_congr rfl fun k _ => congrArg₂ (· * ·) (hx k) (hw k)

end Cert.Forward

end
-- ==== Proof.InProj.lean ====
/-
  The step's entry in the forward pass: the norm of the input and its product with the input weights, whose rows hold the
  weight's columns; the product is handed out in three ranges of columns.
-/
module

public import proofs.«01_k».proof.Proof.HostNorm
public import Idealize.ShloMosaic.Lib.Pipeline.ValueKit.Tiles
public import proofs.«01_k».proof.Proof.Forward
public import proofs.«01_k».proof.Proof.Gen.InProjIdeal.Value
public import proofs.«01_k».proof.Proof.Gen.RefInProjIdeal.Run
public import proofs.«01_k».proof.Defs

@[expose] public section

noncomputable section

open scoped BigOperators

namespace Cert.Grad.InProj

open Cert.InProjIdeal Cert.InProjIdeal.Gen Cert.InProjIdeal.Value Cert.Rows Cert.Norm Cert.Products Cert.Forward
open Idealize.ShloMosaic Idealize.ShloMosaic.TcCoe Idealize.SL.Sem

variable (m : (ℓ : Loc nD τ sig) → Buf (Elt Ideal) ℓ)

/-- The columns of a product with transposed weights that start at `o`. -/
def part {M N : ℕ} (o : ℕ) (ho : o + N ≤ 4352) (x : (⟨2, ![M, 1024]⟩ : Shape).Idx → EReal)
    (w : (⟨2, ![4352, 1024]⟩ : Shape).Idx → EReal) : (⟨2, ![M, N]⟩ : Shape).Idx → EReal :=
  fun j => overColumns x w (ix2 (j 0) ⟨o + (j 1).val, lt_of_lt_of_le (Nat.add_lt_add_left (j 1).isLt o) ho⟩)

theorem pay1 (x : Vec Ideal S256x1024 .f32) (g : Vec Ideal S1x1024 .f32) : k0_pay1 (F := Ideal) x g = normRows x g := by
  funext j
  unfold normRows rms scale meanSq
  pointwise [k0_pay1, row]

theorem pay2 (x : Vec Ideal S256x1024 .f32) (g : Vec Ideal S1x1024 .f32) (w : Vec Ideal S1792x1024 .bf16) :
    k0_pay2 (F := Ideal) x g w = overColumns (M := 256) (normRows x g) w := by
  funext j
  unfold overColumns
  rw [← pay1]
  pointwise [k0_pay2]

theorem pay3 (x : Vec Ideal S256x1024 .f32) (g : Vec Ideal S1x1024 .f32) (w : Vec Ideal S512x1024 .bf16) :
    k0_pay3 (F := Ideal) x g w = overColumns (M := 256) (normRows x g) w := by
  funext j
  unfold overColumns
  rw [← pay1]
  pointwise [k0_pay3]

theorem pay4 (x : Vec Ideal S256x1024 .f32) (g : Vec Ideal S1x1024 .f32) (w : Vec Ideal S2048x1024 .bf16) :
    k0_pay4 (F := Ideal) x g w = overColumns (M := 256) (normRows x g) w := by
  funext j
  unfold overColumns
  rw [← pay1]
  pointwise [k0_pay4]

/-- The blocks that the windows name at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] := by
  decide +kernel

/-- Row `a` of the blocks at point `t`. -/
abbrev at' (t : Fin cfg0.N) (a : Fin 256) : Fin 4096 := blockRow rfl t a

theorem blk0 (c : Dev nD) (t : Fin cfg0.N) (a : Fin 256) : row (iblk m c 0 t) a
    = row (m ((c : Thread nD τ).loc main_arg0)) (at' t a) := by
  funext k; blk_ext [iblk, V, idx, at', blockRow, row]

theorem blk1 (c : Dev nD) (t : Fin cfg0.N) : row (iblk m c 1 t) 0 = row (m ((c : Thread nD τ).loc main_arg1)) 0 := by
  funext k; blk_ext [iblk, V, idx, row]

theorem blk2 (c : Dev nD) (t : Fin cfg0.N) (l : Fin 4352) (k : Fin 1024) : iblk m c 2 t (ix2 l k)
    = m ((c : Thread nD τ).loc main_arg2) (ix2 l k) := by
  blk_ext [iblk, V, idx]

theorem ld2 (c : Dev nD) (t : Fin cfg0.N) (k : Fin 1024) (l : Fin 1792) : View.ld (iblk m c 2 t) r0_2 (ix2 l k)
    = m ((c : Thread nD τ).loc main_arg2) (ix2 ⟨0 + l.val, by omega⟩ k) := by
  have h : r0_2.idx (ix2 l k) = ix2 ⟨0 + l.val, by omega⟩ k := by
    funext a
    match a with
    | 0 => exact Fin.ext (by simp [Rect.idx_unit_val])
    | 1 => exact Fin.ext (by simp [Rect.idx_unit_val])
  rw [View.ld_apply, h, blk2]

theorem ld4 (c : Dev nD) (t : Fin cfg0.N) (k : Fin 1024) (l : Fin 512) : View.ld (iblk m c 2 t) r0_4 (ix2 l k)
    = m ((c : Thread nD τ).loc main_arg2) (ix2 ⟨1792 + l.val, by omega⟩ k) := by
  have h : r0_4.idx (ix2 l k) = ix2 ⟨1792 + l.val, by omega⟩ k := by
    funext a
    match a with
    | 0 => exact Fin.ext (by simp [Rect.idx_unit_val])
    | 1 => exact Fin.ext (by simp [Rect.idx_unit_val])
  rw [View.ld_apply, h, blk2]

theorem ld6 (c : Dev nD) (t : Fin cfg0.N) (k : Fin 1024) (l : Fin 2048) : View.ld (iblk m c 2 t) r0_6 (ix2 l k)
    = m ((c : Thread nD τ).loc main_arg2) (ix2 ⟨2304 + l.val, by omega⟩ k) := by
  have h : r0_6.idx (ix2 l k) = ix2 ⟨2304 + l.val, by omega⟩ k := by
    funext a
    match a with
    | 0 => exact Fin.ext (by simp [Rect.idx_unit_val])
    | 1 => exact Fin.ext (by simp [Rect.idx_unit_val])
  rw [View.ld_apply, h, blk2]

/-- The norm in the device's memory. -/
def H (c : Dev nD) : (⟨2, ![4096, 1024]⟩ : Shape).Idx → EReal :=
  normRows (m ((c : Thread nD τ).loc main_arg0)) (m ((c : Thread nD τ).loc main_arg1))

theorem blkH (c : Dev nD) (t : Fin cfg0.N) (a : Fin 256) (k : Fin 1024) :
    normRows (M := 256) (iblk m c 0 t) (iblk m c 1 t) (ix2 a k) = H m c (ix2 (at' t a) k) := by
  simp only [H, normRows, ix2_0, ix2_1, blk0, blk1]

/-- **The norm, in the products' format.** -/
theorem final3 (c : Dev nD) : (dats m 0 c).arrAt 3 cfg0.N = H m c := by
  refine (dats m 0 c).arrAt_eq_of_covers 3 _ (by decide +kernel) fun t hf j => ?_
  blk_simp
  obtain ⟨a, l, rfl⟩ : ∃ a l, j = ix2 a l := ⟨j 0, j 1, (ix2_eta j).symm⟩
  have he : (win0_3.blk t).view.emb (ix2 a l) = ix2 (at' t a) l := by blk_ext [idx, at', blockRow]
  rw [after0_3]; frame_out
  rw [pay1, he]
  exact blkH m c t a l

/-- **The columns of the scan's branch.** -/
theorem final4 (c : Dev nD) : (dats m 0 c).arrAt 4 cfg0.N
    = part (N := 1792) 0 (by decide) (H m c) (m ((c : Thread nD τ).loc main_arg2)) := by
  refine (dats m 0 c).arrAt_eq_of_covers 4 _ (by decide +kernel) fun t hf j => ?_
  blk_simp
  obtain ⟨a, l, rfl⟩ : ∃ a l, j = ix2 a l := ⟨j 0, j 1, (ix2_eta j).symm⟩
  have he : (win0_4.blk t).view.emb (ix2 a l) = ix2 (at' t a) l := by blk_ext [idx, at', blockRow]
  rw [after0_4]; frame_out
  rw [pay2, he]
  exact overColumns_congr (fun k => blkH m c t a k) fun k => ld2 m c t k l

/-- **The columns of the state-space branch.** -/
theorem final5 (c : Dev nD) : (dats m 0 c).arrAt 5 cfg0.N
    = part (N := 512) 1792 (by decide) (H m c) (m ((c : Thread nD τ).loc main_arg2)) := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (at' t a) l := by blk_ext [idx, at', blockRow]
  rw [after0_5]; frame_out
  rw [pay3, he]
  exact overColumns_congr (fun k => blkH m c t a k) fun k => ld4 m c t k l

/-- **The columns of the gates.** -/
theorem final6 (c : Dev nD) : (dats m 0 c).arrAt 6 cfg0.N
    = part (N := 2048) 2304 (by decide) (H m c) (m ((c : Thread nD τ).loc main_arg2)) := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (at' t a) l := by blk_ext [idx, at', blockRow]
  rw [after0_6]; frame_out
  rw [pay4, he]
  exact overColumns_congr (fun k => blkH m c t a k) fun k => ld6 m c t k l

/-- **The call computes the reference's lines.** -/
theorem algebraic : Cert.algebraic_InProjIdeal_RefInProjIdeal := fun m g m' g' _ hag =>
  ⟨fun c => _, fun c => _, fun c => _, fun c => _,
    (θ_run _ _ _).mono (fun _ h c => ⟨(h c).1.trans (final3 m c), (h c).2.1.trans (final4 m c), (h c).2.2.1.trans (final5 m c),
      (h c).2.2.2.1.trans (final6 m c), (h c).2.2.2.2⟩) (run_blocks m g),
    (θ_run _ _ _).mono (fun _ h c => by
      obtain ⟨e0, e1, e2⟩ := hag c
      refine ⟨(h c).1.trans ?_, (h c).2.1.trans ?_, (h c).2.2.1.trans ?_, (h c).2.2.2.1.trans ?_, (h c).2.2.2.2⟩
      · rw [e0, e1]
        exact HostNorm.hNorm_eq _ _
      · rw [e0, e1, e2]; funext j
        unfold part overColumns H normRows rms scale meanSq
        pointwise! [row]
      · rw [e0, e1, e2]; funext j
        unfold part overColumns H normRows rms scale meanSq
        pointwise! [row]
      · rw [e0, e1, e2]; funext j
        unfold part overColumns H normRows rms scale meanSq
        pointwise! [row]) (Cert.RefInProjIdeal.Value.run m' g')⟩

end Cert.Grad.InProj

end
-- ==== Proof.MidUp.lean ====
/-
  The state-space branch's activation `gelu (y + d * u)` in the forward pass, and its product with the gate's weights.
-/
module

public import proofs.«01_k».proof.Proof.Rows
public import proofs.«01_k».proof.Proof.ConvSpec
public import proofs.«01_k».proof.Proof.Forward
public import proofs.«01_k».proof.Proof.Gen.MidUpIdeal.Value
public import proofs.«01_k».proof.Proof.Gen.RefMidUpIdeal.Run
public import proofs.«01_k».proof.Defs

@[expose] public section

noncomputable section

open scoped BigOperators

namespace Cert.Grad.MidUp

open Cert.MidUpIdeal Cert.MidUpIdeal.Gen Cert.MidUpIdeal.Value Cert.Rows Cert.Grad.Conv Cert.Products
open Idealize.ShloMosaic Idealize.ShloMosaic.TcCoe Idealize.SL.Sem

variable (m : (ℓ : Loc nD τ sig) → Buf (Elt Ideal) ℓ)

/-- The activation's argument. -/
def arg {M : ℕ} (y u : (⟨2, ![M, 512]⟩ : Shape).Idx → EReal) (d : (⟨2, ![1, 512]⟩ : Shape).Idx → EReal) :
    (⟨2, ![M, 512]⟩ : Shape).Idx → EReal := fun j => y j + d (ix2 0 (j 1)) * u j

/-- The activation. -/
def act {M : ℕ} (y u : (⟨2, ![M, 512]⟩ : Shape).Idx → EReal) (d : (⟨2, ![1, 512]⟩ : Shape).Idx → EReal) :
    (⟨2, ![M, 512]⟩ : Shape).Idx → EReal := fun j => arg y u d j * (kH * (1 + th (arg y u d j)))

theorem pay1 (y u : Vec Ideal S512x512 .f32) (d : Vec Ideal S1x512 .f32) : k0_pay1 (F := Ideal) y u d = act y u d := by
  funext j
  unfold act arg
  rw [← th_eq]
  pointwise [k0_pay1]
  exact (mul_assoc _ _ _).trans (mul_left_comm _ _ _)

theorem pay2 (y u : Vec Ideal S512x512 .f32) (d : Vec Ideal S1x512 .f32) : k0_pay2 (F := Ideal) y u d = act y u d := by
  rw [← pay1]; rfl

theorem pay3 (y u : Vec Ideal S512x512 .f32) (d : Vec Ideal S1x512 .f32) (w : Vec Ideal S512x512 .bf16) :
    k0_pay3 (F := Ideal) y u d w = plain (M := 512) (act y u d) w := by
  funext j
  unfold plain
  rw [← pay2]
  pointwise [k0_pay3]

/-- The blocks that the windows name at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] := by
  decide +kernel

theorem blk0 (c : Dev nD) (t : Fin cfg0.N) (a k : Fin 512) : iblk m c 0 t (ix2 a k)
    = m ((c : Thread nD τ).loc main_arg0) (ix2 (tileRow rfl t a) k) := by
  blk_ext [iblk, V, idx, tileRow]

theorem blk1 (c : Dev nD) (t : Fin cfg0.N) (a k : Fin 512) : iblk m c 1 t (ix2 a k)
    = m ((c : Thread nD τ).loc main_arg1) (ix2 (tileRow rfl t a) k) := by
  blk_ext [iblk, V, idx, tileRow]

theorem blk2 (c : Dev nD) (t : Fin cfg0.N) (k : Fin 512) : iblk m c 2 t (ix2 0 k)
    = m ((c : Thread nD τ).loc main_arg2) (ix2 0 k) := by
  blk_ext [iblk, V, idx]

theorem blk3 (c : Dev nD) (t : Fin cfg0.N) (k l : Fin 512) : iblk m c 3 t (ix2 k l)
    = m ((c : Thread nD τ).loc main_arg3) (ix2 k l) := by
  blk_ext [iblk, V, idx]

/-- The activation in the device's memory. -/
def G (c : Dev nD) : (⟨2, ![4096, 512]⟩ : Shape).Idx → EReal :=
  act (m ((c : Thread nD τ).loc main_arg0)) (m ((c : Thread nD τ).loc main_arg1)) (m ((c : Thread nD τ).loc main_arg2))

theorem blkG (c : Dev nD) (t : Fin cfg0.N) (a k : Fin 512) :
    act (M := 512) (iblk m c 0 t) (iblk m c 1 t) (iblk m c 2 t) (ix2 a k) = G m c (ix2 (tileRow rfl t a) k) := by
  simp only [G, act, arg, ix2_0, ix2_1, blk0, blk1, blk2]

/-- **The activation, in the products' format.** -/
theorem final4 (c : Dev nD) : (dats m 0 c).arrAt 4 cfg0.N = G m c := by
  refine (dats m 0 c).arrAt_eq_of_covers 4 _ (by decide +kernel) fun t hf j => ?_
  blk_simp
  obtain ⟨a, l, rfl⟩ : ∃ a l, j = ix2 a l := ⟨j 0, j 1, (ix2_eta j).symm⟩
  have he : (win0_4.blk t).view.emb (ix2 a l) = ix2 (tileRow rfl t a) l := by blk_ext [idx, tileRow]
  rw [after0_4]; frame_out
  rw [pay2, he]
  exact blkG m c t a l

/-- **The activation.** -/
theorem final5 (c : Dev nD) : (dats m 0 c).arrAt 5 cfg0.N = G m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5]; frame_out
  rw [pay1, he]
  exact blkG m c t a l

/-- **Its product with the weights.** -/
theorem final6 (c : Dev nD) : (dats m 0 c).arrAt 6 cfg0.N = plain (G m c) (m ((c : Thread nD τ).loc main_arg3)) := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (tileRow rfl t a) l := by blk_ext [idx, tileRow]
  rw [after0_6]; frame_out
  rw [pay3, he]
  exact Forward.plain_congr (fun k => blkG m c t a k) fun k => blk3 m c t k l

/-- **The call computes the reference's lines.** -/
theorem algebraic : Cert.algebraic_MidUpIdeal_RefMidUpIdeal := fun m g m' g' _ hag =>
  ⟨fun c => _, fun c => _, fun c => _,
    (θ_run _ _ _).mono (fun _ h c => ⟨(h c).1.trans (final4 m c), (h c).2.1.trans (final5 m c), (h c).2.2.1.trans (final6 m c),
      (h c).2.2.2⟩) (run_blocks m g),
    (θ_run _ _ _).mono (fun _ h c => by
      obtain ⟨e0, e1, e2, e3⟩ := hag c
      refine ⟨(h c).1.trans ?_, (h c).2.1.trans ?_, (h c).2.2.1.trans ?_, (h c).2.2.2⟩
      · rw [e0, e1, e2]; funext j
        unfold G act arg th
        pointwise!
      · rw [e0, e1, e2]; funext j
        unfold G act arg th
        pointwise!
      · rw [e0, e1, e2, e3]; funext j
        unfold plain G act arg th
        pointwise!) (Cert.RefMidUpIdeal.Value.run m' g')⟩

end Cert.Grad.MidUp

end
-- ==== Proof.GluUp.lean ====
/-
  The state-space branch's gated unit `y * sigmoid (z + b)` in the forward pass, and its product with the branch's weights.
-/
module

public import proofs.«01_k».proof.Proof.Rows
public import proofs.«01_k».proof.Proof.Gate
public import proofs.«01_k».proof.Proof.Forward
public import proofs.«01_k».proof.Proof.Gen.GluUpIdeal.Value
public import proofs.«01_k».proof.Proof.Gen.RefGluUpIdeal.Run
public import proofs.«01_k».proof.Defs

@[expose] public section

noncomputable section

open scoped BigOperators

namespace Cert.Grad.GluUp

open Cert.GluUpIdeal Cert.GluUpIdeal.Gen Cert.GluUpIdeal.Value Cert.Rows Cert.Gate Cert.Products
open Idealize.ShloMosaic Idealize.ShloMosaic.TcCoe Idealize.SL.Sem

variable (m : (ℓ : Loc nD τ sig) → Buf (Elt Ideal) ℓ)

/-- The gated unit. -/
def unit {M : ℕ} (y z : (⟨2, ![M, 512]⟩ : Shape).Idx → EReal) (b : (⟨2, ![1, 512]⟩ : Shape).Idx → EReal) :
    (⟨2, ![M, 512]⟩ : Shape).Idx → EReal := fun j => y j * sg (z j + b (ix2 0 (j 1)))

theorem pay1 (y z : Vec Ideal S512x512 .f32) (b : Vec Ideal S1x512 .f32) : k0_pay1 (F := Ideal) y z b = unit y z b := by
  funext j
  unfold unit sg
  pointwise [k0_pay1]

theorem pay2 (y z : Vec Ideal S512x512 .f32) (b : Vec Ideal S1x512 .f32) (w : Vec Ideal S512x1024 .bf16) :
    k0_pay2 (F := Ideal) y z b w = plain (M := 512) (unit y z b) w := by
  funext j
  unfold plain
  rw [← pay1]
  pointwise [k0_pay2]

/-- The blocks that the windows name at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by
  decide +kernel

theorem blk0 (c : Dev nD) (t : Fin cfg0.N) (a k : Fin 512) : iblk m c 0 t (ix2 a k)
    = m ((c : Thread nD τ).loc main_arg0) (ix2 (tileRow rfl t a) k) := by
  blk_ext [iblk, V, idx, tileRow]

theorem blk1 (c : Dev nD) (t : Fin cfg0.N) (a k : Fin 512) : iblk m c 1 t (ix2 a k)
    = m ((c : Thread nD τ).loc main_arg1) (ix2 (tileRow rfl t a) k) := by
  blk_ext [iblk, V, idx, tileRow]

theorem blk2 (c : Dev nD) (t : Fin cfg0.N) (k : Fin 512) : iblk m c 2 t (ix2 0 k)
    = m ((c : Thread nD τ).loc main_arg2) (ix2 0 k) := by
  blk_ext [iblk, V, idx]

theorem blk3 (c : Dev nD) (t : Fin cfg0.N) (k : Fin 512) (l : Fin 1024) : iblk m c 3 t (ix2 k l)
    = m ((c : Thread nD τ).loc main_arg3) (ix2 k l) := by
  blk_ext [iblk, V, idx]

/-- The gated unit in the device's memory. -/
def G (c : Dev nD) : (⟨2, ![4096, 512]⟩ : Shape).Idx → EReal :=
  unit (m ((c : Thread nD τ).loc main_arg0)) (m ((c : Thread nD τ).loc main_arg1)) (m ((c : Thread nD τ).loc main_arg2))

theorem blkG (c : Dev nD) (t : Fin cfg0.N) (a k : Fin 512) :
    unit (M := 512) (iblk m c 0 t) (iblk m c 1 t) (iblk m c 2 t) (ix2 a k) = G m c (ix2 (tileRow rfl t a) k) := by
  simp only [G, unit, ix2_0, ix2_1, blk0, blk1, blk2]

/-- **The gated unit.** -/
theorem final4 (c : Dev nD) : (dats m 0 c).arrAt 4 cfg0.N = G m c := by
  refine (dats m 0 c).arrAt_eq_of_covers 4 _ (by decide +kernel) fun t hf j => ?_
  blk_simp
  obtain ⟨a, l, rfl⟩ : ∃ a l, j = ix2 a l := ⟨j 0, j 1, (ix2_eta j).symm⟩
  have he : (win0_4.blk t).view.emb (ix2 a l) = ix2 (tileRow rfl t a) l := by blk_ext [idx, tileRow]
  rw [after0_4]; frame_out
  rw [pay1, he]
  exact blkG m c t a l

/-- **Its product with the weights.** -/
theorem final5 (c : Dev nD) : (dats m 0 c).arrAt 5 cfg0.N = plain (G m c) (m ((c : Thread nD τ).loc main_arg3)) := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5]; frame_out
  rw [pay2, he]
  exact Forward.plain_congr (fun k => blkG m c t a k) fun k => blk3 m c t k l

/-- **The call computes the reference's lines.** -/
theorem algebraic : Cert.algebraic_GluUpIdeal_RefGluUpIdeal := fun m g m' g' _ hag =>
  ⟨fun c => _, fun c => _,
    (θ_run _ _ _).mono (fun _ h c => ⟨(h c).1.trans (final4 m c), (h c).2.1.trans (final5 m c), (h c).2.2⟩) (run_blocks m g),
    (θ_run _ _ _).mono (fun _ h c => by
      obtain ⟨e0, e1, e2, e3⟩ := hag c
      refine ⟨(h c).1.trans ?_, (h c).2.1.trans ?_, (h c).2.2⟩
      · rw [e0, e1, e2]; funext j
        unfold G unit sg Ideal.logistic
        pointwise!
      · rw [e0, e1, e2, e3]; funext j
        unfold plain G unit sg Ideal.logistic
        pointwise!) (Cert.RefGluUpIdeal.Value.run m' g')⟩

end Cert.Grad.GluUp

end
-- ==== Proof.MergeUp.lean ====
/-
  The gated merge of the two branches in the forward pass, and its product with the mixer's output weights.
-/
module

public import proofs.«01_k».proof.Proof.Merge
public import proofs.«01_k».proof.Proof.Forward
public import proofs.«01_k».proof.Proof.Gen.MergeUpIdeal.Value
public import proofs.«01_k».proof.Proof.Gen.RefMergeUpIdeal.Run
public import proofs.«01_k».proof.Defs

@[expose] public section

noncomputable section

open scoped BigOperators

namespace Cert.Grad.MergeUp

open Cert.MergeUpIdeal Cert.MergeUpIdeal.Gen Cert.MergeUpIdeal.Value Cert.Rows Cert.Gate Cert.Products
open Cert.Grad.Merge (gate left right)
open Idealize.ShloMosaic Idealize.ShloMosaic.TcCoe Idealize.SL.Sem

variable (m : (ℓ : Loc nD τ sig) → Buf (Elt Ideal) ℓ)

/-- The merged branches. -/
def merged {M : ℕ} (p : (⟨2, ![M, 2048]⟩ : Shape).Idx → EReal) (x y : (⟨2, ![M, 1024]⟩ : Shape).Idx → EReal)
    (b : (⟨2, ![1, 2048]⟩ : Shape).Idx → EReal) : (⟨2, ![M, 1024]⟩ : Shape).Idx → EReal :=
  fun j => gate p b (j 0) (left (j 1)) * x j + gate p b (j 0) (right (j 1)) * y j

theorem pay1 (p : Vec Ideal S512x2048 .f32) (x y : Vec Ideal S512x1024 .f32) (b : Vec Ideal S1x2048 .f32) :
    k0_pay1 (F := Ideal) p x y b = merged p x y b := by
  funext j
  obtain ⟨r, l, rfl⟩ : ∃ r l, j = ix2 r l := ⟨j 0, j 1, (ix2_eta j).symm⟩
  unfold merged gate sg left right
  pointwise [k0_pay1]

theorem pay2 (p : Vec Ideal S512x2048 .f32) (x y : Vec Ideal S512x1024 .f32) (b : Vec Ideal S1x2048 .f32)
    (w : Vec Ideal S1024x1024 .bf16) : k0_pay2 (F := Ideal) p x y b w = plain (M := 512) (merged p x y b) w := by
  funext j
  unfold plain
  rw [← pay1]
  pointwise [k0_pay2]

/-- The blocks that the windows name at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] := by
  decide +kernel

theorem blk0 (c : Dev nD) (t : Fin cfg0.N) (a : Fin 512) (k : Fin 2048) : iblk m c 0 t (ix2 a k)
    = m ((c : Thread nD τ).loc main_arg0) (ix2 (tileRow rfl t a) k) := by
  blk_ext [iblk, V, idx, tileRow]

theorem blk1 (c : Dev nD) (t : Fin cfg0.N) (a : Fin 512) (k : Fin 1024) : iblk m c 1 t (ix2 a k)
    = m ((c : Thread nD τ).loc main_arg1) (ix2 (tileRow rfl t a) k) := by
  blk_ext [iblk, V, idx, tileRow]

theorem blk2 (c : Dev nD) (t : Fin cfg0.N) (a : Fin 512) (k : Fin 1024) : iblk m c 2 t (ix2 a k)
    = m ((c : Thread nD τ).loc main_arg2) (ix2 (tileRow rfl t a) k) := by
  blk_ext [iblk, V, idx, tileRow]

theorem blk3 (c : Dev nD) (t : Fin cfg0.N) (k : Fin 2048) : iblk m c 3 t (ix2 0 k)
    = m ((c : Thread nD τ).loc main_arg3) (ix2 0 k) := by
  blk_ext [iblk, V, idx]

theorem blk4 (c : Dev nD) (t : Fin cfg0.N) (k l : Fin 1024) : iblk m c 4 t (ix2 k l)
    = m ((c : Thread nD τ).loc main_arg4) (ix2 k l) := by
  blk_ext [iblk, V, idx]

/-- The merged branches in the device's memory. -/
def G (c : Dev nD) : (⟨2, ![4096, 1024]⟩ : Shape).Idx → EReal :=
  merged (m ((c : Thread nD τ).loc main_arg0)) (m ((c : Thread nD τ).loc main_arg1)) (m ((c : Thread nD τ).loc main_arg2))
    (m ((c : Thread nD τ).loc main_arg3))

theorem blkG (c : Dev nD) (t : Fin cfg0.N) (a : Fin 512) (k : Fin 1024) :
    merged (M := 512) (iblk m c 0 t) (iblk m c 1 t) (iblk m c 2 t) (iblk m c 3 t) (ix2 a k)
      = G m c (ix2 (tileRow rfl t a) k) := by
  simp only [G, merged, gate, ix2_0, ix2_1, blk0, blk1, blk2, blk3]

/-- **The merged branches.** -/
theorem final5 (c : Dev nD) : (dats m 0 c).arrAt 5 cfg0.N = G m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (tileRow rfl t a) l := by blk_ext [idx, tileRow]
  rw [after0_5]; frame_out
  rw [pay1, he]
  exact blkG m c t a l

/-- **Their product with the weights.** -/
theorem final6 (c : Dev nD) : (dats m 0 c).arrAt 6 cfg0.N = plain (G m c) (m ((c : Thread nD τ).loc main_arg4)) := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (tileRow rfl t a) l := by blk_ext [idx, tileRow]
  rw [after0_6]; frame_out
  rw [pay2, he]
  exact Forward.plain_congr (fun k => blkG m c t a k) fun k => blk4 m c t k l

/-- **The call computes the reference's lines.** -/
theorem algebraic : Cert.algebraic_MergeUpIdeal_RefMergeUpIdeal := fun m g m' g' _ hag =>
  ⟨fun c => _, fun c => _,
    (θ_run _ _ _).mono (fun _ h c => ⟨(h c).1.trans (final5 m c), (h c).2.1.trans (final6 m c), (h c).2.2⟩) (run_blocks m g),
    (θ_run _ _ _).mono (fun _ h c => by
      obtain ⟨e0, e1, e2, e3, e4⟩ := hag c
      refine ⟨(h c).1.trans ?_, (h c).2.1.trans ?_, (h c).2.2⟩
      · rw [e0, e1, e2, e3]; funext j
        unfold G merged gate left right sg Ideal.logistic
        pointwise!
      · rw [e0, e1, e2, e3, e4]; funext j
        unfold plain G merged gate left right sg Ideal.logistic
        pointwise!) (Cert.RefMergeUpIdeal.Value.run m' g')⟩

end Cert.Grad.MergeUp

end
-- ==== Proof.HostResid.lean ====
/-
  The stream after the mixer, its norm, and the norm's product with the feed-forward weights; and the same as the
  reference's host operations compute them.
-/
module

public import proofs.«01_k».proof.Proof.HostNorm
public import proofs.«01_k».proof.Proof.Products
public import proofs.«01_k».proof.Proof.Gen.RefResidUpIdeal.Run

@[expose] public section

noncomputable section

open scoped BigOperators

namespace Cert.Grad.ResidUp

open Cert.RefResidUpIdeal Cert.RefResidUpIdeal.Gen Cert.Rows Cert.Norm Cert.HostNorm Cert.Products
open Idealize.ShloMosaic Idealize.ShloMosaic.TcCoe Idealize.SL.Sem

/-- The stream: the input and the norm of the mixer's result. -/
def resid {M : ℕ} (x d : (⟨2, ![M, 1024]⟩ : Shape).Idx → EReal) (g : (⟨2, ![1, 1024]⟩ : Shape).Idx → EReal) :
    (⟨2, ![M, 1024]⟩ : Shape).Idx → EReal := fun j => x j + normRows d g j

theorem hResid_eq (x d : FVec Ideal S4096x1024 .f32) (g : FVec Ideal S1x1024 .f32) :
    addf x (hNorm d g) = resid x d g := by
  rw [hNorm_eq]; rfl

theorem hNormed_eq (x d : FVec Ideal S4096x1024 .f32) (g g' : FVec Ideal S1x1024 .f32) :
    (truncf .bf16 (hNorm (addf x (hNorm d g)) g') bitsLt_bf16_f32 : FVec Ideal S4096x1024 .bf16)
      = normRows (M := 4096) (resid x d g) g' := by
  rw [hResid_eq]
  exact hNorm_eq _ _

theorem hUp_eq (x d : FVec Ideal S4096x1024 .f32) (g g' : FVec Ideal S1x1024 .f32) (w : FVec Ideal S1024x5632 .bf16) :
    Host.dotGeneral dot_S4096x1024_S1024x5632_S4096x5632_1_0_0_1_n_n none (hNorm (addf x (hNorm d g)) g')
      (extf .f32 w bitsLt_bf16_f32) = plain (M := 4096) (normRows (resid x d g) g') w := by
  rw [hResid_eq, hNorm_eq]
  funext j
  pointwise [plain]

end Cert.Grad.ResidUp

end
-- ==== Proof.ResidUp.lean ====
/-
  The second half's entry in the forward pass: the mixer's result, normed, is added to the stream, the sum is normed, and
  its norm is multiplied by the feed-forward weights.
-/
module

public import proofs.«01_k».proof.Proof.HostNorm
public import proofs.«01_k».proof.Proof.Forward
public import proofs.«01_k».proof.Proof.HostResid
public import proofs.«01_k».proof.Proof.Gen.ResidUpIdeal.Value
public import proofs.«01_k».proof.Defs

@[expose] public section

noncomputable section

open scoped BigOperators

namespace Cert.Grad.ResidUp

open Cert.ResidUpIdeal Cert.ResidUpIdeal.Gen Cert.ResidUpIdeal.Value Cert.Rows Cert.Norm Cert.Products Cert.Forward
open Idealize.ShloMosaic Idealize.ShloMosaic.TcCoe Idealize.SL.Sem

variable (m : (ℓ : Loc nD τ sig) → Buf (Elt Ideal) ℓ)

theorem pay1 (x d : Vec Ideal S256x1024 .f32) (g : Vec Ideal S1x1024 .f32) : k0_pay1 (F := Ideal) x d g = resid x d g := by
  funext j
  unfold resid normRows rms scale meanSq
  pointwise [k0_pay1, row]

theorem pay2 (x d : Vec Ideal S256x1024 .f32) (g g' : Vec Ideal S1x1024 .f32) :
    k0_pay2 (F := Ideal) x d g g' = normRows (M := 256) (resid x d g) g' := by
  funext j
  unfold normRows rms scale meanSq
  rw [← pay1]
  pointwise [k0_pay2, row]

theorem pay3 (x d : Vec Ideal S256x1024 .f32) (g g' : Vec Ideal S1x1024 .f32) (w : Vec Ideal S1024x5632 .bf16) :
    k0_pay3 (F := Ideal) x d g g' w = plain (M := 256) (normRows (resid x d g) g') w := by
  funext j
  unfold plain
  rw [← pay2]
  pointwise [k0_pay3]

/-- The blocks that the windows name at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := by
  decide +kernel

/-- Row `a` of the blocks at point `t`. -/
abbrev at' (t : Fin cfg0.N) (a : Fin 256) : Fin 4096 := blockRow rfl t a

theorem blk0 (c : Dev nD) (t : Fin cfg0.N) (a : Fin 256) (k : Fin 1024) : iblk m c 0 t (ix2 a k)
    = m ((c : Thread nD τ).loc main_arg0) (ix2 (at' t a) k) := by
  blk_ext [iblk, V, idx, at', blockRow]

theorem blk1 (c : Dev nD) (t : Fin cfg0.N) (a : Fin 256) : row (iblk m c 1 t) a
    = row (m ((c : Thread nD τ).loc main_arg1)) (at' t a) := by
  funext k; blk_ext [iblk, V, idx, at', blockRow, row]

theorem blk2 (c : Dev nD) (t : Fin cfg0.N) : row (iblk m c 2 t) 0 = row (m ((c : Thread nD τ).loc main_arg2)) 0 := by
  funext k; blk_ext [iblk, V, idx, row]

theorem blk3 (c : Dev nD) (t : Fin cfg0.N) : row (iblk m c 3 t) 0 = row (m ((c : Thread nD τ).loc main_arg3)) 0 := by
  funext k; blk_ext [iblk, V, idx, row]

theorem blk4 (c : Dev nD) (t : Fin cfg0.N) (k : Fin 1024) (l : Fin 5632) : iblk m c 4 t (ix2 k l)
    = m ((c : Thread nD τ).loc main_arg4) (ix2 k l) := by
  blk_ext [iblk, V, idx]

/-- The stream and its norm in the device's memory. -/
def X (c : Dev nD) : (⟨2, ![4096, 1024]⟩ : Shape).Idx → EReal :=
  resid (m ((c : Thread nD τ).loc main_arg0)) (m ((c : Thread nD τ).loc main_arg1)) (m ((c : Thread nD τ).loc main_arg2))

def H (c : Dev nD) : (⟨2, ![4096, 1024]⟩ : Shape).Idx → EReal := normRows (X m c) (m ((c : Thread nD τ).loc main_arg3))

theorem blkX (c : Dev nD) (t : Fin cfg0.N) (a : Fin 256) (k : Fin 1024) :
    resid (M := 256) (iblk m c 0 t) (iblk m c 1 t) (iblk m c 2 t) (ix2 a k) = X m c (ix2 (at' t a) k) := by
  simp only [X, resid, normRows, ix2_0, ix2_1, blk0, blk1, blk2]

theorem blkH (c : Dev nD) (t : Fin cfg0.N) (a : Fin 256) (k : Fin 1024) :
    normRows (M := 256) (resid (iblk m c 0 t) (iblk m c 1 t) (iblk m c 2 t)) (iblk m c 3 t) (ix2 a k)
      = H m c (ix2 (at' t a) k) := by
  have hr : row (M := 256) (resid (iblk m c 0 t) (iblk m c 1 t) (iblk m c 2 t)) a = row (X m c) (at' t a) :=
    funext fun k => blkX m c t a k
  simp only [H, normRows, ix2_0, ix2_1, blk3, hr]

/-- **The norm, in the products' format.** -/
theorem final5 (c : Dev nD) : (dats m 0 c).arrAt 5 cfg0.N = H m c := by
  refine (dats m 0 c).arrAt_eq_of_covers 5 _ (by decide +kernel) fun t hf j => ?_
  blk_simp
  obtain ⟨a, l, rfl⟩ : ∃ a l, j = ix2 a l := ⟨j 0, j 1, (ix2_eta j).symm⟩
  have he : (win0_5.blk t).view.emb (ix2 a l) = ix2 (at' t a) l := by blk_ext [idx, at', blockRow]
  rw [after0_5]; frame_out
  rw [pay2, he]
  exact blkH m c t a l

/-- **The stream.** -/
theorem final6 (c : Dev nD) : (dats m 0 c).arrAt 6 cfg0.N = X m c := by
  refine (dats m 0 c).arrAt_eq_of_covers 6 _ (by decide +kernel) fun t hf j => ?_
  blk_simp
  obtain ⟨a, l, rfl⟩ : ∃ a l, j = ix2 a l := ⟨j 0, j 1, (ix2_eta j).symm⟩
  have he : (win0_6.blk t).view.emb (ix2 a l) = ix2 (at' t a) l := by blk_ext [idx, at', blockRow]
  rw [after0_6]; frame_out
  rw [pay1, he]
  exact blkX m c t a l

/-- **The norm's product with the weights.** -/
theorem final7 (c : Dev nD) : (dats m 0 c).arrAt 7 cfg0.N = plain (H m c) (m ((c : Thread nD τ).loc main_arg4)) := by
  refine (dats m 0 c).arrAt_eq_of_covers 7 _ (by decide +kernel) fun t hf j => ?_
  blk_simp
  obtain ⟨a, l, rfl⟩ : ∃ a l, j = ix2 a l := ⟨j 0, j 1, (ix2_eta j).symm⟩
  have he : (win0_7.blk t).view.emb (ix2 a l) = ix2 (at' t a) l := by blk_ext [idx, at', blockRow]
  rw [after0_7]; frame_out
  rw [pay3, he]
  exact plain_congr (fun k => blkH m c t a k) fun k => blk4 m c t k l

/-- **The call computes the reference's lines.** -/
theorem algebraic : Cert.algebraic_ResidUpIdeal_RefResidUpIdeal := fun m g m' g' _ hag =>
  ⟨fun c => _, fun c => _, fun c => _,
    (θ_run _ _ _).mono (fun _ h c => ⟨(h c).1.trans (final5 m c), (h c).2.1.trans (final6 m c), (h c).2.2.1.trans (final7 m c),
      (h c).2.2.2⟩) (run_blocks m g),
    (θ_run _ _ _).mono (fun _ h c => by
      obtain ⟨e0, e1, e2, e3, e4⟩ := hag c
      refine ⟨(h c).1.trans ?_, (h c).2.1.trans ?_, (h c).2.2.1.trans ?_, (h c).2.2.2⟩
      · rw [e0, e1, e2, e3]
        exact hNormed_eq _ _ _ _
      · rw [e0, e1, e2]
        exact hResid_eq _ _ _
      · rw [e0, e1, e2, e3, e4]
        exact hUp_eq _ _ _ _ _) (Cert.RefResidUpIdeal.Value.run m' g')⟩

end Cert.Grad.ResidUp

end
-- ==== Proof.HostConvAct.lean ====
/-
  The gated convolution of the forward pass, entry by entry; and the same as the reference's host operations compute it.
-/
module

public import Idealize.ShloMosaic.Lib.Pipeline.ValueKit.Geometry
public import proofs.«01_k».proof.Proof.ConvSpec
public import proofs.«01_k».proof.Proof.Gen.RefConvActIdeal.Run

@[expose] public section

noncomputable section

open scoped BigOperators

namespace Cert.Grad.ConvAct

open Cert.RefConvActIdeal Cert.RefConvActIdeal.Gen Cert.Grad.Conv
open Idealize.ShloMosaic Idealize.ShloMosaic.TcCoe

/-- A row of the result: the activated gates times the values, from the row's pre-activations. -/
def rowAct (c : Fin 5632 → EReal) (l : Fin 2816) : EReal :=
  c ⟨l.val, by omega⟩ * (kH * (1 + th (c ⟨l.val, by omega⟩))) * c ⟨2816 + l.val, by omega⟩

/-- The result. -/
def act (z : (⟨2, ![4096, 5632]⟩ : Shape).Idx → EReal) (w : (⟨2, ![3, 5632]⟩ : Shape).Idx → EReal)
    (b : (⟨2, ![1, 5632]⟩ : Shape).Idx → EReal) : (⟨2, ![4096, 2816]⟩ : Shape).Idx → EReal :=
  fun j => rowAct (pre z w b (j 0).val) (j 1)

/-- A constant array. -/
abbrev hC (w : BitVec 32) : FVec Ideal S4096x2816 .f32 := broadcastInDim S4096x2816 ![] bcast_S_S4096x2816 (constant S_ .f32 w)

/-- Two rows of zeros above the array. -/
def hPad (z : FVec Ideal S4096x5632 .f32) : FVec Ideal S4098x5632 .f32 :=
  concatenate S4098x5632 0 [⟨S2x5632, (broadcastInDim S2x5632 ![] bcast_S_S2x5632 (constant (F := Ideal) S_ .f32 0x00000000#32))⟩,
    ⟨S4096x5632, z⟩] concatenates_S2x5632_S4096x5632_S4098x5632_d0

/-- A tap's row, repeated. -/
def hTap (x : FVec Ideal S1x5632 .f32) : FVec Ideal S4096x5632 .f32 :=
  broadcastInDim S4096x5632 ![0, 1] bcast_S1x5632_S4096x5632_0_1 (broadcastInDim S1x5632 ![1] bcast_S5632_S1x5632_1
    (shapeCast S5632 x shapeCasts_S1x5632_S5632))

/-- The pre-activations. -/
def hPre (z : FVec Ideal S4096x5632 .f32) (w : FVec Ideal S3x5632 .f32) (b : FVec Ideal S1x5632 .f32) :
    FVec Ideal S4096x5632 .f32 :=
  addf (broadcastInDim S4096x5632 ![0, 1] bcast_S1x5632_S4096x5632_0_1 b)
    (addf (addf (addf (broadcastInDim S4096x5632 ![] bcast_S_S4096x5632 (constant S_ .f32 0x00000000#32))
      (mulf (hTap (extractStridedSlice S1x5632 ![0, 0] w slices_S3x5632_S1x5632_0_0))
        (extractStridedSlice S4096x5632 ![0, 0] (hPad z) slices_S4098x5632_S4096x5632_0_0)))
      (mulf (hTap (extractStridedSlice S1x5632 ![1, 0] w slices_S3x5632_S1x5632_1_0))
        (extractStridedSlice S4096x5632 ![1, 0] (hPad z) slices_S4098x5632_S4096x5632_1_0)))
      (mulf (hTap (extractStridedSlice S1x5632 ![2, 0] w slices_S3x5632_S1x5632_2_0))
        (extractStridedSlice S4096x5632 ![2, 0] (hPad z) slices_S4098x5632_S4096x5632_2_0)))

/-- The activation of the gates, times the values. -/
def hAct (x : FVec Ideal S4096x5632 .f32) : FVec Ideal S4096x2816 .f32 :=
  mulf (mulf (extractStridedSlice S4096x2816 ![0, 0] x slices_S4096x5632_S4096x2816_0_0) (mulf (hC 0x3F000000#32)
    (addf (hC 0x3F800000#32) (Host.tanh (mulf (hC 0x3F4C422A#32) (addf
      (extractStridedSlice S4096x2816 ![0, 0] x slices_S4096x5632_S4096x2816_0_0) (mulf (hC 0x3D372713#32)
        (mulf (mulf (extractStridedSlice S4096x2816 ![0, 0] x slices_S4096x5632_S4096x2816_0_0)
          (extractStridedSlice S4096x2816 ![0, 0] x slices_S4096x5632_S4096x2816_0_0))
          (extractStridedSlice S4096x2816 ![0, 0] x slices_S4096x5632_S4096x2816_0_0)))))))))
    (extractStridedSlice S4096x2816 ![0, 2816] x slices_S4096x5632_S4096x2816_0_2816)

/-- The padded array, read from row `2 - k` on. -/
theorem hPad_at (z : FVec Ideal S4096x5632 .f32) (r : Fin 4096) (l : Fin 5632) (k q : ℕ) (hq : q + k = 2) (h) :
    extractStridedSlice S4096x5632 ![q, 0] (hPad z) h (ix2 r l) = above z k r l := by
  unfold above
  pointwise [hPad]
  by_cases h1 : q + r.val < 2
  · rw [dif_pos h1, dif_neg (by omega)]
  · rw [dif_neg h1, dif_pos (by omega)]
    congr 2
    exact Fin.ext (by simp only []; omega)

theorem hPre_at (z : FVec Ideal S4096x5632 .f32) (w : FVec Ideal S3x5632 .f32) (b : FVec Ideal S1x5632 .f32) (r : Fin 4096)
    (l : Fin 5632) : hPre z w b (ix2 r l) = pre z w b r.val l := by
  unfold pre
  rw [← hPad_at z r l 2 0 rfl slices_S4098x5632_S4096x5632_0_0, ← hPad_at z r l 1 1 rfl slices_S4098x5632_S4096x5632_1_0,
    ← hPad_at z r l 0 2 rfl slices_S4098x5632_S4096x5632_2_0]
  have hp := hPad z
  pointwise [hPre, hTap]
  simp only [← add_assoc]

theorem hAct_at (x : FVec Ideal S4096x5632 .f32) (r : Fin 4096) (l : Fin 2816) :
    hAct x (ix2 r l) = rowAct (fun l => x (ix2 r l)) l := by
  unfold rowAct th
  pointwise [hAct]

theorem hAct_eq (z : FVec Ideal S4096x5632 .f32) (w : FVec Ideal S3x5632 .f32) (b : FVec Ideal S1x5632 .f32) :
    (truncf .bf16 (hAct (hPre z w b)) bitsLt_bf16_f32 : FVec Ideal S4096x2816 .bf16) = act z w b := by
  funext j
  obtain ⟨r, l, rfl⟩ : ∃ r l, j = ix2 r l := ⟨j 0, j 1, (ix2_eta j).symm⟩
  refine (hAct_at _ r l).trans ?_
  exact congrArg (rowAct · l) (funext fun l => hPre_at z w b r l)

end Cert.Grad.ConvAct

end
-- ==== Proof.ConvActTile.lean ====
/-
  What one point of the gated convolution's forward call computes from its blocks: 128 rows of `z`, the eight rows above
  them, the taps and the bias.
-/
module

public import Idealize.ShloMosaic.Lib.Pipeline.ReadBack
public import Idealize.ShloMosaic.Lib.Pipeline.ValueKit.Acc
public import Idealize.ShloMosaic.Lib.Pipeline.ValueKit.Geometry
public import proofs.«01_k».proof.Proof.ConvTile
public import proofs.«01_k».proof.Proof.HostConvAct
public import proofs.«01_k».proof.Proof.Gen.ConvActIdeal.Value

@[expose] public section

noncomputable section

open scoped BigOperators

namespace Cert.Grad.ConvAct

open Cert.ConvActIdeal Cert.ConvActIdeal.Gen Cert.ConvActIdeal.Value Cert.Grad.Conv
open Idealize.ShloMosaic Idealize.ShloMosaic.TcCoe

theorem pay1_eq (x : Vec Ideal S128x5632 .f32) (a : Fin 128) (l : Fin 2816) :
    k0_pay1 (F := Ideal) x (ix2 a l) = rowAct (fun l => x (ix2 a l)) l := by
  unfold rowAct
  simp only [← th_eq]
  pointwise [k0_pay1]
  rw [mul_left_comm _ kH, mul_assoc kH]

variable {Z : (⟨2, ![4096, 5632]⟩ : Shape).Idx → EReal} {i : grid0.Coords} {z : Vec Ideal S128x5632 .f32}
  {p : Vec Ideal S8x5632 .f32} (w : Vec Ideal S3x5632 .f32) (b : Vec Ideal S1x5632 .f32)

/-- The rows read `k` rows further up, as the point picks them from its own block and the one above. -/
theorem shift (hz : ∀ (a : Fin 128) l, z (ix2 a l) = above Z 0 (128 * (i 0).val + a.val) l)
    (hp : 0 < (i 0).val → ∀ (a : Fin 8) l, p (ix2 a l) = above Z 0 (128 * (i 0).val - 8 + a.val) l)
    (a : Fin 128) (l : Fin 5632) (k : ℕ) (h0 : 0 < k) (h8 : k < 8) :
    (if h : a.val < 8 then
      Scalar.select (IntOp.cmpi .slt (BitVec.ofNat 32 a.val) (BitVec.ofNat 32 k))
        (Scalar.select (Scalar.cmpi .sgt (BitVec.ofNat 32 (i 0).val) (BitVec.ofNat 32 0))
          (p (ix2 ⟨(a.val + 8 - k) % 8, Nat.mod_lt _ (by decide)⟩ l)) 0)
        (z (ix2 ⟨(a.val + 128 - k) % 128, Nat.mod_lt _ (by decide)⟩ l))
    else z (ix2 ⟨(8 + (a.val - 8) + 128 - k) % 128, Nat.mod_lt _ (by decide)⟩ l))
      = above Z k (128 * (i 0).val + a.val) l := by
  have hi : (i 0).val < 32 := (i 0).isLt
  by_cases h1 : a.val < 8
  · rw [dif_pos h1, sel_slt (by omega) (by omega), sel_gt (by omega) (by omega)]
    by_cases h2 : a.val < k
    · rw [if_pos h2]
      by_cases h3 : 0 < (i 0).val
      · rw [if_pos h3]
        exact (hp h3 _ l).trans (above_at Z (by simp only; omega) l)
      · rw [if_neg h3, above_of_lt Z (by omega)]
    · rw [if_neg h2]
      exact (hz _ l).trans (above_at Z (by simp only; omega) l)
  · rw [dif_neg h1]
    exact (hz _ l).trans (above_at Z (by simp only; omega) l)

/-- The pre-activations of the point's rows. -/
theorem pre_eq (hz : ∀ (a : Fin 128) l, z (ix2 a l) = above Z 0 (128 * (i 0).val + a.val) l)
    (hp : 0 < (i 0).val → ∀ (a : Fin 8) l, p (ix2 a l) = above Z 0 (128 * (i 0).val - 8 + a.val) l)
    (a : Fin 128) (l : Fin 5632) : k0_pay2 (F := Ideal) i z p w b (ix2 a l) = pre Z w b (128 * (i 0).val + a.val) l := by
  unfold pre
  rw [← shift hz hp a l 2 (by decide) (by decide), ← shift hz hp a l 1 (by decide) (by decide), ← hz a l]
  pointwise [k0_pay2]

end Cert.Grad.ConvAct

end
-- ==== Proof.ConvAct.lean ====
/-
  The gated convolution of the forward pass: the call leaves the activated gates times the values, of the convolution over
  each row and the two rows above it.
-/
module

public import proofs.«01_k».proof.Proof.ConvActTile
public import proofs.«01_k».proof.Proof.HostConvAct
public import proofs.«01_k».proof.Defs

@[expose] public section

noncomputable section

open scoped BigOperators

namespace Cert.Grad.ConvAct

open Cert.ConvActIdeal Cert.ConvActIdeal.Gen Cert.ConvActIdeal.Value Cert.Grad.Conv
open Idealize.ShloMosaic Idealize.ShloMosaic.TcCoe Idealize.SL.Sem

variable (m : (ℓ : Loc nD τ sig) → Buf (Elt Ideal) ℓ)

/-- The blocks that the windows name at a point. -/
theorem idx : ∀ t : Fin cfg0.N, win0_0.index t = ![t.val, 0] ∧ win0_1.index t = ![t.val * 16 - 1, 0]
    ∧ win0_2.index t = ![0, 0] ∧ win0_3.index t = ![0, 0] ∧ win0_4.index t = ![t.val, 0] := by
  decide +kernel

theorem coord : ∀ t : Fin cfg0.N, (grid0.coords t 0).val = t.val := by decide +kernel

theorem lt_N (t : Fin cfg0.N) : t.val < 32 := t.isLt

theorem blk0 (c : Dev nD) (t : Fin cfg0.N) (a : Fin 128) (l : Fin 5632) : iblk m c 0 t (ix2 a l)
    = above (m ((c : Thread nD τ).loc main_arg0)) 0 (128 * (grid0.coords t 0).val + a.val) l := by
  have ht := lt_N t
  rw [coord]
  unfold above
  rw [dif_pos (by omega)]
  blk_ext [iblk, V, idx]

theorem blk1 (c : Dev nD) (t : Fin cfg0.N) (h : 0 < (grid0.coords t 0).val) (a : Fin 8) (l : Fin 5632) :
    iblk m c 1 t (ix2 a l) = above (m ((c : Thread nD τ).loc main_arg0)) 0 (128 * (grid0.coords t 0).val - 8 + a.val) l := by
  have ht := lt_N t
  rw [coord] at h ⊢
  unfold above
  rw [dif_pos (by omega)]
  blk_ext [iblk, V, idx]

theorem blk2 (c : Dev nD) (t : Fin cfg0.N) : iblk m c 2 t = m ((c : Thread nD τ).loc main_arg1) := by
  funext j
  blk_ext [iblk, V, idx]

theorem blk3 (c : Dev nD) (t : Fin cfg0.N) : iblk m c 3 t = m ((c : Thread nD τ).loc main_arg2) := by
  funext j
  blk_ext [iblk, V, idx]

theorem tile (c : Dev nD) (t : Fin cfg0.N) (a : Fin 128) (l : Fin 2816) :
    k0_pay1 (F := Ideal) (k0_pay2 (grid0.coords t) (iblk m c 0 t) (iblk m c 1 t) (iblk m c 2 t) (iblk m c 3 t)) (ix2 a l)
      = rowAct (pre (m ((c : Thread nD τ).loc main_arg0)) (m ((c : Thread nD τ).loc main_arg1))
          (m ((c : Thread nD τ).loc main_arg2)) (128 * t.val + a.val)) l := by
  rw [pay1_eq, blk2, blk3, ← coord t]
  congr 1
  funext l
  exact pre_eq _ _ (blk0 m c t) (blk1 m c t) a l

/-- **The whole result.** -/
theorem final4 (c : Dev nD) : (dats m 0 c).arrAt 4 cfg0.N = act (m ((c : Thread nD τ).loc main_arg0))
    (m ((c : Thread nD τ).loc main_arg1)) (m ((c : Thread nD τ).loc main_arg2)) := by
  refine (dats m 0 c).arrAt_eq_of_covers 4 _ (by decide +kernel) fun t hf j => ?_
  blk_simp
  obtain ⟨a, l, rfl⟩ : ∃ a l, j = ix2 a l := ⟨j 0, j 1, (ix2_eta j).symm⟩
  have ht := lt_N t
  have he : (win0_4.blk t).view.emb (ix2 a l) = ix2 ⟨128 * t.val + a.val, by omega⟩ l := by blk_ext [idx]
  rw [after0_4]; frame_out
  rw [he]
  exact tile m c t a l

/-- **The call computes the reference's lines.** -/
theorem algebraic : Cert.algebraic_ConvActIdeal_RefConvActIdeal := fun m g m' g' _ hag =>
  ⟨fun c => _,
    (θ_run _ _ _).mono (fun _ h c => ⟨(h c).1.trans (final4 m c), (h c).2⟩) (run_blocks m g),
    (θ_run _ _ _).mono (fun _ h c => by
      obtain ⟨e0, e1, e2⟩ := hag c
      refine ⟨(h c).1.trans ?_, (h c).2⟩
      unfold Cert.RefConvActIdeal.Value.res_main_v42
      rw [e0, e1, e2]
      exact hAct_eq _ _ _) (Cert.RefConvActIdeal.Value.run m' g')⟩

end Cert.Grad.ConvAct

end
-- ==== Proof.MomentsAt.lean ====
/-
  The optimiser's blocks read at an entry: each entry of what the body leaves depends on the same entry of its loads
  only.
-/
module

public import proofs.«01_k».proof.Proof.Moments
public import Idealize.ShloMosaic.Lib.VecWindow

@[expose] public section

noncomputable section

namespace Cert.Grad.Moments

open Idealize.ShloMosaic Idealize.ShloMosaic.TcCoe

variable {F : FTy → Type} [FloatOps F] {s S : Shape}

/-- The shape of one entry. -/
abbrev one : Shape := ⟨0, ![]⟩

/-- Its index. -/
abbrev at0 : one.Idx := fun a => a.elim0

theorem first_entry (g m : Vec F s .f32) (i : s.Idx) :
    first g m i = first (s := one) (fun _ => g i) (fun _ => m i) at0 := rfl

theorem second_entry (g v : Vec F s .f32) (i : s.Idx) :
    second g v i = second (s := one) (fun _ => g i) (fun _ => v i) at0 := rfl

theorem step_entry (w g m v : Vec F s .f32) (i : s.Idx) :
    step w g m v i = step (s := one) (fun _ => w i) (fun _ => g i) (fun _ => m i) (fun _ => v i) at0 := rfl

variable {off : Fin s.rank → ℕ} (inb : ∀ a, off a + s.size a ≤ s.size a)

/-- A load through the whole block is the block. -/
theorem ld_full (x : Vec F s .f32) (j : s.Idx) : View.ld x (Rect.unit off s.size inb) j = x j :=
  congrArg x (Rect.emb_unit_full inb j)

/-- A store through the whole block leaves what was stored. -/
theorem canon_full (p : Vec F s .f32) (j : s.Idx) :
    View.canon (Val := Elt F) (e := .f32) [⟨Rect.unit off s.size inb, p⟩] j = p j :=
  (congrArg _ (Rect.emb_unit_full inb j).symm).trans (View.canon_cons_emb (Rect.unit off s.size inb) p [] j)

theorem outFirst_at (g m : Vec F s .f32) (G M : Vec F S .f32) (j : s.Idx) (J : S.Idx) (hg : g j = G J) (hm : m j = M J) :
    outFirst (Rect.unit off s.size inb) g m j = first G M J := by
  refine (canon_full inb (first _ _) j).trans ?_
  rw [first_entry, first_entry G, ← hg, ← hm]
  erw [ld_full inb g j, ld_full inb m j]

theorem outSecond_at (g v : Vec F s .f32) (G V : Vec F S .f32) (j : s.Idx) (J : S.Idx) (hg : g j = G J) (hv : v j = V J) :
    outSecond (Rect.unit off s.size inb) g v j = second G V J := by
  refine (canon_full inb (second _ _) j).trans ?_
  rw [second_entry, second_entry G, ← hg, ← hv]
  erw [ld_full inb g j, ld_full inb v j]

theorem outStep_at (w g m v : Vec F s .f32) (W G M V : Vec F S .f32) (j : s.Idx) (J : S.Idx) (hw : w j = W J)
    (hg : g j = G J) (hm : m j = M J) (hv : v j = V J) :
    outStep (Rect.unit off s.size inb) w g m v j = step W G M V J := by
  refine (canon_full inb (step _ _ _ _) j).trans ?_
  rw [step_entry, step_entry W, ← hw, ← hg, ← hm, ← hv]
  erw [ld_full inb w j, ld_full inb g j, ld_full inb m j, ld_full inb v j]

end Cert.Grad.Moments

end
-- ==== Proof.Adamw.lean ====
/-
  The optimiser: in each of the eight groups of four arrays, every entry's weight, gradient and two moments give that
  entry's step and its two new moments, in the call and in the reference alike.
-/
module

public import proofs.«01_k».proof.Proof.AdamwIdealRun
public import proofs.«01_k».proof.Proof.MomentsAt
public import proofs.«01_k».proof.Proof.Gen.RefAdamwIdeal.Run
public import proofs.«01_k».proof.Defs
public import Idealize.ShloMosaic.Lib.Pipeline.ReadBack
public import Idealize.ShloMosaic.Lib.Pipeline.Value
public import Idealize.ShloMosaic.Lib.Pipeline.ValueKit.Geometry

@[expose] public section

noncomputable section

namespace Cert.Grad.Adamw

open Cert.AdamwIdeal Cert.AdamwIdeal.Gen Cert.Grad.Moments
open Idealize.ShloMosaic Idealize.ShloMosaic.TcCoe Idealize.SL.Sem

/-- Equal arrays give equal first moments. -/
theorem first_eq {s : Shape} {g m g' m' : Vec Ideal s .f32} (hg : g = g') (hm : m = m') : first g m = first g' m' := by
  rw [hg, hm]

/-- Equal arrays give equal second moments. -/
theorem second_eq {s : Shape} {g v g' v' : Vec Ideal s .f32} (hg : g = g') (hv : v = v') : second g v = second g' v' := by
  rw [hg, hv]

/-- Equal arrays give equal steps. -/
theorem step_eq {s : Shape} {w g m v w' g' m' v' : Vec Ideal s .f32} (hw : w = w') (hg : g = g') (hm : m = m')
    (hv : v = v') : step w g m v = step w' g' m' v' := by
  rw [hw, hg, hm, hv]

set_option maxHeartbeats 16000000 in
/-- **The call computes the update.** -/
theorem algebraic : Cert.algebraic_AdamwIdeal_RefAdamwIdeal := fun m g m' g' _ hag =>
  ⟨fun c => step (F := Ideal) (s := S1024x1088) (m ((c : Thread nD τ).loc main_arg0)) (m ((c : Thread nD τ).loc main_arg1)) (m ((c : Thread nD τ).loc main_arg2)) (m ((c : Thread nD τ).loc main_arg3)),
    fun c => first (F := Ideal) (s := S1024x1088) (m ((c : Thread nD τ).loc main_arg1)) (m ((c : Thread nD τ).loc main_arg2)),
    fun c => second (F := Ideal) (s := S1024x1088) (m ((c : Thread nD τ).loc main_arg1)) (m ((c : Thread nD τ).loc main_arg3)),
    fun c => step (F := Ideal) (s := S1024x1408) (m ((c : Thread nD τ).loc main_arg4)) (m ((c : Thread nD τ).loc main_arg5)) (m ((c : Thread nD τ).loc main_arg6)) (m ((c : Thread nD τ).loc main_arg7)),
    fun c => first (F := Ideal) (s := S1024x1408) (m ((c : Thread nD τ).loc main_arg5)) (m ((c : Thread nD τ).loc main_arg6)),
    fun c => second (F := Ideal) (s := S1024x1408) (m ((c : Thread nD τ).loc main_arg5)) (m ((c : Thread nD τ).loc main_arg7)),
    fun c => step (F := Ideal) (s := S512x256) (m ((c : Thread nD τ).loc main_arg8)) (m ((c : Thread nD τ).loc main_arg9)) (m ((c : Thread nD τ).loc main_arg10)) (m ((c : Thread nD τ).loc main_arg11)),
    fun c => first (F := Ideal) (s := S512x256) (m ((c : Thread nD τ).loc main_arg9)) (m ((c : Thread nD τ).loc main_arg10)),
    fun c => second (F := Ideal) (s := S512x256) (m ((c : Thread nD τ).loc main_arg9)) (m ((c : Thread nD τ).loc main_arg11)),
    fun c => step (F := Ideal) (s := S512x256) (m ((c : Thread nD τ).loc main_arg12)) (m ((c : Thread nD τ).loc main_arg13)) (m ((c : Thread nD τ).loc main_arg14)) (m ((c : Thread nD τ).loc main_arg15)),
    fun c => first (F := Ideal) (s := S512x256) (m ((c : Thread nD τ).loc main_arg13)) (m ((c : Thread nD τ).loc main_arg14)),
    fun c => second (F := Ideal) (s := S512x256) (m ((c : Thread nD τ).loc main_arg13)) (m ((c : Thread nD τ).loc main_arg15)),
    fun c => step (F := Ideal) (s := S256x1024) (m ((c : Thread nD τ).loc main_arg16)) (m ((c : Thread nD τ).loc main_arg17)) (m ((c : Thread nD τ).loc main_arg18)) (m ((c : Thread nD τ).loc main_arg19)),
    fun c => first (F := Ideal) (s := S256x1024) (m ((c : Thread nD τ).loc main_arg17)) (m ((c : Thread nD τ).loc main_arg18)),
    fun c => second (F := Ideal) (s := S256x1024) (m ((c : Thread nD τ).loc main_arg17)) (m ((c : Thread nD τ).loc main_arg19)),
    fun c => step (F := Ideal) (s := S128x512) (m ((c : Thread nD τ).loc main_arg20)) (m ((c : Thread nD τ).loc main_arg21)) (m ((c : Thread nD τ).loc main_arg22)) (m ((c : Thread nD τ).loc main_arg23)),
    fun c => first (F := Ideal) (s := S128x512) (m ((c : Thread nD τ).loc main_arg21)) (m ((c : Thread nD τ).loc main_arg22)),
    fun c => second (F := Ideal) (s := S128x512) (m ((c : Thread nD τ).loc main_arg21)) (m ((c : Thread nD τ).loc main_arg23)),
    fun c => step (F := Ideal) (s := S704x1024) (m ((c : Thread nD τ).loc main_arg24)) (m ((c : Thread nD τ).loc main_arg25)) (m ((c : Thread nD τ).loc main_arg26)) (m ((c : Thread nD τ).loc main_arg27)),
    fun c => first (F := Ideal) (s := S704x1024) (m ((c : Thread nD τ).loc main_arg25)) (m ((c : Thread nD τ).loc main_arg26)),
    fun c => second (F := Ideal) (s := S704x1024) (m ((c : Thread nD τ).loc main_arg25)) (m ((c : Thread nD τ).loc main_arg27)),
    fun c => step (F := Ideal) (s := S256x1024) (m ((c : Thread nD τ).loc main_arg28)) (m ((c : Thread nD τ).loc main_arg29)) (m ((c : Thread nD τ).loc main_arg30)) (m ((c : Thread nD τ).loc main_arg31)),
    fun c => first (F := Ideal) (s := S256x1024) (m ((c : Thread nD τ).loc main_arg29)) (m ((c : Thread nD τ).loc main_arg30)),
    fun c => second (F := Ideal) (s := S256x1024) (m ((c : Thread nD τ).loc main_arg29)) (m ((c : Thread nD τ).loc main_arg31)),
    (θ_run _ _ _).mono (fun _ h c => by
      refine ⟨((h.1 c).1 32).trans ?_, ((h.1 c).1 33).trans ?_, ((h.1 c).1 34).trans ?_, ((h.1 c).1 35).trans ?_,
        ((h.1 c).1 36).trans ?_, ((h.1 c).1 37).trans ?_, ((h.1 c).1 38).trans ?_, ((h.1 c).1 39).trans ?_,
        ((h.1 c).1 40).trans ?_, ((h.1 c).1 41).trans ?_, ((h.1 c).1 42).trans ?_, ((h.1 c).1 43).trans ?_,
        ((h.1 c).1 44).trans ?_, ((h.1 c).1 45).trans ?_, ((h.1 c).1 46).trans ?_, ((h.1 c).1 47).trans ?_,
        ((h.1 c).1 48).trans ?_, ((h.1 c).1 49).trans ?_, ((h.1 c).1 50).trans ?_, ((h.1 c).1 51).trans ?_,
        ((h.1 c).1 52).trans ?_, ((h.1 c).1 53).trans ?_, ((h.1 c).1 54).trans ?_, ((h.1 c).1 55).trans ?_, h.2 c⟩
      iterate 8
        · refine (dats m 0 c).arrAt_eq_of_covers _ _ (by decide +kernel) fun t hf j => ?_
          blk_simp
          dsimp only [dats]
          exact outStep_at _ _ _ _ _ _ _ _ _ _ _ rfl rfl rfl rfl
        · refine (dats m 0 c).arrAt_eq_of_covers _ _ (by decide +kernel) fun t hf j => ?_
          blk_simp
          dsimp only [dats]
          exact outFirst_at _ _ _ _ _ _ _ rfl rfl
        · refine (dats m 0 c).arrAt_eq_of_covers _ _ (by decide +kernel) fun t hf j => ?_
          blk_simp
          dsimp only [dats]
          exact outSecond_at _ _ _ _ _ _ _ rfl rfl)
      (θ_run_and (run_main m g) (frame_of m g (dats m) (A_eq m) (run_main m g))),
    (θ_run _ _ _).mono (fun _ h c => by
      obtain ⟨e0, e1, e2, e3, e4, e5, e6, e7, e8, e9, e10, e11, e12, e13, e14, e15, e16, e17, e18, e19, e20, e21, e22,
        e23, e24, e25, e26, e27, e28, e29, e30, e31⟩ := hag c
      obtain ⟨h0, h1, h2, h3, h4, h5, h6, h7, h8, h9, h10, h11, h12, h13, h14, h15, h16, h17, h18, h19, h20, h21, h22,
        h23, hu⟩ := h c
      refine ⟨h0.trans ?_, h1.trans ?_, h2.trans ?_, h3.trans ?_, h4.trans ?_, h5.trans ?_, h6.trans ?_, h7.trans ?_,
        h8.trans ?_, h9.trans ?_, h10.trans ?_, h11.trans ?_, h12.trans ?_, h13.trans ?_, h14.trans ?_,
        h15.trans ?_, h16.trans ?_, h17.trans ?_, h18.trans ?_, h19.trans ?_, h20.trans ?_, h21.trans ?_,
        h22.trans ?_, h23.trans ?_, hu⟩
      iterate 8
        · exact step_eq (by assumption) (by assumption) (by assumption) (by assumption)
        · exact first_eq (by assumption) (by assumption)
        · exact second_eq (by assumption) (by assumption))
      (Cert.RefAdamwIdeal.Value.run m' g')⟩

end Cert.Grad.Adamw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.RefUpDxIdeal
public import proofs.«01_k».proof.Proof.Gen.RefUpDxIdeal.Run
public import proofs.«01_k».proof.Proof.Gen.RefUpDxIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.RefUpDwIdeal
public import proofs.«01_k».proof.Proof.Gen.RefUpDwIdeal.Run
public import proofs.«01_k».proof.Proof.Gen.RefUpDwIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.RefDownDxIdeal
public import proofs.«01_k».proof.Proof.Gen.RefDownDxIdeal.Run
public import proofs.«01_k».proof.Proof.Gen.RefDownDxIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.RefDownDwIdeal
public import proofs.«01_k».proof.Proof.Gen.RefDownDwIdeal.Run
public import proofs.«01_k».proof.Proof.Gen.RefDownDwIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.RefInDxIdeal
public import proofs.«01_k».proof.Proof.Gen.RefInDxIdeal.Run
public import proofs.«01_k».proof.Proof.Gen.RefInDxIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.RefInDwIdeal
public import proofs.«01_k».proof.Proof.Gen.RefInDwIdeal.Run
public import proofs.«01_k».proof.Proof.Gen.RefInDwIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.RefOutDxIdeal
public import proofs.«01_k».proof.Proof.Gen.RefOutDxIdeal.Run
public import proofs.«01_k».proof.Proof.Gen.RefOutDxIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.RefOutDwIdeal
public import proofs.«01_k».proof.Proof.Gen.RefOutDwIdeal.Run
public import proofs.«01_k».proof.Proof.Gen.RefOutDwIdeal.Read
public import proofs.«01_k».proof.Proof.Gen.BrDx
public import proofs.«01_k».proof.Proof.Gen.BrDx.Skeleton
public import proofs.«01_k».proof.Proof.Gen.BrDx.Launch
public import proofs.«01_k».proof.Proof.Gen.BrDx.Points
public import proofs.«01_k».proof.Proof.Gen.BrDx.Frame
public import proofs.«01_k».proof.Proof.Gen.BrDxIdeal
public import proofs.«01_k».proof.Proof.Gen.BrDxIdeal.Skeleton
public import proofs.«01_k».proof.Proof.Gen.BrDxIdeal.Launch
public import proofs.«01_k».proof.Proof.Gen.BrDxIdeal.Points
public import proofs.«01_k».proof.Proof.Gen.BrDxIdeal.Frame
public import proofs.«01_k».proof.Proof.Gen.BrDxIdeal.Value
public import proofs.«01_k».proof.Proof.Gen.RefBrDxIdeal
public import proofs.«01_k».proof.Proof.Gen.RefBrDxIdeal.Run
public import proofs.«01_k».proof.Proof.Gen.RefBrDxIdeal.Read
public import proofs.«01_k».proof.Proof.Gen.BrDw
public import proofs.«01_k».proof.Proof.Gen.BrDw.Skeleton
public import proofs.«01_k».proof.Proof.Gen.BrDw.Launch
public import proofs.«01_k».proof.Proof.Gen.BrDw.Points
public import proofs.«01_k».proof.Proof.Gen.BrDw.Frame
public import proofs.«01_k».proof.Proof.Gen.BrDwIdeal
public import proofs.«01_k».proof.Proof.Gen.BrDwIdeal.Skeleton
public import proofs.«01_k».proof.Proof.Gen.BrDwIdeal.Launch
public import proofs.«01_k».proof.Proof.Gen.BrDwIdeal.Points
public import proofs.«01_k».proof.Proof.Gen.BrDwIdeal.Frame
public import proofs.«01_k».proof.Proof.Gen.BrDwIdeal.Value
public import proofs.«01_k».proof.Proof.Gen.RefBrDwIdeal
public import proofs.«01_k».proof.Proof.Gen.RefBrDwIdeal.Run
public import proofs.«01_k».proof.Proof.Gen.RefBrDwIdeal.Read
public import proofs.«01_k».proof.Proof.Gen.GluDx
public import proofs.«01_k».proof.Proof.Gen.GluDx.Skeleton
public import proofs.«01_k».proof.Proof.Gen.GluDx.Launch
public import proofs.«01_k».proof.Proof.Gen.GluDx.Points
public import proofs.«01_k».proof.Proof.Gen.GluDx.Frame
public import proofs.«01_k».proof.Proof.Gen.GluDxIdeal
public import proofs.«01_k».proof.Proof.Gen.GluDxIdeal.Skeleton
public import proofs.«01_k».proof.Proof.Gen.GluDxIdeal.Launch
public import proofs.«01_k».proof.Proof.Gen.GluDxIdeal.Points
public import proofs.«01_k».proof.Proof.Gen.GluDxIdeal.Frame
public import proofs.«01_k».proof.Proof.Gen.GluDxIdeal.Value
public import proofs.«01_k».proof.Proof.Gen.RefGluDxIdeal
public import proofs.«01_k».proof.Proof.Gen.RefGluDxIdeal.Run
public import proofs.«01_k».proof.Proof.Gen.RefGluDxIdeal.Read
public import proofs.«01_k».proof.Proof.Gen.GluDw
public import proofs.«01_k».proof.Proof.Gen.GluDw.Skeleton
public import proofs.«01_k».proof.Proof.Gen.GluDw.Launch
public import proofs.«01_k».proof.Proof.Gen.GluDw.Points
public import proofs.«01_k».proof.Proof.Gen.GluDw.Frame
public import proofs.«01_k».proof.Proof.Gen.GluDwIdeal
public import proofs.«01_k».proof.Proof.Gen.GluDwIdeal.Skeleton
public import proofs.«01_k».proof.Proof.Gen.GluDwIdeal.Launch
public import proofs.«01_k».proof.Proof.Gen.GluDwIdeal.Points
public import proofs.«01_k».proof.Proof.Gen.GluDwIdeal.Frame
public import proofs.«01_k».proof.Proof.Gen.GluDwIdeal.Value
public import proofs.«01_k».proof.Proof.Gen.RefGluDwIdeal
public import proofs.«01_k».proof.Proof.Gen.RefGluDwIdeal.Run
public import proofs.«01_k».proof.Proof.Gen.RefGluDwIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.RefDownIdeal
public import proofs.«01_k».proof.Proof.Gen.RefDownIdeal.Run
public import proofs.«01_k».proof.Proof.Gen.RefDownIdeal.Read
public import proofs.«01_k».proof.Proof.Gen.NormMid
public import proofs.«01_k».proof.Proof.Gen.NormMid.Skeleton
public import proofs.«01_k».proof.Proof.Gen.NormMid.Launch
public import proofs.«01_k».proof.Proof.Gen.NormMid.Points
public import proofs.«01_k».proof.Proof.Gen.NormMid.Frame
public import proofs.«01_k».proof.Proof.Gen.NormMidIdeal
public import proofs.«01_k».proof.Proof.Gen.NormMidIdeal.Skeleton
public import proofs.«01_k».proof.Proof.Gen.NormMidIdeal.Launch
public import proofs.«01_k».proof.Proof.Gen.NormMidIdeal.Points
public import proofs.«01_k».proof.Proof.Gen.NormMidIdeal.Frame
public import proofs.«01_k».proof.Proof.Gen.NormMidIdeal.Value
public import proofs.«01_k».proof.Proof.Gen.RefNormMidIdeal
public import proofs.«01_k».proof.Proof.Gen.RefNormMidIdeal.Run
public import proofs.«01_k».proof.Proof.Gen.RefNormMidIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.RefMergeIdeal
public import proofs.«01_k».proof.Proof.Gen.RefMergeIdeal.Run
public import proofs.«01_k».proof.Proof.Gen.RefMergeIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.RefGluIdeal
public import proofs.«01_k».proof.Proof.Gen.RefGluIdeal.Run
public import proofs.«01_k».proof.Proof.Gen.RefGluIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.RefMidIdeal
public import proofs.«01_k».proof.Proof.Gen.RefMidIdeal.Run
public import proofs.«01_k».proof.Proof.Gen.RefMidIdeal.Read
public import proofs.«01_k».proof.Proof.Gen.NormPre
public import proofs.«01_k».proof.Proof.Gen.NormPre.Skeleton
public import proofs.«01_k».proof.Proof.Gen.NormPre.Launch
public import proofs.«01_k».proof.Proof.Gen.NormPre.Points
public import proofs.«01_k».proof.Proof.Gen.NormPre.Frame
public import proofs.«01_k».proof.Proof.Gen.NormPreIdeal
public import proofs.«01_k».proof.Proof.Gen.NormPreIdeal.Skeleton
public import proofs.«01_k».proof.Proof.Gen.NormPreIdeal.Launch
public import proofs.«01_k».proof.Proof.Gen.NormPreIdeal.Points
public import proofs.«01_k».proof.Proof.Gen.NormPreIdeal.Frame
public import proofs.«01_k».proof.Proof.Gen.NormPreIdeal.Value
public import proofs.«01_k».proof.Proof.Gen.RefNormPreIdeal
public import proofs.«01_k».proof.Proof.Gen.RefNormPreIdeal.Run
public import proofs.«01_k».proof.Proof.Gen.RefNormPreIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.RefLossIdeal
public import proofs.«01_k».proof.Proof.Gen.RefLossIdeal.Run
public import proofs.«01_k».proof.Proof.Gen.RefLossIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.RefInProjIdeal
public import proofs.«01_k».proof.Proof.Gen.RefInProjIdeal.Run
public import proofs.«01_k».proof.Proof.Gen.RefInProjIdeal.Read
public import proofs.«01_k».proof.Proof.Gen.MidUp
public import proofs.«01_k».proof.Proof.Gen.MidUp.Skeleton
public import proofs.«01_k».proof.Proof.Gen.MidUp.Launch
public import proofs.«01_k».proof.Proof.Gen.MidUp.Points
public import proofs.«01_k».proof.Proof.Gen.MidUp.Frame
public import proofs.«01_k».proof.Proof.Gen.MidUpIdeal
public import proofs.«01_k».proof.Proof.Gen.MidUpIdeal.Skeleton
public import proofs.«01_k».proof.Proof.Gen.MidUpIdeal.Launch
public import proofs.«01_k».proof.Proof.Gen.MidUpIdeal.Points
public import proofs.«01_k».proof.Proof.Gen.MidUpIdeal.Frame
public import proofs.«01_k».proof.Proof.Gen.MidUpIdeal.Value
public import proofs.«01_k».proof.Proof.Gen.RefMidUpIdeal
public import proofs.«01_k».proof.Proof.Gen.RefMidUpIdeal.Run
public import proofs.«01_k».proof.Proof.Gen.RefMidUpIdeal.Read
public import proofs.«01_k».proof.Proof.Gen.GluUp
public import proofs.«01_k».proof.Proof.Gen.GluUp.Skeleton
public import proofs.«01_k».proof.Proof.Gen.GluUp.Launch
public import proofs.«01_k».proof.Proof.Gen.GluUp.Points
public import proofs.«01_k».proof.Proof.Gen.GluUp.Frame
public import proofs.«01_k».proof.Proof.Gen.GluUpIdeal
public import proofs.«01_k».proof.Proof.Gen.GluUpIdeal.Skeleton
public import proofs.«01_k».proof.Proof.Gen.GluUpIdeal.Launch
public import proofs.«01_k».proof.Proof.Gen.GluUpIdeal.Points
public import proofs.«01_k».proof.Proof.Gen.GluUpIdeal.Frame
public import proofs.«01_k».proof.Proof.Gen.GluUpIdeal.Value
public import proofs.«01_k».proof.Proof.Gen.RefGluUpIdeal
public import proofs.«01_k».proof.Proof.Gen.RefGluUpIdeal.Run
public import proofs.«01_k».proof.Proof.Gen.RefGluUpIdeal.Read
public import proofs.«01_k».proof.Proof.Gen.MergeUp
public import proofs.«01_k».proof.Proof.Gen.MergeUp.Skeleton
public import proofs.«01_k».proof.Proof.Gen.MergeUp.Launch
public import proofs.«01_k».proof.Proof.Gen.MergeUp.Points
public import proofs.«01_k».proof.Proof.Gen.MergeUp.Frame
public import proofs.«01_k».proof.Proof.Gen.MergeUpIdeal
public import proofs.«01_k».proof.Proof.Gen.MergeUpIdeal.Skeleton
public import proofs.«01_k».proof.Proof.Gen.MergeUpIdeal.Launch
public import proofs.«01_k».proof.Proof.Gen.MergeUpIdeal.Points
public import proofs.«01_k».proof.Proof.Gen.MergeUpIdeal.Frame
public import proofs.«01_k».proof.Proof.Gen.MergeUpIdeal.Value
public import proofs.«01_k».proof.Proof.Gen.RefMergeUpIdeal
public import proofs.«01_k».proof.Proof.Gen.RefMergeUpIdeal.Run
public import proofs.«01_k».proof.Proof.Gen.RefMergeUpIdeal.Read
public import proofs.«01_k».proof.Proof.Gen.ResidUp
public import proofs.«01_k».proof.Proof.Gen.ResidUp.Skeleton
public import proofs.«01_k».proof.Proof.Gen.ResidUp.Launch
public import proofs.«01_k».proof.Proof.Gen.ResidUp.Points
public import proofs.«01_k».proof.Proof.Gen.ResidUp.Frame
public import proofs.«01_k».proof.Proof.Gen.ResidUpIdeal
public import proofs.«01_k».proof.Proof.Gen.ResidUpIdeal.Skeleton
public import proofs.«01_k».proof.Proof.Gen.ResidUpIdeal.Launch
public import proofs.«01_k».proof.Proof.Gen.ResidUpIdeal.Points
public import proofs.«01_k».proof.Proof.Gen.ResidUpIdeal.Frame
public import proofs.«01_k».proof.Proof.Gen.ResidUpIdeal.Value
public import proofs.«01_k».proof.Proof.Gen.RefResidUpIdeal
public import proofs.«01_k».proof.Proof.Gen.RefResidUpIdeal.Run
public import proofs.«01_k».proof.Proof.Gen.RefResidUpIdeal.Read
public import proofs.«01_k».proof.Proof.Gen.ConvAct
public import proofs.«01_k».proof.Proof.Gen.ConvAct.Skeleton
public import proofs.«01_k».proof.Proof.Gen.ConvAct.Launch
public import proofs.«01_k».proof.Proof.Gen.ConvAct.Points
public import proofs.«01_k».proof.Proof.Gen.ConvAct.Frame
public import proofs.«01_k».proof.Proof.Gen.ConvActIdeal
public import proofs.«01_k».proof.Proof.Gen.ConvActIdeal.Skeleton
public import proofs.«01_k».proof.Proof.Gen.ConvActIdeal.Launch
public import proofs.«01_k».proof.Proof.Gen.ConvActIdeal.Points
public import proofs.«01_k».proof.Proof.Gen.ConvActIdeal.Frame
public import proofs.«01_k».proof.Proof.Gen.ConvActIdeal.Value
public import proofs.«01_k».proof.Proof.Gen.RefConvActIdeal
public import proofs.«01_k».proof.Proof.Gen.RefConvActIdeal.Run
public import proofs.«01_k».proof.Proof.Gen.RefConvActIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.AdamwFrame
public import proofs.«01_k».proof.Proof.AdamwIdealRun
public import proofs.«01_k».proof.Proof.Gen.RefAdamwIdeal
public import proofs.«01_k».proof.Proof.Gen.RefAdamwIdeal.Run
public import proofs.«01_k».proof.Proof.Gen.RefAdamwIdeal.Read
public import proofs.«01_k».proof.Proof.Conv
public import proofs.«01_k».proof.Proof.UpDx
public import proofs.«01_k».proof.Proof.UpDw
public import proofs.«01_k».proof.Proof.DownDx
public import proofs.«01_k».proof.Proof.DownDw
public import proofs.«01_k».proof.Proof.InDx
public import proofs.«01_k».proof.Proof.InDw
public import proofs.«01_k».proof.Proof.OutDx
public import proofs.«01_k».proof.Proof.OutDw
public import proofs.«01_k».proof.Proof.BrDx
public import proofs.«01_k».proof.Proof.BrDw
public import proofs.«01_k».proof.Proof.GluDx
public import proofs.«01_k».proof.Proof.GluDw
public import proofs.«01_k».proof.Proof.Down
public import proofs.«01_k».proof.Proof.NormMid
public import proofs.«01_k».proof.Proof.Merge
public import proofs.«01_k».proof.Proof.Glu
public import proofs.«01_k».proof.Proof.Mid
public import proofs.«01_k».proof.Proof.NormPre
public import proofs.«01_k».proof.Proof.Loss
public import proofs.«01_k».proof.Proof.InProj
public import proofs.«01_k».proof.Proof.MidUp
public import proofs.«01_k».proof.Proof.GluUp
public import proofs.«01_k».proof.Proof.MergeUp
public import proofs.«01_k».proof.Proof.ResidUp
public import proofs.«01_k».proof.Proof.ConvAct
public import proofs.«01_k».proof.Proof.Adamw

@[expose] public section

namespace Cert.Proof

open Idealize.ShloMosaic Idealize.SL.Sem

theorem claim : Cert.Claim := ⟨
  Cert.Kernel.Gen.facts,
  Cert.KernelIdeal.Gen.facts,
  Cert.ReferenceIdeal.Gen.facts,
  Cert.UpDx.Gen.facts,
  Cert.UpDxIdeal.Gen.facts,
  Cert.RefUpDxIdeal.Gen.facts,
  Cert.UpDw.Gen.facts,
  Cert.UpDwIdeal.Gen.facts,
  Cert.RefUpDwIdeal.Gen.facts,
  Cert.DownDx.Gen.facts,
  Cert.DownDxIdeal.Gen.facts,
  Cert.RefDownDxIdeal.Gen.facts,
  Cert.DownDw.Gen.facts,
  Cert.DownDwIdeal.Gen.facts,
  Cert.RefDownDwIdeal.Gen.facts,
  Cert.InDx.Gen.facts,
  Cert.InDxIdeal.Gen.facts,
  Cert.RefInDxIdeal.Gen.facts,
  Cert.InDw.Gen.facts,
  Cert.InDwIdeal.Gen.facts,
  Cert.RefInDwIdeal.Gen.facts,
  Cert.OutDx.Gen.facts,
  Cert.OutDxIdeal.Gen.facts,
  Cert.RefOutDxIdeal.Gen.facts,
  Cert.OutDw.Gen.facts,
  Cert.OutDwIdeal.Gen.facts,
  Cert.RefOutDwIdeal.Gen.facts,
  Cert.BrDx.Gen.facts,
  Cert.BrDxIdeal.Gen.facts,
  Cert.RefBrDxIdeal.Gen.facts,
  Cert.BrDw.Gen.facts,
  Cert.BrDwIdeal.Gen.facts,
  Cert.RefBrDwIdeal.Gen.facts,
  Cert.GluDx.Gen.facts,
  Cert.GluDxIdeal.Gen.facts,
  Cert.RefGluDxIdeal.Gen.facts,
  Cert.GluDw.Gen.facts,
  Cert.GluDwIdeal.Gen.facts,
  Cert.RefGluDwIdeal.Gen.facts,
  Cert.Down.Gen.facts,
  Cert.DownIdeal.Gen.facts,
  Cert.RefDownIdeal.Gen.facts,
  Cert.NormMid.Gen.facts,
  Cert.NormMidIdeal.Gen.facts,
  Cert.RefNormMidIdeal.Gen.facts,
  Cert.Merge.Gen.facts,
  Cert.MergeIdeal.Gen.facts,
  Cert.RefMergeIdeal.Gen.facts,
  Cert.Glu.Gen.facts,
  Cert.GluIdeal.Gen.facts,
  Cert.RefGluIdeal.Gen.facts,
  Cert.Mid.Gen.facts,
  Cert.MidIdeal.Gen.facts,
  Cert.RefMidIdeal.Gen.facts,
  Cert.NormPre.Gen.facts,
  Cert.NormPreIdeal.Gen.facts,
  Cert.RefNormPreIdeal.Gen.facts,
  Cert.Loss.Gen.facts,
  Cert.LossIdeal.Gen.facts,
  Cert.RefLossIdeal.Gen.facts,
  Cert.InProj.Gen.facts,
  Cert.InProjIdeal.Gen.facts,
  Cert.RefInProjIdeal.Gen.facts,
  Cert.MidUp.Gen.facts,
  Cert.MidUpIdeal.Gen.facts,
  Cert.RefMidUpIdeal.Gen.facts,
  Cert.GluUp.Gen.facts,
  Cert.GluUpIdeal.Gen.facts,
  Cert.RefGluUpIdeal.Gen.facts,
  Cert.MergeUp.Gen.facts,
  Cert.MergeUpIdeal.Gen.facts,
  Cert.RefMergeUpIdeal.Gen.facts,
  Cert.ResidUp.Gen.facts,
  Cert.ResidUpIdeal.Gen.facts,
  Cert.RefResidUpIdeal.Gen.facts,
  Cert.ConvAct.Gen.facts,
  Cert.ConvActIdeal.Gen.facts,
  Cert.RefConvActIdeal.Gen.facts,
  Cert.Adamw.Gen.facts,
  Cert.AdamwIdeal.Gen.facts,
  Cert.RefAdamwIdeal.Gen.facts,
  fun m ρ _ => Cert.Kernel.Gen.frame m ρ,
  fun m ρ _ => Cert.KernelIdeal.Gen.frame m ρ,
  fun m ρ _ => (θ_run _ _ _).mono (fun r h => ⟨fun c => (h c).2.2.2.2.2, sem_eq_zero_of_no_sems (by decide) r.2⟩)
    (Cert.ReferenceIdeal.Value.run m ρ),
  fun m ρ _ => Cert.UpDx.Gen.frame m ρ,
  fun m ρ _ => Cert.UpDxIdeal.Gen.frame m ρ,
  fun m ρ _ => (θ_run _ _ _).mono (fun r h => ⟨fun c => (h c).2, sem_eq_zero_of_no_sems (by decide) r.2⟩)
    (Cert.RefUpDxIdeal.Value.run m ρ),
  fun m ρ _ => Cert.UpDw.Gen.frame m ρ,
  fun m ρ _ => Cert.UpDwIdeal.Gen.frame m ρ,
  fun m ρ _ => (θ_run _ _ _).mono (fun r h => ⟨fun c => (h c).2, sem_eq_zero_of_no_sems (by decide) r.2⟩)
    (Cert.RefUpDwIdeal.Value.run m ρ),
  fun m ρ _ => Cert.DownDx.Gen.frame m ρ,
  fun m ρ _ => Cert.DownDxIdeal.Gen.frame m ρ,
  fun m ρ _ => (θ_run _ _ _).mono (fun r h => ⟨fun c => (h c).2, sem_eq_zero_of_no_sems (by decide) r.2⟩)
    (Cert.RefDownDxIdeal.Value.run m ρ),
  fun m ρ _ => Cert.DownDw.Gen.frame m ρ,
  fun m ρ _ => Cert.DownDwIdeal.Gen.frame m ρ,
  fun m ρ _ => (θ_run _ _ _).mono (fun r h => ⟨fun c => (h c).2, sem_eq_zero_of_no_sems (by decide) r.2⟩)
    (Cert.RefDownDwIdeal.Value.run m ρ),
  fun m ρ _ => Cert.InDx.Gen.frame m ρ,
  fun m ρ _ => Cert.InDxIdeal.Gen.frame m ρ,
  fun m ρ _ => (θ_run _ _ _).mono (fun r h => ⟨fun c => (h c).2, sem_eq_zero_of_no_sems (by decide) r.2⟩)
    (Cert.RefInDxIdeal.Value.run m ρ),
  fun m ρ _ => Cert.InDw.Gen.frame m ρ,
  fun m ρ _ => Cert.InDwIdeal.Gen.frame m ρ,
  fun m ρ _ => (θ_run _ _ _).mono (fun r h => ⟨fun c => (h c).2, sem_eq_zero_of_no_sems (by decide) r.2⟩)
    (Cert.RefInDwIdeal.Value.run m ρ),
  fun m ρ _ => Cert.OutDx.Gen.frame m ρ,
  fun m ρ _ => Cert.OutDxIdeal.Gen.frame m ρ,
  fun m ρ _ => (θ_run _ _ _).mono (fun r h => ⟨fun c => (h c).2, sem_eq_zero_of_no_sems (by decide) r.2⟩)
    (Cert.RefOutDxIdeal.Value.run m ρ),
  fun m ρ _ => Cert.OutDw.Gen.frame m ρ,
  fun m ρ _ => Cert.OutDwIdeal.Gen.frame m ρ,
  fun m ρ _ => (θ_run _ _ _).mono (fun r h => ⟨fun c => (h c).2, sem_eq_zero_of_no_sems (by decide) r.2⟩)
    (Cert.RefOutDwIdeal.Value.run m ρ),
  fun m ρ _ => Cert.BrDx.Gen.frame m ρ,
  fun m ρ _ => Cert.BrDxIdeal.Gen.frame m ρ,
  fun m ρ _ => (θ_run _ _ _).mono (fun r h => ⟨fun c => (h c).2, sem_eq_zero_of_no_sems (by decide) r.2⟩)
    (Cert.RefBrDxIdeal.Value.run m ρ),
  fun m ρ _ => Cert.BrDw.Gen.frame m ρ,
  fun m ρ _ => Cert.BrDwIdeal.Gen.frame m ρ,
  fun m ρ _ => (θ_run _ _ _).mono (fun r h => ⟨fun c => (h c).2, sem_eq_zero_of_no_sems (by decide) r.2⟩)
    (Cert.RefBrDwIdeal.Value.run m ρ),
  fun m ρ _ => Cert.GluDx.Gen.frame m ρ,
  fun m ρ _ => Cert.GluDxIdeal.Gen.frame m ρ,
  fun m ρ _ => (θ_run _ _ _).mono (fun r h => ⟨fun c => (h c).2, sem_eq_zero_of_no_sems (by decide) r.2⟩)
    (Cert.RefGluDxIdeal.Value.run m ρ),
  fun m ρ _ => Cert.GluDw.Gen.frame m ρ,
  fun m ρ _ => Cert.GluDwIdeal.Gen.frame m ρ,
  fun m ρ _ => (θ_run _ _ _).mono (fun r h => ⟨fun c => (h c).2, sem_eq_zero_of_no_sems (by decide) r.2⟩)
    (Cert.RefGluDwIdeal.Value.run m ρ),
  fun m ρ _ => Cert.Down.Gen.frame m ρ,
  fun m ρ _ => Cert.DownIdeal.Gen.frame m ρ,
  fun m ρ _ => (θ_run _ _ _).mono (fun r h => ⟨fun c => (h c).2, sem_eq_zero_of_no_sems (by decide) r.2⟩)
    (Cert.RefDownIdeal.Value.run m ρ),
  fun m ρ _ => Cert.NormMid.Gen.frame m ρ,
  fun m ρ _ => Cert.NormMidIdeal.Gen.frame m ρ,
  fun m ρ _ => (θ_run _ _ _).mono (fun r h => ⟨fun c => (h c).2.2.2.2, sem_eq_zero_of_no_sems (by decide) r.2⟩)
    (Cert.RefNormMidIdeal.Value.run m ρ),
  fun m ρ _ => Cert.Merge.Gen.frame m ρ,
  fun m ρ _ => Cert.MergeIdeal.Gen.frame m ρ,
  fun m ρ _ => (θ_run _ _ _).mono (fun r h => ⟨fun c => (h c).2.2.2.2, sem_eq_zero_of_no_sems (by decide) r.2⟩)
    (Cert.RefMergeIdeal.Value.run m ρ),
  fun m ρ _ => Cert.Glu.Gen.frame m ρ,
  fun m ρ _ => Cert.GluIdeal.Gen.frame m ρ,
  fun m ρ _ => (θ_run _ _ _).mono (fun r h => ⟨fun c => (h c).2.2.2, sem_eq_zero_of_no_sems (by decide) r.2⟩)
    (Cert.RefGluIdeal.Value.run m ρ),
  fun m ρ _ => Cert.Mid.Gen.frame m ρ,
  fun m ρ _ => Cert.MidIdeal.Gen.frame m ρ,
  fun m ρ _ => (θ_run _ _ _).mono (fun r h => ⟨fun c => (h c).2.2.2, sem_eq_zero_of_no_sems (by decide) r.2⟩)
    (Cert.RefMidIdeal.Value.run m ρ),
  fun m ρ _ => Cert.NormPre.Gen.frame m ρ,
  fun m ρ _ => Cert.NormPreIdeal.Gen.frame m ρ,
  fun m ρ _ => (θ_run _ _ _).mono (fun r h => ⟨fun c => (h c).2.2, sem_eq_zero_of_no_sems (by decide) r.2⟩)
    (Cert.RefNormPreIdeal.Value.run m ρ),
  fun m ρ _ => Cert.Loss.Gen.frame m ρ,
  fun m ρ _ => Cert.LossIdeal.Gen.frame m ρ,
  fun m ρ _ => (θ_run _ _ _).mono (fun r h => ⟨fun c => (h c).2.2.2.2, sem_eq_zero_of_no_sems (by decide) r.2⟩)
    (Cert.RefLossIdeal.Value.run m ρ),
  fun m ρ _ => Cert.InProj.Gen.frame m ρ,
  fun m ρ _ => Cert.InProjIdeal.Gen.frame m ρ,
  fun m ρ _ => (θ_run _ _ _).mono (fun r h => ⟨fun c => (h c).2.2.2.2, sem_eq_zero_of_no_sems (by decide) r.2⟩)
    (Cert.RefInProjIdeal.Value.run m ρ),
  fun m ρ _ => Cert.MidUp.Gen.frame m ρ,
  fun m ρ _ => Cert.MidUpIdeal.Gen.frame m ρ,
  fun m ρ _ => (θ_run _ _ _).mono (fun r h => ⟨fun c => (h c).2.2.2, sem_eq_zero_of_no_sems (by decide) r.2⟩)
    (Cert.RefMidUpIdeal.Value.run m ρ),
  fun m ρ _ => Cert.GluUp.Gen.frame m ρ,
  fun m ρ _ => Cert.GluUpIdeal.Gen.frame m ρ,
  fun m ρ _ => (θ_run _ _ _).mono (fun r h => ⟨fun c => (h c).2.2, sem_eq_zero_of_no_sems (by decide) r.2⟩)
    (Cert.RefGluUpIdeal.Value.run m ρ),
  fun m ρ _ => Cert.MergeUp.Gen.frame m ρ,
  fun m ρ _ => Cert.MergeUpIdeal.Gen.frame m ρ,
  fun m ρ _ => (θ_run _ _ _).mono (fun r h => ⟨fun c => (h c).2.2, sem_eq_zero_of_no_sems (by decide) r.2⟩)
    (Cert.RefMergeUpIdeal.Value.run m ρ),
  fun m ρ _ => Cert.ResidUp.Gen.frame m ρ,
  fun m ρ _ => Cert.ResidUpIdeal.Gen.frame m ρ,
  fun m ρ _ => (θ_run _ _ _).mono (fun r h => ⟨fun c => (h c).2.2.2, sem_eq_zero_of_no_sems (by decide) r.2⟩)
    (Cert.RefResidUpIdeal.Value.run m ρ),
  fun m ρ _ => Cert.ConvAct.Gen.frame m ρ,
  fun m ρ _ => Cert.ConvActIdeal.Gen.frame m ρ,
  fun m ρ _ => (θ_run _ _ _).mono (fun r h => ⟨fun c => (h c).2, sem_eq_zero_of_no_sems (by decide) r.2⟩)
    (Cert.RefConvActIdeal.Value.run m ρ),
  Cert.AdamwIdeal.Gen.frame_kernel,
  Cert.AdamwIdeal.Gen.frame_ideal,
  fun m ρ _ => (θ_run _ _ _).mono (fun r h => ⟨fun c => (h c).2.2.2.2.2.2.2.2.2.2.2.2.2.2.2.2.2.2.2.2.2.2.2.2, sem_eq_zero_of_no_sems (by decide) r.2⟩)
    (Cert.RefAdamwIdeal.Value.run m ρ),
  trivial,
  Cert.Grad.Conv.algebraic,
  trivial,
  Cert.Grad.UpDx.algebraic,
  trivial,
  Cert.Grad.UpDw.algebraic,
  trivial,
  Cert.Grad.DownDx.algebraic,
  trivial,
  Cert.Grad.DownDw.algebraic,
  trivial,
  Cert.Grad.InDx.algebraic,
  trivial,
  Cert.Grad.InDw.algebraic,
  trivial,
  Cert.Grad.OutDx.algebraic,
  trivial,
  Cert.Grad.OutDw.algebraic,
  trivial,
  Cert.Grad.BrDx.algebraic,
  trivial,
  Cert.Grad.BrDw.algebraic,
  trivial,
  Cert.Grad.GluDx.algebraic,
  trivial,
  Cert.Grad.GluDw.algebraic,
  trivial,
  Cert.Grad.Down.algebraic,
  trivial,
  Cert.Grad.NormMid.algebraic,
  trivial,
  Cert.Grad.Merge.algebraic,
  trivial,
  Cert.Grad.Glu.algebraic,
  trivial,
  Cert.Grad.Mid.algebraic,
  trivial,
  Cert.Grad.NormPre.algebraic,
  trivial,
  Cert.Grad.Loss.algebraic,
  trivial,
  Cert.Grad.InProj.algebraic,
  trivial,
  Cert.Grad.MidUp.algebraic,
  trivial,
  Cert.Grad.GluUp.algebraic,
  trivial,
  Cert.Grad.MergeUp.algebraic,
  trivial,
  Cert.Grad.ResidUp.algebraic,
  trivial,
  Cert.Grad.ConvAct.algebraic,
  trivial,
  Cert.Grad.Adamw.algebraic⟩

end Cert.Proof
